-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Stream (m : (ℓ : Loc Cert.Stream.nD Cert.Stream.τ Cert.Stream.sig) → Buf (Elt Bits) ℓ) : Prop :=
  True

def Pre_StreamIdeal (m : (ℓ : Loc Cert.StreamIdeal.nD Cert.StreamIdeal.τ Cert.StreamIdeal.sig) → Buf (Elt Ideal) ℓ) : Prop :=
  True

def Pre_StreamRefIdeal (m : (ℓ : Loc Cert.StreamRefIdeal.nD Cert.StreamRefIdeal.τ Cert.StreamRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Stream [hStream : Cert.Stream.Facts] : Prop :=
  ∀ (m : (ℓ : Loc Cert.Stream.nD Cert.Stream.τ Cert.Stream.sig) → Buf (Elt Bits) ℓ) (g : Dev Cert.Stream.nD → PrngReg), Pre_Stream m →
    θ_run (Cert.Stream.defs (F := Bits)) (onTc (τ := Cert.Stream.τ) (Cert.Stream.main (F := Bits))) ⟨m, fun _ => 0, g⟩ (fun r => (∀ c : Dev Cert.Stream.nD,
      r.2.mem ((c.tc : Thread Cert.Stream.nD Cert.Stream.τ).loc Cert.Stream.main_arg0) = m ((c.tc : Thread Cert.Stream.nD Cert.Stream.τ).loc Cert.Stream.main_arg0)
      ∧ r.2.mem ((c.tc : Thread Cert.Stream.nD Cert.Stream.τ).loc Cert.Stream.main_arg1) = m ((c.tc : Thread Cert.Stream.nD Cert.Stream.τ).loc Cert.Stream.main_arg1)
      ∧ r.2.mem ((c.tc : Thread Cert.Stream.nD Cert.Stream.τ).loc Cert.Stream.main_arg2) = m ((c.tc : Thread Cert.Stream.nD Cert.Stream.τ).loc Cert.Stream.main_arg2)
      ∧ r.2.mem ((c.tc : Thread Cert.Stream.nD Cert.Stream.τ).loc Cert.Stream.main_arg3) = m ((c.tc : Thread Cert.Stream.nD Cert.Stream.τ).loc Cert.Stream.main_arg3)
      ∧ r.2.mem ((c.tc : Thread Cert.Stream.nD Cert.Stream.τ).loc Cert.Stream.main_arg4) = m ((c.tc : Thread Cert.Stream.nD Cert.Stream.τ).loc Cert.Stream.main_arg4))
      ∧ r.2.sem = fun _ => 0)

def quiescent_StreamIdeal [hStreamIdeal : Cert.StreamIdeal.Facts] : Prop :=
  ∀ (m : (ℓ : Loc Cert.StreamIdeal.nD Cert.StreamIdeal.τ Cert.StreamIdeal.sig) → Buf (Elt Ideal) ℓ) (g : Dev Cert.StreamIdeal.nD → PrngReg), Pre_StreamIdeal m →
    θ_run (Cert.StreamIdeal.defs (F := Ideal)) (onTc (τ := Cert.StreamIdeal.τ) (Cert.StreamIdeal.main (F := Ideal))) ⟨m, fun _ => 0, g⟩ (fun r => (∀ c : Dev Cert.StreamIdeal.nD,
      r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
      ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
      ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
      ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
      ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4))
      ∧ r.2.sem = fun _ => 0)

def quiescent_StreamRefIdeal [hStreamRefIdeal : Cert.StreamRefIdeal.Facts] : Prop :=
  ∀ (m : (ℓ : Loc Cert.StreamRefIdeal.nD Cert.StreamRefIdeal.τ Cert.StreamRefIdeal.sig) → Buf (Elt Ideal) ℓ) (g : Dev Cert.StreamRefIdeal.nD → PrngReg), Pre_StreamRefIdeal m →
    θ_run (Cert.StreamRefIdeal.defs (F := Ideal)) (onTc (τ := Cert.StreamRefIdeal.τ) (Cert.StreamRefIdeal.main (F := Ideal))) ⟨m, fun _ => 0, g⟩ (fun r => (∀ c : Dev Cert.StreamRefIdeal.nD,
      r.2.mem ((c.tc : Thread Cert.StreamRefIdeal.nD Cert.StreamRefIdeal.τ).loc Cert.StreamRefIdeal.main_arg0) = m ((c.tc : Thread Cert.StreamRefIdeal.nD Cert.StreamRefIdeal.τ).loc Cert.StreamRefIdeal.main_arg0)
      ∧ r.2.mem ((c.tc : Thread Cert.StreamRefIdeal.nD Cert.StreamRefIdeal.τ).loc Cert.StreamRefIdeal.main_arg1) = m ((c.tc : Thread Cert.StreamRefIdeal.nD Cert.StreamRefIdeal.τ).loc Cert.StreamRefIdeal.main_arg1)
      ∧ r.2.mem ((c.tc : Thread Cert.StreamRefIdeal.nD Cert.StreamRefIdeal.τ).loc Cert.StreamRefIdeal.main_arg2) = m ((c.tc : Thread Cert.StreamRefIdeal.nD Cert.StreamRefIdeal.τ).loc Cert.StreamRefIdeal.main_arg2)
      ∧ r.2.mem ((c.tc : Thread Cert.StreamRefIdeal.nD Cert.StreamRefIdeal.τ).loc Cert.StreamRefIdeal.main_arg3) = m ((c.tc : Thread Cert.StreamRefIdeal.nD Cert.StreamRefIdeal.τ).loc Cert.StreamRefIdeal.main_arg3)
      ∧ r.2.mem ((c.tc : Thread Cert.StreamRefIdeal.nD Cert.StreamRefIdeal.τ).loc Cert.StreamRefIdeal.main_arg4) = m ((c.tc : Thread Cert.StreamRefIdeal.nD Cert.StreamRefIdeal.τ).loc Cert.StreamRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v39) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Sample_SampleIdeal : Prop :=
  True

def algebraic_SampleIdeal_SampleRefIdeal_on_token_rows [hSampleIdeal : Cert.SampleIdeal.Facts] [hSampleRefIdeal : Cert.SampleRefIdeal.Facts] [hOn_token_rows : Cert.On_token_rows.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)) →
    ∃ (v0 : (c : Dev Cert.SampleIdeal.nD) → Buf (Elt Ideal) ((c.tc : Thread Cert.SampleIdeal.nD Cert.SampleIdeal.τ).loc Cert.SampleIdeal.main_v23_0)) (v1 : (c : Dev Cert.SampleIdeal.nD) → Buf (Elt Ideal) ((c.tc : Thread Cert.SampleIdeal.nD Cert.SampleIdeal.τ).loc Cert.SampleIdeal.main_v23_1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          (∀ i : (⟨2, ![1024, 1024]⟩ : Shape).Idx, (Cert.On_token_rows.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8))).1 i = 1#1 → r.2.mem ((c.tc : Thread Cert.SampleIdeal.nD Cert.SampleIdeal.τ).loc Cert.SampleIdeal.main_v23_0) i = v0 c i)
          ∧ (∀ i : (⟨4, ![128, 4, 128, 256]⟩ : Shape).Idx, (Cert.On_token_rows.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8))).2 i = 1#1 → r.2.mem ((c.tc : Thread Cert.SampleIdeal.nD Cert.SampleIdeal.τ).loc Cert.SampleIdeal.main_v23_1) i = v1 c i)
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          (∀ i : (⟨2, ![1024, 1024]⟩ : Shape).Idx, (Cert.On_token_rows.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8))).1 i = 1#1 → r.2.mem ((c.tc : Thread Cert.SampleRefIdeal.nD Cert.SampleRefIdeal.τ).loc Cert.SampleRefIdeal.main_v104) i = v0 c i)
          ∧ (∀ i : (⟨4, ![128, 4, 128, 256]⟩ : Shape).Idx, (Cert.On_token_rows.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8))).2 i = 1#1 → r.2.mem ((c.tc : Thread Cert.SampleRefIdeal.nD Cert.SampleRefIdeal.τ).loc Cert.SampleRefIdeal.main_v51) i = v1 c i)
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v12_0)) (v1 : (c : Dev Cert.ConvIdeal.nD) → Buf (Elt Ideal) ((c.tc : Thread Cert.ConvIdeal.nD Cert.ConvIdeal.τ).loc Cert.ConvIdeal.main_v12_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v12_0) = v0 c
          ∧ r.2.mem ((c.tc : Thread Cert.ConvIdeal.nD Cert.ConvIdeal.τ).loc Cert.ConvIdeal.main_v12_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v63) = v0 c
          ∧ r.2.mem ((c.tc : Thread Cert.ConvRefIdeal.nD Cert.ConvRefIdeal.τ).loc Cert.ConvRefIdeal.main_v64) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Stream_StreamIdeal : Prop :=
  True

def algebraic_StreamIdeal_StreamRefIdeal [hStreamIdeal : Cert.StreamIdeal.Facts] [hStreamRefIdeal : Cert.StreamRefIdeal.Facts] : Prop :=
  ∀ (m : (ℓ : Loc Cert.StreamIdeal.nD Cert.StreamIdeal.τ Cert.StreamIdeal.sig) → Buf (Elt Ideal) ℓ) (g : Dev Cert.StreamIdeal.nD → PrngReg)
    (m' : (ℓ : Loc Cert.StreamRefIdeal.nD Cert.StreamRefIdeal.τ Cert.StreamRefIdeal.sig) → Buf (Elt Ideal) ℓ) (g' : Dev Cert.StreamRefIdeal.nD → PrngReg), Pre_StreamIdeal m →
    (∀ c : Dev Cert.StreamIdeal.nD,
      m' ((c.tc : Thread Cert.StreamRefIdeal.nD Cert.StreamRefIdeal.τ).loc Cert.StreamRefIdeal.main_arg0) = m ((c.tc : Thread Cert.StreamIdeal.nD Cert.StreamIdeal.τ).loc Cert.StreamIdeal.main_arg0)
      ∧ m' ((c.tc : Thread Cert.StreamRefIdeal.nD Cert.StreamRefIdeal.τ).loc Cert.StreamRefIdeal.main_arg1) = m ((c.tc : Thread Cert.StreamIdeal.nD Cert.StreamIdeal.τ).loc Cert.StreamIdeal.main_arg1)
      ∧ m' ((c.tc : Thread Cert.StreamRefIdeal.nD Cert.StreamRefIdeal.τ).loc Cert.StreamRefIdeal.main_arg2) = m ((c.tc : Thread Cert.StreamIdeal.nD Cert.StreamIdeal.τ).loc Cert.StreamIdeal.main_arg2)
      ∧ m' ((c.tc : Thread Cert.StreamRefIdeal.nD Cert.StreamRefIdeal.τ).loc Cert.StreamRefIdeal.main_arg3) = m ((c.tc : Thread Cert.StreamIdeal.nD Cert.StreamIdeal.τ).loc Cert.StreamIdeal.main_arg3)
      ∧ m' ((c.tc : Thread Cert.StreamRefIdeal.nD Cert.StreamRefIdeal.τ).loc Cert.StreamRefIdeal.main_arg4) = m ((c.tc : Thread Cert.StreamIdeal.nD Cert.StreamIdeal.τ).loc Cert.StreamIdeal.main_arg4)) →
    ∃ (v0 : (c : Dev Cert.StreamIdeal.nD) → Buf (Elt Ideal) ((c.tc : Thread Cert.StreamIdeal.nD Cert.StreamIdeal.τ).loc Cert.StreamIdeal.main_v5)),
      θ_run (Cert.StreamIdeal.defs (F := Ideal)) (onTc (τ := Cert.StreamIdeal.τ) (Cert.StreamIdeal.main (F := Ideal))) ⟨m, fun _ => 0, g⟩ (fun r => ∀ c : Dev Cert.StreamIdeal.nD,
          r.2.mem ((c.tc : Thread Cert.StreamIdeal.nD Cert.StreamIdeal.τ).loc Cert.StreamIdeal.main_v5) = v0 c
          ∧ r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
          ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
          ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
          ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
          ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4))
      ∧ θ_run (Cert.StreamRefIdeal.defs (F := Ideal)) (onTc (τ := Cert.StreamRefIdeal.τ) (Cert.StreamRefIdeal.main (F := Ideal))) ⟨m', fun _ => 0, g'⟩ (fun r => ∀ c : Dev Cert.StreamRefIdeal.nD,
          r.2.mem ((c.tc : Thread Cert.StreamRefIdeal.nD Cert.StreamRefIdeal.τ).loc Cert.StreamRefIdeal.main_v39) = v0 c
          ∧ r.2.mem ((c.tc : Thread Cert.StreamRefIdeal.nD Cert.StreamRefIdeal.τ).loc Cert.StreamRefIdeal.main_arg0) = m' ((c.tc : Thread Cert.StreamRefIdeal.nD Cert.StreamRefIdeal.τ).loc Cert.StreamRefIdeal.main_arg0)
          ∧ r.2.mem ((c.tc : Thread Cert.StreamRefIdeal.nD Cert.StreamRefIdeal.τ).loc Cert.StreamRefIdeal.main_arg1) = m' ((c.tc : Thread Cert.StreamRefIdeal.nD Cert.StreamRefIdeal.τ).loc Cert.StreamRefIdeal.main_arg1)
          ∧ r.2.mem ((c.tc : Thread Cert.StreamRefIdeal.nD Cert.StreamRefIdeal.τ).loc Cert.StreamRefIdeal.main_arg2) = m' ((c.tc : Thread Cert.StreamRefIdeal.nD Cert.StreamRefIdeal.τ).loc Cert.StreamRefIdeal.main_arg2)
          ∧ r.2.mem ((c.tc : Thread Cert.StreamRefIdeal.nD Cert.StreamRefIdeal.τ).loc Cert.StreamRefIdeal.main_arg3) = m' ((c.tc : Thread Cert.StreamRefIdeal.nD Cert.StreamRefIdeal.τ).loc Cert.StreamRefIdeal.main_arg3)
          ∧ r.2.mem ((c.tc : Thread Cert.StreamRefIdeal.nD Cert.StreamRefIdeal.τ).loc Cert.StreamRefIdeal.main_arg4) = m' ((c.tc : Thread Cert.StreamRefIdeal.nD Cert.StreamRefIdeal.τ).loc Cert.StreamRefIdeal.main_arg4))

def preserves_Tail_TailIdeal : Prop :=
  True

def algebraic_TailIdeal_TailRefIdeal_on_state_rows [hTailIdeal : Cert.TailIdeal.Facts] [hTailRefIdeal : Cert.TailRefIdeal.Facts] [hOn_state_rows : Cert.On_state_rows.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)) →
    ∃ (v0 : (c : Dev Cert.TailIdeal.nD) → Buf (Elt Ideal) ((c.tc : Thread Cert.TailIdeal.nD Cert.TailIdeal.τ).loc Cert.TailIdeal.main_v18_0)) (v1 : (c : Dev Cert.TailIdeal.nD) → Buf (Elt Ideal) ((c.tc : Thread Cert.TailIdeal.nD Cert.TailIdeal.τ).loc Cert.TailIdeal.main_v18_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          (∀ i : (⟨2, ![512, 1024]⟩ : Shape).Idx, (Cert.On_state_rows.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6))).1 i = 1#1 → r.2.mem ((c.tc : Thread Cert.TailIdeal.nD Cert.TailIdeal.τ).loc Cert.TailIdeal.main_v18_0) i = v0 c i)
          ∧ (∀ i : (⟨2, ![512, 1024]⟩ : Shape).Idx, (Cert.On_state_rows.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6))).2 i = 1#1 → r.2.mem ((c.tc : Thread Cert.TailIdeal.nD Cert.TailIdeal.τ).loc Cert.TailIdeal.main_v18_1) i = v1 c i)
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          (∀ i : (⟨2, ![512, 1024]⟩ : Shape).Idx, (Cert.On_state_rows.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6))).1 i = 1#1 → r.2.mem ((c.tc : Thread Cert.TailRefIdeal.nD Cert.TailRefIdeal.τ).loc Cert.TailRefIdeal.main_v65) i = v0 c i)
          ∧ (∀ i : (⟨2, ![512, 1024]⟩ : Shape).Idx, (Cert.On_state_rows.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6))).2 i = 1#1 → r.2.mem ((c.tc : Thread Cert.TailRefIdeal.nD Cert.TailRefIdeal.τ).loc Cert.TailRefIdeal.main_v66) i = v1 c i)
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6))

def Claim : Prop :=
  ∃ (hMlp : Cert.Mlp.Facts) (hMlpIdeal : Cert.MlpIdeal.Facts) (hMlpRefIdeal : Cert.MlpRefIdeal.Facts) (hSample : Cert.Sample.Facts) (hSampleIdeal : Cert.SampleIdeal.Facts) (hSampleRefIdeal : Cert.SampleRefIdeal.Facts) (hConv : Cert.Conv.Facts) (hConvIdeal : Cert.ConvIdeal.Facts) (hConvRefIdeal : Cert.ConvRefIdeal.Facts) (hStream : Cert.Stream.Facts) (hStreamIdeal : Cert.StreamIdeal.Facts) (hStreamRefIdeal : Cert.StreamRefIdeal.Facts) (hTail : Cert.Tail.Facts) (hTailIdeal : Cert.TailIdeal.Facts) (hTailRefIdeal : Cert.TailRefIdeal.Facts) (hOn_token_rows : Cert.On_token_rows.Facts) (hOn_state_rows : Cert.On_state_rows.Facts),
    quiescent_Mlp (hMlp := hMlp)
    ∧ quiescent_MlpIdeal (hMlpIdeal := hMlpIdeal)
    ∧ quiescent_MlpRefIdeal (hMlpRefIdeal := hMlpRefIdeal)
    ∧ quiescent_Sample (hSample := hSample)
    ∧ quiescent_SampleIdeal (hSampleIdeal := hSampleIdeal)
    ∧ quiescent_SampleRefIdeal (hSampleRefIdeal := hSampleRefIdeal)
    ∧ quiescent_Conv (hConv := hConv)
    ∧ quiescent_ConvIdeal (hConvIdeal := hConvIdeal)
    ∧ quiescent_ConvRefIdeal (hConvRefIdeal := hConvRefIdeal)
    ∧ quiescent_Stream (hStream := hStream)
    ∧ quiescent_StreamIdeal (hStreamIdeal := hStreamIdeal)
    ∧ quiescent_StreamRefIdeal (hStreamRefIdeal := hStreamRefIdeal)
    ∧ quiescent_Tail (hTail := hTail)
    ∧ quiescent_TailIdeal (hTailIdeal := hTailIdeal)
    ∧ quiescent_TailRefIdeal (hTailRefIdeal := hTailRefIdeal)
    ∧ preserves_Mlp_MlpIdeal
    ∧ algebraic_MlpIdeal_MlpRefIdeal (hMlpIdeal := hMlpIdeal) (hMlpRefIdeal := hMlpRefIdeal)
    ∧ preserves_Sample_SampleIdeal
    ∧ algebraic_SampleIdeal_SampleRefIdeal_on_token_rows (hSampleIdeal := hSampleIdeal) (hSampleRefIdeal := hSampleRefIdeal) (hOn_token_rows := hOn_token_rows)
    ∧ preserves_Conv_ConvIdeal
    ∧ algebraic_ConvIdeal_ConvRefIdeal (hConvIdeal := hConvIdeal) (hConvRefIdeal := hConvRefIdeal)
    ∧ preserves_Stream_StreamIdeal
    ∧ algebraic_StreamIdeal_StreamRefIdeal (hStreamIdeal := hStreamIdeal) (hStreamRefIdeal := hStreamRefIdeal)
    ∧ preserves_Tail_TailIdeal
    ∧ algebraic_TailIdeal_TailRefIdeal_on_state_rows (hTailIdeal := hTailIdeal) (hTailRefIdeal := hTailRefIdeal) (hOn_state_rows := hOn_state_rows)
-- ==== On_state_rows.lean ====
abbrev S128x4x1024 : Shape := ⟨3, ![128, 4, 1024]⟩
abbrev S1x128x2x1024 : Shape := ⟨4, ![1, 128, 2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024 : Shape := ⟨2, ![2, 1024]⟩
abbrev S512x1024 : Shape := ⟨2, ![512, 1024]⟩
abbrev S_ : Shape := ⟨0, ![]⟩

class Facts : Prop where
  bcast_S_S512x1024 : S_.BroadcastsInDim S512x1024 (![] : Fin 0 → Fin S512x1024.rank)

variable [Facts]

def fn {F : FTy → Type} [FloatOps F] (main_arg0 : FVec F S128x4x1024 .f32) (main_arg1 : FVec F S1x128x2x1024 .f32) (main_arg2 : FVec F S1x1024x3072 .f32) (main_arg3 : FVec F S1x3x1024 .f32) (main_arg4 : FVec F S1x1024x1024 .f32) (main_arg5 : FVec F S2x1024 .f32) (main_arg6 : FVec F S2x1024 .f32) : IVec S512x1024 1 × IVec S512x1024 1 :=
  let main_v0 : IVec S512x1024 32 := iotaInDim S512x1024 32 0
  let main_c : IVec S_ 1 := constantI S_ 1 1#1
  let main_v1 : IVec S512x1024 1 := broadcastInDim S512x1024 ![] bcast_S_S512x1024 main_c
  let main_c_0 : IVec S_ 32 := constantI S_ 32 4#32
  let main_v2 : IVec S512x1024 32 := broadcastInDim S512x1024 ![] bcast_S_S512x1024 main_c_0
  let main_v3 : IVec S512x1024 32 := Host.remsi main_v0 main_v2
  let main_c_1 : IVec S_ 32 := constantI S_ 32 2#32
  let main_v4 : IVec S512x1024 32 := broadcastInDim S512x1024 ![] bcast_S_S512x1024 main_c_1
  let main_v5 : IVec S512x1024 1 := cmpi .sge main_v3 main_v4
  (main_v1, main_v5)
-- ==== On_token_rows.lean ====
abbrev S128x4x1024 : Shape := ⟨3, ![128, 4, 1024]⟩
abbrev S1x128x4x128x256 : Shape := ⟨5, ![1, 128, 4, 128, 256]⟩
abbrev S1x1024x3088 : Shape := ⟨3, ![1, 1024, 3088]⟩
abbrev S1x16x512 : Shape := ⟨3, ![1, 16, 512]⟩
abbrev S1x512 : Shape := ⟨2, ![1, 512]⟩
abbrev S1x4x256 : Shape := ⟨3, ![1, 4, 256]⟩
abbrev S1x1024x1024 : Shape := ⟨3, ![1, 1024, 1024]⟩
abbrev S2x1024 : Shape := ⟨2, ![2, 1024]⟩
abbrev S1024x1024 : Shape := ⟨2, ![1024, 1024]⟩
abbrev S_ : Shape := ⟨0, ![]⟩
abbrev S128x4x128x256 : Shape := ⟨4, ![128, 4, 128, 256]⟩

class Facts : Prop where
  bcast_S_S1024x1024 : S_.BroadcastsInDim S1024x1024 (![] : Fin 0 → Fin S1024x1024.rank)
  bcast_S_S128x4x128x256 : S_.BroadcastsInDim S128x4x128x256 (![] : Fin 0 → Fin S128x4x128x256.rank)

variable [Facts]

def fn {F : FTy → Type} [FloatOps F] (main_arg0 : FVec F S128x4x1024 .f32) (main_arg1 : FVec F S1x128x4x128x256 .f32) (main_arg2 : FVec F S1x1024x3088 .f32) (main_arg3 : FVec F S1x16x512 .f32) (main_arg4 : FVec F S1x512 .f32) (main_arg5 : FVec F S1x4x256 .f32) (main_arg6 : FVec F S1x1024x1024 .f32) (main_arg7 : FVec F S2x1024 .f32) (main_arg8 : FVec F S2x1024 .f32) : IVec S1024x1024 1 × IVec S128x4x128x256 1 :=
  let main_v0 : IVec S1024x1024 32 := iotaInDim S1024x1024 32 0
  let main_c : IVec S_ 32 := constantI S_ 32 8#32
  let main_v1 : IVec S1024x1024 32 := broadcastInDim S1024x1024 ![] bcast_S_S1024x1024 main_c
  let main_v2 : IVec S1024x1024 32 := Host.remsi main_v0 main_v1
  let main_c_0 : IVec S_ 32 := constantI S_ 32 4#32
  let main_v3 : IVec S1024x1024 32 := broadcastInDim S1024x1024 ![] bcast_S_S1024x1024 main_c_0
  let main_v4 : IVec S1024x1024 1 := cmpi .slt main_v2 main_v3
  let main_c_1 : IVec S_ 1 := constantI S_ 1 1#1
  let main_v5 : IVec S128x4x128x256 1 := broadcastInDim S128x4x128x256 ![] bcast_S_S128x4x128x256 main_c_1
  (main_v4, main_v5)
-- ==== Mlp.lean ====
abbrev S8x2048x1024 : Shape := ⟨3, ![8, 2048, 1024]⟩
abbrev S2x1024x4096 : Shape := ⟨3, ![2, 1024, 4096]⟩
abbrev S2x4096x1024 : Shape := ⟨3, ![2, 4096, 1024]⟩
abbrev S2x1024 : Shape := ⟨2, ![2, 1024]⟩
abbrev S2x1x1024 : Shape := ⟨3, ![2, 1, 1024]⟩
abbrev S16384x1024 : Shape := ⟨2, ![16384, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1x1x1024 : Shape := ⟨3, ![1, 1, 1024]⟩
abbrev S2x256x1024 : Shape := ⟨3, ![2, 256, 1024]⟩
abbrev S2x256x4096 : Shape := ⟨3, ![2, 256, 4096]⟩
abbrev S256x1024 : Shape := ⟨2, ![256, 1024]⟩
abbrev S1x256x1024 : Shape := ⟨3, ![1, 256, 1024]⟩
abbrev S1x1024x1024 : Shape := ⟨3, ![1, 1024, 1024]⟩
abbrev S1x256x4096 : Shape := ⟨3, ![1, 256, 4096]⟩
abbrev S256x4096 : Shape := ⟨2, ![256, 4096]⟩
abbrev S4096x1024 : Shape := ⟨2, ![4096, 1024]⟩
abbrev S1x1024 : Shape := ⟨2, ![1, 1024]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S2x1024x4096, .f32⟩
  | .hbm, ⟨2, _⟩ => ⟨S2x4096x1024, .f32⟩
  | .hbm, ⟨3, _⟩ => ⟨S2x1024, .f32⟩
  | .hbm, ⟨4, _⟩ => ⟨S2x1024, .f32⟩
  | .hbm, ⟨5, _⟩ => ⟨S2x1024x4096, .bf16⟩
  | .hbm, ⟨6, _⟩ => ⟨S2x4096x1024, .bf16⟩
  | .hbm, ⟨7, _⟩ => ⟨S2x1x1024, .f32⟩
  | .hbm, ⟨8, _⟩ => ⟨S2x1x1024, .f32⟩
  | .hbm, ⟨9, _⟩ => ⟨S16384x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x4096, .bf16⟩
  | .local _ .vmem, ⟨3, _⟩ => ⟨S1x4096x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S2x256x1024, .bf16⟩
  | .local _ .vmem, ⟨9, _⟩ => ⟨S2x256x4096, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S8x2048x1024 : Shape := ⟨3, ![8, 2048, 1024]⟩
abbrev S2x1024x4096 : Shape := ⟨3, ![2, 1024, 4096]⟩
abbrev S2x4096x1024 : Shape := ⟨3, ![2, 4096, 1024]⟩
abbrev S2x1024 : Shape := ⟨2, ![2, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S_ : Shape := ⟨0, ![]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024x4096, .f32⟩
  | .hbm, ⟨2, _⟩ => ⟨S2x4096x1024, .f32⟩
  | .hbm, ⟨3, _⟩ => ⟨S2x1024, .f32⟩
  | .hbm, ⟨4, _⟩ => ⟨S2x1024, .f32⟩
  | .hbm, ⟨5, _⟩ => ⟨S1x1024x4096, .f32⟩
  | .hbm, ⟨6, _⟩ => ⟨S1024x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S1x4096x1024, .f32⟩
  | .hbm, ⟨13, _⟩ => ⟨S4096x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Sample.lean ====
abbrev S128x4x1024 : Shape := ⟨3, ![128, 4, 1024]⟩
abbrev S1x128x4x128x256 : Shape := ⟨5, ![1, 128, 4, 128, 256]⟩
abbrev S1x1024x3088 : Shape := ⟨3, ![1, 1024, 3088]⟩
abbrev S1x16x512 : Shape := ⟨3, ![1, 16, 512]⟩
abbrev S1x512 : Shape := ⟨2, ![1, 512]⟩
abbrev S1x4x256 : Shape := ⟨3, ![1, 4, 256]⟩
abbrev S1x1024x1024 : Shape := ⟨3, ![1, 1024, 1024]⟩
abbrev S2x1024 : Shape := ⟨2, ![2, 1024]⟩
abbrev S1024x3088 : Shape := ⟨2, ![1024, 3088]⟩
abbrev S1024x16 : Shape := ⟨2, ![1024, 16]⟩
abbrev S_ : Shape := ⟨0, ![]⟩
abbrev S1024x128 : Shape := ⟨2, ![1024, 128]⟩
abbrev S16x512 : Shape := ⟨2, ![16, 512]⟩
abbrev S128x512 : Shape := ⟨2, ![128, 512]⟩
abbrev S512 : Shape := ⟨1, ![512]⟩
abbrev S4x256 : Shape := ⟨2, ![4, 256]⟩
abbrev S1x1024 : Shape := ⟨2, ![1, 1024]⟩
abbrev S1024x1024 : Shape := ⟨2, ![1024, 1024]⟩
abbrev S128x8x1024 : Shape := ⟨3, ![128, 8, 1024]⟩
abbrev S128x4x128x256 : Shape := ⟨4, ![128, 4, 128, 256]⟩
abbrev S1024 : Shape := ⟨1, ![1024]⟩
abbrev S128x1024 : Shape := ⟨2, ![128, 1024]⟩
abbrev S16x4x128x256 : Shape := ⟨4, ![16, 4, 128, 256]⟩
abbrev S1024x512 : Shape := ⟨2, ![1024, 512]⟩
abbrev S128x128 : Shape := ⟨2, ![128, 128]⟩
abbrev S512x128 : Shape := ⟨2, ![512, 128]⟩
abbrev S128x256 : Shape := ⟨2, ![128, 256]⟩
abbrev S1x1x128x256 : Shape := ⟨4, ![1, 1, 128, 256]⟩
abbrev S8x128 : Shape := ⟨2, ![8, 128]⟩
abbrev S8x256 : Shape := ⟨2, ![8, 256]⟩
abbrev S128x1 : Shape := ⟨2, ![128, 1]⟩
abbrev S128 : Shape := ⟨1, ![128]⟩
abbrev S1x256 : Shape := ⟨2, ![1, 256]⟩

abbrev nBuf : Space → Nat
  | .hbm => 40
  | .vmem => 17
  | .smem => 0
  | _ => 0

abbrev bufTy : (tb : Table) → Fin (tcTables nBuf tb) → BufTy
  | .hbm, ⟨0, _⟩ => ⟨S128x4x1024, .f32⟩
  | .hbm, ⟨1, _⟩ => ⟨S1x128x4x128x256, .f32⟩
  | .hbm, ⟨2, _⟩ => ⟨S1x1024x3088, .f32⟩
  | .hbm, ⟨3, _⟩ => ⟨S1x16x512, .f32⟩
  | .hbm, ⟨4, _⟩ => ⟨S1x512, .f32⟩
  | .hbm, ⟨5, _⟩ => ⟨S1x4x256, .f32⟩
  | .hbm, ⟨6, _⟩ => ⟨S1x1024x1024, .f32⟩
  | .hbm, ⟨7, _⟩ => ⟨S2x1024, .f32⟩
  | .hbm, ⟨8, _⟩ => ⟨S2x1024, .f32⟩
  | .hbm, ⟨9, _⟩ => ⟨S1024x3088, .f32⟩
  | .hbm, ⟨10, _⟩ => ⟨S1024x3088, .bf16⟩
  | .hbm, ⟨11, _⟩ => ⟨S1024x16, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S16x512, .f32⟩
  | .hbm, ⟨17, _⟩ => ⟨S_, .i32⟩
  | .hbm, ⟨18, _⟩ => ⟨S_, .f32⟩
  | .hbm, ⟨19, _⟩ => ⟨S128x512, .f32⟩
  | .hbm, ⟨20, _⟩ => ⟨S128x512, .bf16⟩
  | .hbm, ⟨21, _⟩ => ⟨S512, .f32⟩
  | .hbm, ⟨22, _⟩ => ⟨S1x512, .f32⟩
  | .hbm, ⟨23, _⟩ => ⟨S4x256, .f32⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S_, .i32⟩
  | .hbm, ⟨28, _⟩ => ⟨S_, .f32⟩
  | .hbm, ⟨29, _⟩ => ⟨S128x8x1024, .f32⟩
  | .hbm, ⟨30, _⟩ => ⟨S1024x1024, .f32⟩
  | .hbm, ⟨31, _⟩ => ⟨S128x4x128x256, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1024x1024, .f32⟩
  | .hbm, ⟨39, _⟩ => ⟨S128x4x128x256, .f32⟩
  | .local _ .vmem, ⟨0, _⟩ => ⟨S128x1024, .f32⟩
  | .local _ .vmem, ⟨1, _⟩ => ⟨S128x1024, .f32⟩
  | .local _ .vmem, ⟨2, _⟩ => ⟨S16x4x128x256, .f32⟩
  | .local _ .vmem, ⟨3, _⟩ => ⟨S16x4x128x256, .f32⟩
  | .local _ .vmem, ⟨4, _⟩ => ⟨S1024x3088, .bf16⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | .local _ .vmem, ⟨13, _⟩ => ⟨S128x1024, .f32⟩
  | .local _ .vmem, ⟨14, _⟩ => ⟨S16x4x128x256, .f32⟩
  | .local _ .vmem, ⟨15, _⟩ => ⟨S16x4x128x256, .f32⟩
  | .local _ .vmem, ⟨16, _⟩ => ⟨S128x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3088 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x4x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== SampleRefIdeal.lean ====
abbrev S128x4x1024 : Shape := ⟨3, ![128, 4, 1024]⟩
abbrev S1x128x4x128x256 : Shape := ⟨5, ![1, 128, 4, 128, 256]⟩
abbrev S1x1024x3088 : Shape := ⟨3, ![1, 1024, 3088]⟩
abbrev S1x16x512 : Shape := ⟨3, ![1, 16, 512]⟩
abbrev S1x512 : Shape := ⟨2, ![1, 512]⟩
abbrev S1x4x256 : Shape := ⟨3, ![1, 4, 256]⟩
abbrev S1x1024x1024 : Shape := ⟨3, ![1, 1024, 1024]⟩
abbrev S2x1024 : Shape := ⟨2, ![2, 1024]⟩
abbrev S128x4x128x256 : Shape := ⟨4, ![128, 4, 128, 256]⟩
abbrev S1024x3088 : Shape := ⟨2, ![1024, 3088]⟩
abbrev S16x512 : Shape := ⟨2, ![16, 512]⟩
abbrev S512 : Shape := ⟨1, ![512]⟩
abbrev S4x256 : Shape := ⟨2, ![4, 256]⟩
abbrev S1024x1024 : Shape := ⟨2, ![1024, 1024]⟩
abbrev S128x4x3088 : Shape := ⟨3, ![128, 4, 3088]⟩
abbrev S128x4x512 : Shape := ⟨3, ![128, 4, 512]⟩
abbrev S128x4x16 : Shape := ⟨3, ![128, 4, 16]⟩
abbrev S1x1x512 : Shape := ⟨3, ![1, 1, 512]⟩
abbrev S_ : Shape := ⟨0, ![]⟩
abbrev S128x4x4x128 : Shape := ⟨4, ![128, 4, 4, 128]⟩
abbrev S128x4x4x256 : Shape := ⟨4, ![128, 4, 4, 256]⟩
abbrev S128x4x1x128 : Shape := ⟨4, ![128, 4, 1, 128]⟩
abbrev S4x4 : Shape := ⟨2, ![4, 4]⟩
abbrev S128x4x4x4 : Shape := ⟨4, ![128, 4, 4, 4]⟩
abbrev S128x4x128 : Shape := ⟨3, ![128, 4, 128]⟩
abbrev S128x4x128x1 : Shape := ⟨4, ![128, 4, 128, 1]⟩
abbrev S128x4x4 : Shape := ⟨3, ![128, 4, 4]⟩
abbrev S128x4x4x1 : Shape := ⟨4, ![128, 4, 4, 1]⟩
abbrev S1x1x4x256 : Shape := ⟨4, ![1, 1, 4, 256]⟩
abbrev S1x1024 : Shape := ⟨2, ![1, 1024]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩
abbrev S128x8x1024 : Shape := ⟨3, ![128, 8, 1024]⟩

abbrev nBuf : Space → Nat
  | .hbm => 165
  | .vmem => 0
  | .smem => 0
  | _ => 0

abbrev hbmTy0_0 (i : Nat) : BufTy := match i % 128 with
  | 0 => ⟨S128x4x1024, .f32⟩
  | 1 => ⟨S1x128x4x128x256, .f32⟩
  | 2 => ⟨S1x1024x3088, .f32⟩
  | 3 => ⟨S1x16x512, .f32⟩
  | 4 => ⟨S1x512, .f32⟩
  | 5 => ⟨S1x4x256, .f32⟩
  | 6 => ⟨S1x1024x1024, .f32⟩
  | 7 => ⟨S2x1024, .f32⟩
  | 8 => ⟨S2x1024, .f32⟩
  | 9 => ⟨S128x4x128x256, .f32⟩
  | 10 => ⟨S1024x3088, .f32⟩
  | 11 => ⟨S16x512, .f32⟩
  | 12 => ⟨S512, .f32⟩
  | 13 => ⟨S4x256, .f32⟩
  | 14 => ⟨S1024x1024, .f32⟩
  | 15 => ⟨S128x4x3088, .f32⟩
  | 16 => ⟨S128x4x512, .f32⟩
  | 17 => ⟨S128x4x512, .f32⟩
  | 18 => ⟨S128x4x1024, .f32⟩
  | 19 => ⟨S128x4x1024, .f32⟩
  | 20 => ⟨S128x4x16, .f32⟩
  | 21 => ⟨S128x4x512, .f32⟩
  | 22 => ⟨S1x1x512, .f32⟩
  | 23 => ⟨S128x4x512, .f32⟩
  | 24 => ⟨S128x4x512, .f32⟩
  | 25 => ⟨S128x4x512, .f32⟩
  | 26 => ⟨S_, .f32⟩
  | 27 => ⟨S128x4x512, .f32⟩
  | 28 => ⟨S128x4x512, .f32⟩
  | 29 => ⟨S128x4x512, .f32⟩
  | 30 => ⟨S128x4x512, .f32⟩
  | 31 => ⟨S128x4x512, .i1⟩
  | 32 => ⟨S128x4x512, .f32⟩
  | 33 => ⟨S128x4x512, .f32⟩
  | 34 => ⟨S128x4x512, .f32⟩
  | 35 => ⟨S128x4x512, .f32⟩
  | 36 => ⟨S128x4x512, .f32⟩
  | 37 => ⟨S128x4x512, .f32⟩
  | 38 => ⟨S128x4x512, .f32⟩
  | 39 => ⟨S128x4x512, .f32⟩
  | 40 => ⟨S128x4x512, .f32⟩
  | 41 => ⟨S_, .f32⟩
  | 42 => ⟨S128x4x512, .f32⟩
  | 43 => ⟨S128x4x512, .f32⟩
  | 44 => ⟨S128x4x4x128, .f32⟩
  | 45 => ⟨S_, .f32⟩
  | 46 => ⟨S128x4x4x128, .f32⟩
  | 47 => ⟨S128x4x4x128, .f32⟩
  | 48 => ⟨S128x4x4x128, .f32⟩
  | 49 => ⟨S128x4x4x256, .f32⟩
  | 50 => ⟨S128x4x4x128, .f32⟩
  | 51 => ⟨S128x4x4x128, .f32⟩
  | 52 => ⟨S128x4x4x128, .f32⟩
  | 53 => ⟨S128x4x4x256, .f32⟩
  | 54 => ⟨S128x4x4x128, .f32⟩
  | 55 => ⟨S_, .f32⟩
  | 56 => ⟨S_, .f32⟩
  | 57 => ⟨S128x4x4x128, .f32⟩
  | 58 => ⟨S128x4x1x128, .f32⟩
  | 59 => ⟨S128x4x4x128, .f32⟩
  | 60 => ⟨S128x4x4x128, .f32⟩
  | 61 => ⟨S128x4x4x128, .f32⟩
  | 62 => ⟨S128x4x4x128, .f32⟩
  | 63 => ⟨S128x4x4x128, .f32⟩
  | 64 => ⟨S_, .i1⟩
  | 65 => ⟨S4x4, .i1⟩
  | 66 => ⟨S4x4, .i32⟩
  | 67 => ⟨S_, .i32⟩
  | 68 => ⟨S4x4, .i32⟩
  | 69 => ⟨S4x4, .i32⟩
  | 70 => ⟨S4x4, .i32⟩
  | 71 => ⟨S4x4, .i1⟩
  | 72 => ⟨S_, .i1⟩
  | 73 => ⟨S4x4, .i1⟩
  | 74 => ⟨S4x4, .i1⟩
  | 75 => ⟨S128x4x4x4, .f32⟩
  | 76 => ⟨S_, .f32⟩
  | 77 => ⟨S_, .f32⟩
  | 78 => ⟨S128x4x4x4, .i1⟩
  | 79 => ⟨S128x4x4x4, .f32⟩
  | 80 => ⟨S128x4x4x4, .f32⟩
  | 81 => ⟨S128x4x4x256, .f32⟩
  | 82 => ⟨S128x4x4x128, .f32⟩
  | 83 => ⟨S128x4x4x128, .f32⟩
  | 84 => ⟨S128x4x4x128, .f32⟩
  | 85 => ⟨S128x4x4x128, .f32⟩
  | 86 => ⟨S128x4x128x256, .f32⟩
  | 87 => ⟨S128x4x128, .f32⟩
  | 88 => ⟨S128x4x128, .f32⟩
  | 89 => ⟨S128x4x128x1, .f32⟩
  | 90 => ⟨S128x4x128x256, .f32⟩
  | 91 => ⟨S128x4x128x256, .f32⟩
  | 92 => ⟨S128x4x128x256, .f32⟩
  | 93 => ⟨S128x4x4x256, .f32⟩
  | 94 => ⟨S128x4x4x256, .f32⟩
  | 95 => ⟨S128x4x4x256, .f32⟩
  | 96 => ⟨S128x4x4x256, .f32⟩
  | 97 => ⟨S_, .f32⟩
  | 98 => ⟨S128x4x4, .f32⟩
  | 99 => ⟨S128x4x4x1, .f32⟩
  | 100 => ⟨S_, .f32⟩
  | 101 => ⟨S128x4x4x1, .f32⟩
  | 102 => ⟨S128x4x4x1, .f32⟩
  | 103 => ⟨S_, .f32⟩
  | 104 => ⟨S128x4x4x1, .f32⟩
  | 105 => ⟨S128x4x4x1, .f32⟩
  | 106 => ⟨S128x4x4x1, .f32⟩
  | 107 => ⟨S128x4x4x256, .f32⟩
  | 108 => ⟨S128x4x4x256, .f32⟩
  | 109 => ⟨S1x1x4x256, .f32⟩
  | 110 => ⟨S128x4x4x256, .f32⟩
  | 111 => ⟨S128x4x4x256, .f32⟩
  | 112 => ⟨S128x4x1024, .f32⟩
  | 113 => ⟨S128x4x1024, .f32⟩
  | 114 => ⟨S128x4x1024, .f32⟩
  | 115 => ⟨S_, .f32⟩
  | 116 => ⟨S128x4x1024, .f32⟩
  | 117 => ⟨S128x4x1024, .f32⟩
  | 118 => ⟨S_, .f32⟩
  | 119 => ⟨S128x4x1024, .f32⟩
  | 120 => ⟨S128x4x1024, .f32⟩
  | 121 => ⟨S128x4x1024, .f32⟩
  | 122 => ⟨S128x4x1024, .f32⟩
  | 123 => ⟨S128x4x1024, .f32⟩
  | 124 => ⟨S_, .f32⟩
  | 125 => ⟨S128x4x1024, .f32⟩
  | 126 => ⟨S128x4x1024, .f32⟩
  | 127 => ⟨S128x4x1024, .f32⟩
  | _ => ⟨S128x4x1024, .f32⟩

abbrev hbmTy0_1 (i : Nat) : BufTy := match i % 128 with
  | 0 => ⟨S1x1024, .f32⟩
  | 1 => ⟨S1024, .f32⟩
  | 2 => ⟨S1x1024, .f32⟩
  | 3 => ⟨S1024, .f32⟩
  | 4 => ⟨S_, .f32⟩
  | 5 => ⟨S128x4, .f32⟩
  | 6 => ⟨S128x4x1, .f32⟩
  | 7 => ⟨S_, .f32⟩
  | 8 => ⟨S128x4x1, .f32⟩
  | 9 => ⟨S128x4x1, .f32⟩
  | 10 => ⟨S128x4x1024, .f32⟩
  | 11 => ⟨S128x4x1024, .f32⟩
  | 12 => ⟨S128x4x1024, .f32⟩
  | 13 => ⟨S_, .f32⟩
  | 14 => ⟨S128x4, .f32⟩
  | 15 => ⟨S128x4x1, .f32⟩
  | 16 => ⟨S_, .f32⟩
  | 17 => ⟨S128x4x1, .f32⟩
  | 18 => ⟨S128x4x1, .f32⟩
  | 19 => ⟨S128x4x1024, .f32⟩
  | 20 => ⟨S128x4x1024, .f32⟩
  | 21 => ⟨S_, .f32⟩
  | 22 => ⟨S128x4x1, .f32⟩
  | 23 => ⟨S128x4x1, .f32⟩
  | 24 => ⟨S128x4x1, .f32⟩
  | 25 => ⟨S128x4x1024, .f32⟩
  | 26 => ⟨S128x4x1024, .f32⟩
  | 27 => ⟨S1x1x1024, .f32⟩
  | 28 => ⟨S128x4x1024, .f32⟩
  | 29 => ⟨S128x4x1024, .f32⟩
  | 30 => ⟨S1x1x1024, .f32⟩
  | 31 => ⟨S128x4x1024, .f32⟩
  | 32 => ⟨S128x4x1024, .f32⟩
  | 33 => ⟨S_, .i32⟩
  | 34 => ⟨S_, .f32⟩
  | 35 => ⟨S128x8x1024, .f32⟩
  | 36 => ⟨S1024x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_call0_cst : Ref sig .tc := ⟨.hbm, 55, rfl⟩
abbrev main_call1_call0_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c : Ref sig .tc := ⟨.hbm, 64, rfl⟩
abbrev main_v36 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_0 : Ref sig .tc := ⟨.hbm, 72, rfl⟩
abbrev main_call2_v5 : Ref sig .tc := ⟨.hbm, 73, rfl⟩
abbrev main_v37 : Ref sig .tc := ⟨.hbm, 74, rfl⟩
abbrev main_v38 : Ref sig .tc := ⟨.hbm, 75, rfl⟩
abbrev main_cst_1 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_2 : Ref sig .tc := ⟨.hbm, 97, rfl⟩
abbrev main_v56 : Ref sig .tc := ⟨.hbm, 98, rfl⟩
abbrev main_v57 : Ref sig .tc := ⟨.hbm, 99, rfl⟩
abbrev main_cst_3 : Ref sig .tc := ⟨.hbm, 100, rfl⟩
abbrev main_v58 : Ref sig .tc := ⟨.hbm, 101, rfl⟩
abbrev main_v59 : Ref sig .tc := ⟨.hbm, 102, rfl⟩
abbrev main_cst_4 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_call4_v0 : Ref sig .tc := ⟨.hbm, 113, rfl⟩
abbrev main_call4_v1 : Ref sig .tc := ⟨.hbm, 114, rfl⟩
abbrev main_call4_cst : Ref sig .tc := ⟨.hbm, 115, rfl⟩
abbrev main_call4_v2 : Ref sig .tc := ⟨.hbm, 116, rfl⟩
abbrev main_call4_v3 : Ref sig .tc := ⟨.hbm, 117, rfl⟩
abbrev main_call4_cst_0 : Ref sig .tc := ⟨.hbm, 118, rfl⟩
abbrev main_call4_v4 : Ref sig .tc := ⟨.hbm, 119, rfl⟩
abbrev main_call4_v5 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_5 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_6 : Ref sig .tc := ⟨.hbm, 132, rfl⟩
abbrev main_v79 : Ref sig .tc := ⟨.hbm, 133, rfl⟩
abbrev main_v80 : Ref sig .tc := ⟨.hbm, 134, rfl⟩
abbrev main_cst_7 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_8 : Ref sig .tc := ⟨.hbm, 141, rfl⟩
abbrev main_v86 : Ref sig .tc := ⟨.hbm, 142, rfl⟩
abbrev main_v87 : Ref sig .tc := ⟨.hbm, 143, rfl⟩
abbrev main_cst_9 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_10 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_c_11 : Ref sig .tc := ⟨.hbm, 161, rfl⟩
abbrev main_call5_v0 : Ref sig .tc := ⟨.hbm, 162, rfl⟩
abbrev main_v103 : Ref sig .tc := ⟨.hbm, 163, rfl⟩
abbrev main_v104 : Ref sig .tc := ⟨.hbm, 164, rfl⟩

abbrev nD : Nat := 1
abbrev τ : Topo := Topo.v7x

variable {F : FTy → Type} [FloatOps F]
-- ==== Conv.lean ====
abbrev S8x2048x1024 : Shape := ⟨3, ![8, 2048, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024 : Shape := ⟨2, ![2, 1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S1024 : Shape := ⟨1, ![1024]⟩
abbrev S16384x1024 : Shape := ⟨2, ![16384, 1024]⟩
abbrev S8x2x1024 : Shape := ⟨3, ![8, 2, 1024]⟩
abbrev S512x1024 : Shape := ⟨2, ![512, 1024]⟩
abbrev S1x2x1024 : Shape := ⟨3, ![1, 2, 1024]⟩
abbrev S2x512x1024 : Shape := ⟨3, ![2, 512, 1024]⟩
abbrev S8x1024 : Shape := ⟨2, ![8, 1024]⟩
abbrev S1x512x1024 : Shape := ⟨3, ![1, 512, 1024]⟩
abbrev S1024x512 : Shape := ⟨2, ![1024, 512]⟩
abbrev S512x512 : Shape := ⟨2, ![512, 512]⟩
abbrev S1x512x512 : Shape := ⟨3, ![1, 512, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 20
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1x1024x3072, .f32⟩
  | .hbm, ⟨2, _⟩ => ⟨S1x3x1024, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S1024x3072, .f32⟩
  | .hbm, ⟨7, _⟩ => ⟨S1024x3072, .bf16⟩
  | .hbm, ⟨8, _⟩ => ⟨S3x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S8x2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S1024x1024, .f32⟩
  | .local _ .vmem, ⟨6, _⟩ => ⟨S1024x1024, .f32⟩
  | .local _ .vmem, ⟨7, _⟩ => ⟨S1024x3072, .bf16⟩
  | .local _ .vmem, ⟨8, _⟩ => ⟨S3x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1x2x1024, .f32⟩
  | .local _ .vmem, ⟨15, _⟩ => ⟨S1x2x1024, .f32⟩
  | .local _ .vmem, ⟨16, _⟩ => ⟨S2x512x1024, .bf16⟩
  | .local _ .vmem, ⟨17, _⟩ => ⟨S2x512x1024, .f32⟩
  | .local _ .vmem, ⟨18, _⟩ => ⟨S512x1024, .f32⟩
  | .local _ .vmem, ⟨19, _⟩ => ⟨S2x512x1024, .f32⟩
  | .local _ .vmem, ⟨20, _⟩ => ⟨S512x1024, .bf16⟩
  | .local _ .vmem, ⟨21, _⟩ => ⟨S8x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S8x2048x1024 : Shape := ⟨3, ![8, 2048, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024 : Shape := ⟨2, ![2, 1024]⟩
abbrev S3x1024 : Shape := ⟨2, ![3, 1024]⟩
abbrev S1024x3072 : Shape := ⟨2, ![1024, 3072]⟩
abbrev S8x2048x3072 : Shape := ⟨3, ![8, 2048, 3072]⟩
abbrev S_ : Shape := ⟨0, ![]⟩
abbrev S8x2x1024 : Shape := ⟨3, ![8, 2, 1024]⟩
abbrev S8x2050x1024 : Shape := ⟨3, ![8, 2050, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩
abbrev S8x2048 : Shape := ⟨2, ![8, 2048]⟩
abbrev S8x2048x1 : Shape := ⟨3, ![8, 2048, 1]⟩
abbrev S16384x1024 : Shape := ⟨2, ![16384, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x3072, .f32⟩
  | .hbm, ⟨2, _⟩ => ⟨S1x3x1024, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S3x1024, .f32⟩
  | .hbm, ⟨7, _⟩ => ⟨S1024x3072, .f32⟩
  | .hbm, ⟨8, _⟩ => ⟨S8x2048x3072, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2x1024, .f32⟩
  | .hbm, ⟨15, _⟩ => ⟨S8x2050x1024, .f32⟩
  | .hbm, ⟨16, _⟩ => ⟨S8x2048x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S1024x1024, .f32⟩
  | .hbm, ⟨41, _⟩ => ⟨S8x2048x1024, .f32⟩
  | .hbm, ⟨42, _⟩ => ⟨S8x2048x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048, .f32⟩
  | .hbm, ⟨58, _⟩ => ⟨S8x2048x1, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x1, .f32⟩
  | .hbm, ⟨68, _⟩ => ⟨S8x2048x1024, .f32⟩
  | .hbm, ⟨69, _⟩ => ⟨S8x2048x1024, .f32⟩
  | .hbm, ⟨70, _⟩ => ⟨S1x1x1024, .f32⟩
  | .hbm, ⟨71, _⟩ => ⟨S8x2048x1024, .f32⟩
  | .hbm, ⟨72, _⟩ => ⟨S8x2048x1024, .f32⟩
  | .hbm, ⟨73, _⟩ => ⟨S1x1x1024, .f32⟩
  | .hbm, ⟨74, _⟩ => ⟨S8x2048x1024, .f32⟩
  | .hbm, ⟨75, _⟩ => ⟨S8x2048x1024, .f32⟩
  | .hbm, ⟨76, _⟩ => ⟨S16384x1024, .f32⟩
  | .hbm, ⟨77, _⟩ => ⟨S8x2x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]
-- ==== Stream.lean ====
abbrev S128x4x1024 : Shape := ⟨3, ![128, 4, 1024]⟩
abbrev S2x1024x4096 : Shape := ⟨3, ![2, 1024, 4096]⟩
abbrev S2x4096x1024 : Shape := ⟨3, ![2, 4096, 1024]⟩
abbrev S2x1024 : Shape := ⟨2, ![2, 1024]⟩
abbrev S2x1x1024 : Shape := ⟨3, ![2, 1, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S128x4x1024, .f32⟩
  | .hbm, ⟨1, _⟩ => ⟨S2x1024x4096, .f32⟩
  | .hbm, ⟨2, _⟩ => ⟨S2x4096x1024, .f32⟩
  | .hbm, ⟨3, _⟩ => ⟨S2x1024, .f32⟩
  | .hbm, ⟨4, _⟩ => ⟨S2x1024, .f32⟩
  | .hbm, ⟨5, _⟩ => ⟨S2x1024x4096, .bf16⟩
  | .hbm, ⟨6, _⟩ => ⟨S2x4096x1024, .bf16⟩
  | .hbm, ⟨7, _⟩ => ⟨S2x1x1024, .f32⟩
  | .hbm, ⟨8, _⟩ => ⟨S2x1x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![4], ![false]⟩

def k0_cond4 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== StreamRefIdeal.lean ====
abbrev S128x4x1024 : Shape := ⟨3, ![128, 4, 1024]⟩
abbrev S2x1024x4096 : Shape := ⟨3, ![2, 1024, 4096]⟩
abbrev S2x4096x1024 : Shape := ⟨3, ![2, 4096, 1024]⟩
abbrev S2x1024 : Shape := ⟨2, ![2, 1024]⟩
abbrev S1x1024x4096 : Shape := ⟨3, ![1, 1024, 4096]⟩
abbrev S1024x4096 : Shape := ⟨2, ![1024, 4096]⟩
abbrev S128x4x4096 : Shape := ⟨3, ![128, 4, 4096]⟩
abbrev S_ : Shape := ⟨0, ![]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩
abbrev S512x1024 : Shape := ⟨2, ![512, 1024]⟩

abbrev nBuf : Space → Nat
  | .hbm => 53
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S2x1024x4096, .f32⟩
  | .hbm, ⟨2, _⟩ => ⟨S2x4096x1024, .f32⟩
  | .hbm, ⟨3, _⟩ => ⟨S2x1024, .f32⟩
  | .hbm, ⟨4, _⟩ => ⟨S2x1024, .f32⟩
  | .hbm, ⟨5, _⟩ => ⟨S1x1024x4096, .f32⟩
  | .hbm, ⟨6, _⟩ => ⟨S1024x4096, .f32⟩
  | .hbm, ⟨7, _⟩ => ⟨S128x4x4096, .f32⟩
  | .hbm, ⟨8, _⟩ => ⟨S_, .f32⟩
  | .hbm, ⟨9, _⟩ => ⟨S128x4x4096, .f32⟩
  | .hbm, ⟨10, _⟩ => ⟨S128x4x4096, .f32⟩
  | .hbm, ⟨11, _⟩ => ⟨S128x4x4096, .f32⟩
  | .hbm, ⟨12, _⟩ => ⟨S1x4096x1024, .f32⟩
  | .hbm, ⟨13, _⟩ => ⟨S4096x1024, .f32⟩
  | .hbm, ⟨14, _⟩ => ⟨S128x4x1024, .f32⟩
  | .hbm, ⟨15, _⟩ => ⟨S_, .f32⟩
  | .hbm, ⟨16, _⟩ => ⟨S128x4x1024, .f32⟩
  | .hbm, ⟨17, _⟩ => ⟨S128x4x1024, .f32⟩
  | .hbm, ⟨18, _⟩ => ⟨S128x4x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S128x4, .f32⟩
  | .hbm, ⟨25, _⟩ => ⟨S128x4x1, .f32⟩
  | .hbm, ⟨26, _⟩ => ⟨S_, .f32⟩
  | .hbm, ⟨27, _⟩ => ⟨S128x4x1, .f32⟩
  | .hbm, ⟨28, _⟩ => ⟨S128x4x1, .f32⟩
  | .hbm, ⟨29, _⟩ => ⟨S128x4x1024, .f32⟩
  | .hbm, ⟨30, _⟩ => ⟨S128x4x1024, .f32⟩
  | .hbm, ⟨31, _⟩ => ⟨S128x4x1024, .f32⟩
  | .hbm, ⟨32, _⟩ => ⟨S_, .f32⟩
  | .hbm, ⟨33, _⟩ => ⟨S128x4, .f32⟩
  | .hbm, ⟨34, _⟩ => ⟨S128x4x1, .f32⟩
  | .hbm, ⟨35, _⟩ => ⟨S_, .f32⟩
  | .hbm, ⟨36, _⟩ => ⟨S128x4x1, .f32⟩
  | .hbm, ⟨37, _⟩ => ⟨S128x4x1, .f32⟩
  | .hbm, ⟨38, _⟩ => ⟨S128x4x1024, .f32⟩
  | .hbm, ⟨39, _⟩ => ⟨S128x4x1024, .f32⟩
  | .hbm, ⟨40, _⟩ => ⟨S_, .f32⟩
  | .hbm, ⟨41, _⟩ => ⟨S128x4x1, .f32⟩
  | .hbm, ⟨42, _⟩ => ⟨S128x4x1, .f32⟩
  | .hbm, ⟨43, _⟩ => ⟨S128x4x1, .f32⟩
  | .hbm, ⟨44, _⟩ => ⟨S128x4x1024, .f32⟩
  | .hbm, ⟨45, _⟩ => ⟨S128x4x1024, .f32⟩
  | .hbm, ⟨46, _⟩ => ⟨S1x1x1024, .f32⟩
  | .hbm, ⟨47, _⟩ => ⟨S128x4x1024, .f32⟩
  | .hbm, ⟨48, _⟩ => ⟨S128x4x1024, .f32⟩
  | .hbm, ⟨49, _⟩ => ⟨S1x1x1024, .f32⟩
  | .hbm, ⟨50, _⟩ => ⟨S128x4x1024, .f32⟩
  | .hbm, ⟨51, _⟩ => ⟨S128x4x1024, .f32⟩
  | .hbm, ⟨52, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Tail.lean ====
abbrev S128x4x1024 : Shape := ⟨3, ![128, 4, 1024]⟩
abbrev S1x128x2x1024 : Shape := ⟨4, ![1, 128, 2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024 : Shape := ⟨2, ![2, 1024]⟩
abbrev S1024x3072 : Shape := ⟨2, ![1024, 3072]⟩
abbrev S1024x1024 : Shape := ⟨2, ![1024, 1024]⟩
abbrev S3x1024 : Shape := ⟨2, ![3, 1024]⟩
abbrev S128x2x1024 : Shape := ⟨3, ![128, 2, 1024]⟩
abbrev S128x1x1024 : Shape := ⟨3, ![128, 1, 1024]⟩
abbrev S_ : Shape := ⟨0, ![]⟩
abbrev S512x1024 : Shape := ⟨2, ![512, 1024]⟩
abbrev S1x1024 : Shape := ⟨2, ![1, 1024]⟩
abbrev S1024 : Shape := ⟨1, ![1024]⟩
abbrev S3x512x1024 : Shape := ⟨3, ![3, 512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 31
  | .vmem => 13
  | .smem => 0
  | _ => 0

abbrev bufTy : (tb : Table) → Fin (tcTables nBuf tb) → BufTy
  | .hbm, ⟨0, _⟩ => ⟨S128x4x1024, .f32⟩
  | .hbm, ⟨1, _⟩ => ⟨S1x128x2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S2x1024, .f32⟩
  | .hbm, ⟨6, _⟩ => ⟨S2x1024, .f32⟩
  | .hbm, ⟨7, _⟩ => ⟨S1024x3072, .f32⟩
  | .hbm, ⟨8, _⟩ => ⟨S1024x3072, .bf16⟩
  | .hbm, ⟨9, _⟩ => ⟨S1024x1024, .f32⟩
  | .hbm, ⟨10, _⟩ => ⟨S1024x1024, .bf16⟩
  | .hbm, ⟨11, _⟩ => ⟨S3x1024, .f32⟩
  | .hbm, ⟨12, _⟩ => ⟨S128x2x1024, .f32⟩
  | .hbm, ⟨13, _⟩ => ⟨S128x1x1024, .f32⟩
  | .hbm, ⟨14, _⟩ => ⟨S_, .i32⟩
  | .hbm, ⟨15, _⟩ => ⟨S_, .f32⟩
  | .hbm, ⟨16, _⟩ => ⟨S128x4x1024, .f32⟩
  | .hbm, ⟨17, _⟩ => ⟨S512x1024, .f32⟩
  | .hbm, ⟨18, _⟩ => ⟨S_, .i32⟩
  | .hbm, ⟨19, _⟩ => ⟨S_, .f32⟩
  | .hbm, ⟨20, _⟩ => ⟨S128x4x1024, .f32⟩
  | .hbm, ⟨21, _⟩ => ⟨S512x1024, .f32⟩
  | .hbm, ⟨22, _⟩ => ⟨S512x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S512x1024, .f32⟩
  | .hbm, ⟨30, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1024x1024, .bf16⟩
  | .local _ .vmem, ⟨4, _⟩ => ⟨S1024x1024, .bf16⟩
  | .local _ .vmem, ⟨5, _⟩ => ⟨S3x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S3x512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v3 : BitVec 1 := Scalar.cmpi .slt arg0 c3_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v13 : Index := Scalar.indexCast arg0
  let c0_7 : Index := 0#32
  let c0_8 : Index := 0#32
  ![v13.toNat, 0, 0]
def k0_cond3 (i : grid0.Coords) : BitVec 1 :=
  let arg0 : BitVec 32 := BitVec.ofNat 32 (i 0).val
  let c3_i32_2 : BitVec 32 := 3#32
  let v6 : BitVec 1 := Scalar.cmpi .eq arg0 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== TailRefIdeal.lean ====
abbrev S128x4x1024 : Shape := ⟨3, ![128, 4, 1024]⟩
abbrev S1x128x2x1024 : Shape := ⟨4, ![1, 128, 2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024 : Shape := ⟨2, ![2, 1024]⟩
abbrev S128x2x1024 : Shape := ⟨3, ![128, 2, 1024]⟩
abbrev S3x1024 : Shape := ⟨2, ![3, 1024]⟩
abbrev S1024x3072 : Shape := ⟨2, ![1024, 3072]⟩
abbrev S128x4x3072 : Shape := ⟨3, ![128, 4, 3072]⟩
abbrev S128x6x1024 : Shape := ⟨3, ![128, 6, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1024x1024 : Shape := ⟨2, ![1024, 1024]⟩
abbrev S128x4 : Shape := ⟨2, ![128, 4]⟩
abbrev S128x4x1 : Shape := ⟨3, ![128, 4, 1]⟩
abbrev S512x1024 : Shape := ⟨2, ![512, 1024]⟩

abbrev nBuf : Space → Nat
  | .hbm => 82
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x128x2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S2x1024, .f32⟩
  | .hbm, ⟨6, _⟩ => ⟨S2x1024, .f32⟩
  | .hbm, ⟨7, _⟩ => ⟨S128x2x1024, .f32⟩
  | .hbm, ⟨8, _⟩ => ⟨S3x1024, .f32⟩
  | .hbm, ⟨9, _⟩ => ⟨S1024x3072, .f32⟩
  | .hbm, ⟨10, _⟩ => ⟨S128x4x3072, .f32⟩
  | .hbm, ⟨11, _⟩ => ⟨S128x4x1024, .f32⟩
  | .hbm, ⟨12, _⟩ => ⟨S128x4x1024, .f32⟩
  | .hbm, ⟨13, _⟩ => ⟨S128x4x1024, .f32⟩
  | .hbm, ⟨14, _⟩ => ⟨S128x4x1024, .f32⟩
  | .hbm, ⟨15, _⟩ => ⟨S128x6x1024, .f32⟩
  | .hbm, ⟨16, _⟩ => ⟨S128x4x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S128x4x1024, .f32⟩
  | .hbm, ⟨21, _⟩ => ⟨S128x4x1024, .f32⟩
  | .hbm, ⟨22, _⟩ => ⟨S128x4x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S128x4x1024, .f32⟩
  | .hbm, ⟨27, _⟩ => ⟨S128x4x1024, .f32⟩
  | .hbm, ⟨28, _⟩ => ⟨S128x4x1024, .f32⟩
  | .hbm, ⟨29, _⟩ => ⟨S128x4x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S128x4x1024, .f32⟩
  | .hbm, ⟨34, _⟩ => ⟨S128x4x1024, .f32⟩
  | .hbm, ⟨35, _⟩ => ⟨S128x4x1024, .f32⟩
  | .hbm, ⟨36, _⟩ => ⟨S_, .f32⟩
  | .hbm, ⟨37, _⟩ => ⟨S128x4x1024, .f32⟩
  | .hbm, ⟨38, _⟩ => ⟨S128x4x1024, .f32⟩
  | .hbm, ⟨39, _⟩ => ⟨S128x4x1024, .f32⟩
  | .hbm, ⟨40, _⟩ => ⟨S1024x1024, .f32⟩
  | .hbm, ⟨41, _⟩ => ⟨S128x4x1024, .f32⟩
  | .hbm, ⟨42, _⟩ => ⟨S128x4x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S_, .f32⟩
  | .hbm, ⟨48, _⟩ => ⟨S128x4, .f32⟩
  | .hbm, ⟨49, _⟩ => ⟨S128x4x1, .f32⟩
  | .hbm, ⟨50, _⟩ => ⟨S_, .f32⟩
  | .hbm, ⟨51, _⟩ => ⟨S128x4x1, .f32⟩
  | .hbm, ⟨52, _⟩ => ⟨S128x4x1, .f32⟩
  | .hbm, ⟨53, _⟩ => ⟨S128x4x1024, .f32⟩
  | .hbm, ⟨54, _⟩ => ⟨S128x4x1024, .f32⟩
  | .hbm, ⟨55, _⟩ => ⟨S128x4x1024, .f32⟩
  | .hbm, ⟨56, _⟩ => ⟨S_, .f32⟩
  | .hbm, ⟨57, _⟩ => ⟨S128x4, .f32⟩
  | .hbm, ⟨58, _⟩ => ⟨S128x4x1, .f32⟩
  | .hbm, ⟨59, _⟩ => ⟨S_, .f32⟩
  | .hbm, ⟨60, _⟩ => ⟨S128x4x1, .f32⟩
  | .hbm, ⟨61, _⟩ => ⟨S128x4x1, .f32⟩
  | .hbm, ⟨62, _⟩ => ⟨S128x4x1024, .f32⟩
  | .hbm, ⟨63, _⟩ => ⟨S128x4x1024, .f32⟩
  | .hbm, ⟨64, _⟩ => ⟨S_, .f32⟩
  | .hbm, ⟨65, _⟩ => ⟨S128x4x1, .f32⟩
  | .hbm, ⟨66, _⟩ => ⟨S128x4x1, .f32⟩
  | .hbm, ⟨67, _⟩ => ⟨S128x4x1, .f32⟩
  | .hbm, ⟨68, _⟩ => ⟨S128x4x1024, .f32⟩
  | .hbm, ⟨69, _⟩ => ⟨S128x4x1024, .f32⟩
  | .hbm, ⟨70, _⟩ => ⟨S1x1x1024, .f32⟩
  | .hbm, ⟨71, _⟩ => ⟨S128x4x1024, .f32⟩
  | .hbm, ⟨72, _⟩ => ⟨S128x4x1024, .f32⟩
  | .hbm, ⟨73, _⟩ => ⟨S1x1x1024, .f32⟩
  | .hbm, ⟨74, _⟩ => ⟨S128x4x1024, .f32⟩
  | .hbm, ⟨75, _⟩ => ⟨S128x4x1024, .f32⟩
  | .hbm, ⟨76, _⟩ => ⟨S128x2x1024, .f32⟩
  | .hbm, ⟨77, _⟩ => ⟨S_, .i32⟩
  | .hbm, ⟨78, _⟩ => ⟨S_, .f32⟩
  | .hbm, ⟨79, _⟩ => ⟨S128x4x1024, .f32⟩
  | .hbm, ⟨80, _⟩ => ⟨S512x1024, .f32⟩
  | .hbm, ⟨81, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_0 : Ref sig .tc := ⟨.hbm, 47, rfl⟩
abbrev main_v39 : Ref sig .tc := ⟨.hbm, 48, rfl⟩
abbrev main_v40 : Ref sig .tc := ⟨.hbm, 49, rfl⟩
abbrev main_cst_1 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_c : Ref sig .tc := ⟨.hbm, 77, rfl⟩
abbrev main_call0_v0 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== Proof.Reads.lean ====
/- Reading a list of stored pieces at an index given by its coordinates: a store whose box holds the index gives its
   payload there, a store whose box misses the index on one axis is passed over. -/
module

public import Idealize.ShloMosaic.Lib.Pipeline.Value
public import Idealize.ShloMosaic.Lib.Pipeline.ValueKit
public import Idealize.ShloMosaic.Lib.Pointwise

@[expose] public section

set_option maxRecDepth 16384

noncomputable section

namespace Cert.Reads

open Idealize.ShloMosaic

variable {e : EltTy} {Val : EltTy → Type} [∀ e, Nonempty (Val e)]

/-- The last store holds the index: its payload at the index less the offsets. -/
theorem hit {s : Shape} {off size : Fin s.rank → ℕ} {inb : ∀ a, off a + size a ≤ s.size a}
    (w : (Rect.unit (s := s) off size inb).shape.Idx → Val e) (L : List (View.Piece Val s e)) (y : s.Idx)
    (x : (Rect.unit (s := s) off size inb).shape.Idx) (h : ∀ a, (y a).val = off a + (x a).val) :
    View.canon (⟨Rect.unit (s := s) off size inb, w⟩ :: L) y = w x := by
  have hy : y = (Rect.unit (s := s) off size inb).emb x := by
    funext a
    apply Fin.ext
    rw [h a]
    show off a + (x a).val = off a + 1 * (x a).val
    omega
  rw [hy, View.canon_cons_emb]

/-- The last store misses the index on one axis: the earlier stores decide. -/
theorem miss {s : Shape} {off size : Fin s.rank → ℕ} {inb : ∀ a, off a + size a ≤ s.size a}
    (w : (Rect.unit (s := s) off size inb).shape.Idx → Val e) (L : List (View.Piece Val s e)) (y : s.Idx)
    (a : Fin s.rank) (h : (y a).val < off a ∨ off a + size a ≤ (y a).val) :
    View.canon (⟨Rect.unit (s := s) off size inb, w⟩ :: L) y = View.canon L y := by
  apply View.canon_cons_of_not_mem
  intro hm
  have hm' : y ∈ (Rect.unit (s := s) off size inb).set := hm
  rw [Rect.mem_set_unit] at hm'
  have := hm' a
  omega

theorem hit2 {N0 N1 o0 o1 n0 n1 : ℕ} {inb : ∀ a, (![o0, o1] : Fin 2 → ℕ) a + (![n0, n1] : Fin 2 → ℕ) a ≤ (⟨2, ![N0, N1]⟩ : Shape).size a}
    (w : (⟨2, ![n0, n1]⟩ : Shape).Idx → Val e) (L : List (View.Piece Val ⟨2, ![N0, N1]⟩ e)) (a : Fin N0) (b : Fin N1)
    (ha : o0 ≤ a.val ∧ a.val < o0 + n0) (hb : o1 ≤ b.val ∧ b.val < o1 + n1) :
    View.canon (⟨Rect.unit (s := ⟨2, ![N0, N1]⟩) ![o0, o1] ![n0, n1] inb, w⟩ :: L) (ix2 a b)
      = w (ix2 ⟨a.val - o0, by omega⟩ ⟨b.val - o1, by omega⟩) := by
  refine hit (s := ⟨2, ![N0, N1]⟩) w L (ix2 a b) (ix2 ⟨a.val - o0, by omega⟩ ⟨b.val - o1, by omega⟩) fun k => ?_
  match k with
  | ⟨0, _⟩ => show a.val = o0 + (a.val - o0); omega
  | ⟨1, _⟩ => show b.val = o1 + (b.val - o1); omega

theorem miss2_0 {N0 N1 o0 o1 n0 n1 : ℕ} {inb : ∀ a, (![o0, o1] : Fin 2 → ℕ) a + (![n0, n1] : Fin 2 → ℕ) a ≤ (⟨2, ![N0, N1]⟩ : Shape).size a}
    (w : (⟨2, ![n0, n1]⟩ : Shape).Idx → Val e) (L : List (View.Piece Val ⟨2, ![N0, N1]⟩ e)) (a : Fin N0) (b : Fin N1)
    (ha : a.val < o0 ∨ o0 + n0 ≤ a.val) :
    View.canon (⟨Rect.unit (s := ⟨2, ![N0, N1]⟩) ![o0, o1] ![n0, n1] inb, w⟩ :: L) (ix2 a b) = View.canon L (ix2 a b) :=
  miss (s := ⟨2, ![N0, N1]⟩) w L (ix2 a b) 0 ha

theorem miss2_1 {N0 N1 o0 o1 n0 n1 : ℕ} {inb : ∀ a, (![o0, o1] : Fin 2 → ℕ) a + (![n0, n1] : Fin 2 → ℕ) a ≤ (⟨2, ![N0, N1]⟩ : Shape).size a}
    (w : (⟨2, ![n0, n1]⟩ : Shape).Idx → Val e) (L : List (View.Piece Val ⟨2, ![N0, N1]⟩ e)) (a : Fin N0) (b : Fin N1)
    (hb : b.val < o1 ∨ o1 + n1 ≤ b.val) :
    View.canon (⟨Rect.unit (s := ⟨2, ![N0, N1]⟩) ![o0, o1] ![n0, n1] inb, w⟩ :: L) (ix2 a b) = View.canon L (ix2 a b) :=
  miss (s := ⟨2, ![N0, N1]⟩) w L (ix2 a b) 1 hb

theorem hit3 {N0 N1 N2 o0 o1 o2 n0 n1 n2 : ℕ}
    {inb : ∀ a, (![o0, o1, o2] : Fin 3 → ℕ) a + (![n0, n1, n2] : Fin 3 → ℕ) a ≤ (⟨3, ![N0, N1, N2]⟩ : Shape).size a}
    (w : (⟨3, ![n0, n1, n2]⟩ : Shape).Idx → Val e) (L : List (View.Piece Val ⟨3, ![N0, N1, N2]⟩ e)) (a : Fin N0) (b : Fin N1) (c : Fin N2)
    (ha : o0 ≤ a.val ∧ a.val < o0 + n0) (hb : o1 ≤ b.val ∧ b.val < o1 + n1) (hc : o2 ≤ c.val ∧ c.val < o2 + n2) :
    View.canon (⟨Rect.unit (s := ⟨3, ![N0, N1, N2]⟩) ![o0, o1, o2] ![n0, n1, n2] inb, w⟩ :: L) (ix3 a b c)
      = w (ix3 ⟨a.val - o0, by omega⟩ ⟨b.val - o1, by omega⟩ ⟨c.val - o2, by omega⟩) := by
  refine hit (s := ⟨3, ![N0, N1, N2]⟩) w L (ix3 a b c) (ix3 ⟨a.val - o0, by omega⟩ ⟨b.val - o1, by omega⟩ ⟨c.val - o2, by omega⟩) fun k => ?_
  match k with
  | ⟨0, _⟩ => show a.val = o0 + (a.val - o0); omega
  | ⟨1, _⟩ => show b.val = o1 + (b.val - o1); omega
  | ⟨2, _⟩ => show c.val = o2 + (c.val - o2); omega

theorem miss3_0 {N0 N1 N2 o0 o1 o2 n0 n1 n2 : ℕ}
    {inb : ∀ a, (![o0, o1, o2] : Fin 3 → ℕ) a + (![n0, n1, n2] : Fin 3 → ℕ) a ≤ (⟨3, ![N0, N1, N2]⟩ : Shape).size a}
    (w : (⟨3, ![n0, n1, n2]⟩ : Shape).Idx → Val e) (L : List (View.Piece Val ⟨3, ![N0, N1, N2]⟩ e)) (a : Fin N0) (b : Fin N1) (c : Fin N2)
    (ha : a.val < o0 ∨ o0 + n0 ≤ a.val) :
    View.canon (⟨Rect.unit (s := ⟨3, ![N0, N1, N2]⟩) ![o0, o1, o2] ![n0, n1, n2] inb, w⟩ :: L) (ix3 a b c) = View.canon L (ix3 a b c) :=
  miss (s := ⟨3, ![N0, N1, N2]⟩) w L (ix3 a b c) 0 ha

theorem miss3_1 {N0 N1 N2 o0 o1 o2 n0 n1 n2 : ℕ}
    {inb : ∀ a, (![o0, o1, o2] : Fin 3 → ℕ) a + (![n0, n1, n2] : Fin 3 → ℕ) a ≤ (⟨3, ![N0, N1, N2]⟩ : Shape).size a}
    (w : (⟨3, ![n0, n1, n2]⟩ : Shape).Idx → Val e) (L : List (View.Piece Val ⟨3, ![N0, N1, N2]⟩ e)) (a : Fin N0) (b : Fin N1) (c : Fin N2)
    (hb : b.val < o1 ∨ o1 + n1 ≤ b.val) :
    View.canon (⟨Rect.unit (s := ⟨3, ![N0, N1, N2]⟩) ![o0, o1, o2] ![n0, n1, n2] inb, w⟩ :: L) (ix3 a b c) = View.canon L (ix3 a b c) :=
  miss (s := ⟨3, ![N0, N1, N2]⟩) w L (ix3 a b c) 1 hb

theorem miss3_2 {N0 N1 N2 o0 o1 o2 n0 n1 n2 : ℕ}
    {inb : ∀ a, (![o0, o1, o2] : Fin 3 → ℕ) a + (![n0, n1, n2] : Fin 3 → ℕ) a ≤ (⟨3, ![N0, N1, N2]⟩ : Shape).size a}
    (w : (⟨3, ![n0, n1, n2]⟩ : Shape).Idx → Val e) (L : List (View.Piece Val ⟨3, ![N0, N1, N2]⟩ e)) (a : Fin N0) (b : Fin N1) (c : Fin N2)
    (hc : c.val < o2 ∨ o2 + n2 ≤ c.val) :
    View.canon (⟨Rect.unit (s := ⟨3, ![N0, N1, N2]⟩) ![o0, o1, o2] ![n0, n1, n2] inb, w⟩ :: L) (ix3 a b c) = View.canon L (ix3 a b c) :=
  miss (s := ⟨3, ![N0, N1, N2]⟩) w L (ix3 a b c) 2 hc

end Cert.Reads

end
-- ==== Proof.Spec.lean ====
/- The rows the layers compute, as functions of extended reals: the layer norm of a row, the squared-ReLU hidden row and
   the multi-layer perceptron's row. Both the kernels and the references are read as these. -/
module

public import proofs.«01_k».proof.Proof.Reads
public import Idealize.ShloMosaic.PureOps.Ideal

@[expose] public section

set_option maxRecDepth 16384

noncomputable section

namespace Cert.Reads

open Idealize.ShloMosaic

/-- The mean of a row of 1024. -/
def mean (u : Fin 1024 → EReal) : EReal := Ideal.div (∑ j, u j) (Ideal.ofBits .f32 0x44800000#32)

/-- The layer norm of a row of 1024, scaled and shifted. -/
def lnorm (u g b : Fin 1024 → EReal) (j : Fin 1024) : EReal :=
  (u j - mean u) * Ideal.rsqrt (Ideal.div (∑ i, (u i - mean u) * (u i - mean u)) (Ideal.ofBits .f32 0x44800000#32)
    + Ideal.ofBits .f32 0x3727C5AC#32) * g j + b j

/-- A hidden unit of the squared-ReLU perceptron. -/
def hid (x : Fin 1024 → EReal) (w : Fin 1024 → Fin 4096 → EReal) (f : Fin 4096) : EReal :=
  max (∑ k, x k * w k f) 0 * max (∑ k, x k * w k f) 0

/-- The residual sum the perceptron's layer norm is taken of. -/
def resid (x y : Fin 1024 → EReal) (j : Fin 1024) : EReal := Ideal.ofBits .f32 0x3FB504F3#32 * x j + y j

/-- The perceptron's row. -/
def mlpRow (x : Fin 1024 → EReal) (wu : Fin 1024 → Fin 4096 → EReal) (wd : Fin 4096 → Fin 1024 → EReal)
    (g b : Fin 1024 → EReal) : Fin 1024 → EReal :=
  lnorm (resid x fun j => ∑ f, hid x wu f * wd f j) g b

theorem chunk4 (f : Fin 4096) : f.val < 1024 ∨ (1024 ≤ f.val ∧ f.val < 2048) ∨ (2048 ≤ f.val ∧ f.val < 3072)
    ∨ (3072 ≤ f.val) := by omega

end Cert.Reads

end
-- ==== Proof.MlpBody.lean ====
module

public import proofs.«01_k».proof.Proof.Gen.MlpIdeal.Frame.RunA
public import proofs.«01_k».proof.Proof.Spec

@[expose] public section

set_option maxRecDepth 16384

noncomputable section

namespace Cert.MlpIdeal.Hand

open Cert.MlpIdeal Cert.MlpIdeal.Gen Idealize.ShloMosaic Idealize.ShloMosaic.TcCoe Cert.Reads

variable (c : Dev nD) (a1 : Memref sig .tc .vmem S1024x1024 .f32) (h1 : a1.IsWhole)
  (a2 : Memref sig .tc .vmem S1x1024x4096 .bf16) (h2 : a2.IsWhole)
  (a7 : Memref sig .tc .vmem S2x256x1024 .bf16) (a8 : Memref sig .tc .vmem S2x256x4096 .bf16)
  (x0 : Vec Ideal S1024x1024 .f32) (x1 : Vec Ideal S1x1024x4096 .bf16)

theorem v6_apply (r : Fin 256) (k : Fin 1024) :
    kernelRun0_A.sl.v6 (F := Ideal) c a1 h1 a7 x0 (ix3 (n0 := 1) 0 r k) = x0 (ix2 ⟨r.val, by omega⟩ k) := by
  unfold kernelRun0_A.sl.v6
  rw [View.readCov_eq_canon']
  unfold kernelRun0_A.sl.HS0_1
  pointwise
  simp (disch := omega) only [hit3, miss3_0, miss3_1, miss3_2]
  pointwise [k0_pay2]
  rw [View.readAt_eq_ld, h1.read_unread]
  pointwise

theorem v60_apply (r : Fin 256) (k : Fin 1024) :
    kernelRun0_A.sl.v60 (F := Ideal) c a1 h1 a7 x0 (ix3 (n0 := 1) 0 r k) = x0 (ix2 ⟨256 + r.val, by omega⟩ k) := by
  unfold kernelRun0_A.sl.v60
  rw [View.readCov_eq_canon']
  unfold kernelRun0_A.sl.HS0_2 kernelRun0_A.sl.r_1
  pointwise
  simp (disch := simp) only [hit3, miss3_0, miss3_1, miss3_2]
  pointwise [k0_pay7]
  rw [View.readAt_eq_ld, h1.read_unread]
  pointwise

theorem v149_apply (r : Fin 256) (k : Fin 1024) :
    kernelRun0_A.sl.v149 (F := Ideal) c a1 h1 a7 x0 (ix3 (n0 := 1) 0 r k) = x0 (ix2 ⟨512 + r.val, by omega⟩ k) := by
  unfold kernelRun0_A.sl.v149
  rw [View.readCov_eq_canon']
  unfold kernelRun0_A.sl.HS0_3
  pointwise
  simp (disch := first | omega | (simp; omega)) only [hit3, miss3_0, miss3_1, miss3_2]
  pointwise [k0_pay19]
  rw [View.readAt_eq_ld, h1.read_unread]
  pointwise

theorem v238_apply (r : Fin 256) (k : Fin 1024) :
    kernelRun0_A.sl.v238 (F := Ideal) c a1 h1 a7 x0 (ix3 (n0 := 1) 0 r k) = x0 (ix2 ⟨768 + r.val, by omega⟩ k) := by
  unfold kernelRun0_A.sl.v238
  rw [View.readCov_eq_canon']
  unfold kernelRun0_A.sl.HS0_4
  pointwise
  simp (disch := first | omega | (simp; omega)) only [hit3, miss3_0, miss3_1, miss3_2]
  pointwise [k0_pay30]
  rw [View.readAt_eq_ld, h1.read_unread]
  pointwise

theorem v72_apply (r : Fin 256) (f : Fin 4096) :
    kernelRun0_A.sl.v72 (F := Ideal) c a1 h1 a2 h2 a7 a8 x0 x1 (ix3 (n0 := 1) 0 r f)
      = hid (fun k => x0 (ix2 ⟨r.val, by omega⟩ k)) (fun k f => x1 (ix3 0 k f)) f := by
  unfold kernelRun0_A.sl.v72
  rw [View.readCov_eq_canon']
  simp only [kernelRun0_A.sl.HS1_5, kernelRun0_A.sl.r]
  pointwise
  rcases chunk4 f with hf | hf | hf | hf
  all_goals
    simp (disch := first | omega | (simp; omega)) only [hit3, miss3_0, miss3_1, miss3_2]
    pointwise [k0_pay3, k0_pay4, k0_pay5, k0_pay6, v6_apply, hid]
    rw [View.readAt_eq_ld, h2.read_unread]
    pointwise
    try simp (disch := omega) only [Nat.add_sub_of_le]

theorem v161_apply (r : Fin 256) (f : Fin 4096) :
    kernelRun0_A.sl.v161 (F := Ideal) c a1 h1 a2 h2 a7 a8 x0 x1 (ix3 (n0 := 1) 0 r f)
      = hid (fun k => x0 (ix2 ⟨256 + r.val, by omega⟩ k)) (fun k f => x1 (ix3 0 k f)) f := by
  unfold kernelRun0_A.sl.v161
  rw [View.readCov_eq_canon']
  simp only [kernelRun0_A.sl.HS1_9, kernelRun0_A.sl.HS1_5, kernelRun0_A.sl.r, kernelRun0_A.sl.r_6, kernelRun0_A.sl.r_7]
  pointwise
  rcases chunk4 f with hf | hf | hf | hf
  all_goals
    simp (disch := first | omega | (simp; omega)) only [hit3, miss3_0, miss3_1, miss3_2]
    pointwise [k0_pay8, k0_pay15, k0_pay16, k0_pay17, k0_pay18, k0_pay20, k0_pay21, v60_apply, v149_apply, hid]
    rw [View.readAt_eq_ld, h2.read_unread]
    pointwise
    try simp (disch := omega) only [Nat.add_sub_of_le]

theorem v250_apply (r : Fin 256) (f : Fin 4096) :
    kernelRun0_A.sl.v250 (F := Ideal) c a1 h1 a2 h2 a7 a8 x0 x1 (ix3 (n0 := 1) 0 r f)
      = hid (fun k => x0 (ix2 ⟨512 + r.val, by omega⟩ k)) (fun k f => x1 (ix3 0 k f)) f := by
  unfold kernelRun0_A.sl.v250
  rw [View.readCov_eq_canon']
  simp only [kernelRun0_A.sl.HS1_13, kernelRun0_A.sl.HS1_9, kernelRun0_A.sl.HS1_5, kernelRun0_A.sl.r, kernelRun0_A.sl.r_6, kernelRun0_A.sl.r_7]
  pointwise
  rcases chunk4 f with hf | hf | hf | hf
  all_goals
    simp (disch := first | omega | (simp; omega)) only [hit3, miss3_0, miss3_1, miss3_2]
    pointwise [k0_pay20, k0_pay21, k0_pay27, k0_pay28, k0_pay29, k0_pay31, v238_apply, v149_apply, hid]
    rw [View.readAt_eq_ld, h2.read_unread]
    pointwise
    try simp (disch := omega) only [Nat.add_sub_of_le]

theorem v321_apply (r : Fin 256) (f : Fin 4096) :
    kernelRun0_A.sl.v321 (F := Ideal) c a1 h1 a2 h2 a7 a8 x0 x1 (ix3 (n0 := 1) 0 r f)
      = hid (fun k => x0 (ix2 ⟨768 + r.val, by omega⟩ k)) (fun k f => x1 (ix3 0 k f)) f := by
  unfold kernelRun0_A.sl.v321
  rw [View.readCov_eq_canon']
  simp only [kernelRun0_A.sl.HS1_16, kernelRun0_A.sl.HS1_13, kernelRun0_A.sl.HS1_9, kernelRun0_A.sl.HS1_5, kernelRun0_A.sl.r, kernelRun0_A.sl.r_6, kernelRun0_A.sl.r_7, kernelRun0_A.sl.r_12]
  pointwise
  rcases chunk4 f with hf | hf | hf | hf
  all_goals
    simp (disch := first | omega | (simp; omega)) only [hit3, miss3_0, miss3_1, miss3_2]
    pointwise [k0_pay31, k0_pay33, k0_pay34, k0_pay35, k0_pay36, k0_pay37, v238_apply, v149_apply, hid]
    rw [View.readAt_eq_ld, h2.read_unread]
    pointwise
    try simp (disch := omega) only [Nat.add_sub_of_le]

end Cert.MlpIdeal.Hand
end
-- ==== Proof.MlpOut.lean ====
module

public import proofs.«01_k».proof.Proof.Gen.MlpIdeal.Value
public import proofs.«01_k».proof.Proof.MlpBody

@[expose] public section

set_option maxRecDepth 16384

noncomputable section

namespace Cert.MlpIdeal.Hand

open Cert.MlpIdeal Cert.MlpIdeal.Gen Idealize.ShloMosaic Idealize.ShloMosaic.TcCoe Cert.Reads

/-- What one grid point leaves in its output block: each row is the perceptron's row of the input block's row. -/
theorem out_apply (c : Dev nD) (i : grid0.Coords) (a1 : Memref sig .tc .vmem S1024x1024 .f32) (h1 : a1.IsWhole)
    (a2 : Memref sig .tc .vmem S1x1024x4096 .bf16) (h2 : a2.IsWhole) (a3 : Memref sig .tc .vmem S1x4096x1024 .bf16) (h3 : a3.IsWhole)
    (a4 : Memref sig .tc .vmem S1x1x1024 .f32) (h4 : a4.IsWhole) (a5 : Memref sig .tc .vmem S1x1x1024 .f32) (h5 : a5.IsWhole)
    (a6 : Memref sig .tc .vmem S1024x1024 .f32) (h6 : a6.IsWhole)
    (a7 : Memref sig .tc .vmem S2x256x1024 .bf16) (h7 : a7.IsWhole) (a8 : Memref sig .tc .vmem S2x256x4096 .bf16) (h8 : a8.IsWhole)
    (x0 : Vec Ideal S1024x1024 .f32) (x1 : Vec Ideal S1x1024x4096 .bf16) (x2 : Vec Ideal S1x4096x1024 .bf16)
    (x3 x4 : Vec Ideal S1x1x1024 .f32) (r j : Fin 1024) :
    out0_A_5 (F := Ideal) c i a1 h1 a2 h2 a3 h3 a4 h4 a5 h5 a6 h6 a7 h7 a8 h8 x0 x1 x2 x3 x4 (ix2 r j)
      = mlpRow (fun k => x0 (ix2 r k)) (fun k f => x1 (ix3 0 k f)) (fun f j => x2 (ix3 0 f j))
          (fun j => x3 (ix3 0 0 j)) (fun j => x4 (ix3 0 0 j)) j := by
  unfold out0_A_5
  rw [View.read_writes_junk_eq_canon]
  unfold kernelRun0_A
  dsimp only
  rcases (by omega : r.val < 256 ∨ (256 ≤ r.val ∧ r.val < 512) ∨ (512 ≤ r.val ∧ r.val < 768) ∨ (768 ≤ r.val)) with hf | hf | hf | hf
  all_goals
    simp (disch := first | omega | (simp; omega)) only [hit2, miss2_0, miss2_1]
    try simp only [kernelRun0_A.sl.r_2, kernelRun0_A.sl.r_3, kernelRun0_A.sl.r_4, kernelRun0_A.sl.r_5, kernelRun0_A.sl.r_8,
      kernelRun0_A.sl.r_9, kernelRun0_A.sl.r_10, kernelRun0_A.sl.r_11, kernelRun0_A.sl.r_13, kernelRun0_A.sl.r_14,
      kernelRun0_A.sl.r_15, kernelRun0_A.sl.r_16]
    pointwise [k0_pay1, k0_pay9, k0_pay10, k0_pay11, k0_pay12, k0_pay13, k0_pay14, k0_pay22, k0_pay23, k0_pay24, k0_pay25,
      k0_pay26, k0_pay32, k0_pay38, k0_pay39, k0_pay40, k0_pay41, v72_apply, v161_apply, v250_apply, v321_apply,
      View.readAt_eq_ld, h1.read_unread, h3.read_unread, h4.read_unread, h5.read_unread]
    try simp (disch := omega) only [Nat.add_sub_of_le]
    rfl

end Cert.MlpIdeal.Hand
end
-- ==== Proof.MlpValue.lean ====
module

public import proofs.«01_k».proof.Proof.MlpOut
public import proofs.«01_k».proof.Proof.Gen.MlpRefIdeal.Run
public import proofs.«01_k».proof.Defs

@[expose] public section

set_option maxRecDepth 16384

noncomputable section

open Idealize.ShloMosaic Idealize.ShloMosaic.TcCoe Idealize.SL.Sem
open Idealize.ShloMosaic.Pipeline (Dat)

namespace Cert.MlpIdeal.Hand

open Cert.MlpIdeal Cert.MlpIdeal.Gen Cert.Reads

/-- The layer's function of the five arguments: row `R` of the result is row `R % 2048` of sequence `R / 2048`. -/
def fn (x : FVec Ideal S8x2048x1024 .f32) (wu : FVec Ideal S2x1024x4096 .f32) (wd : FVec Ideal S2x4096x1024 .f32)
    (g b : FVec Ideal S2x1024 .f32) : FVec Ideal S16384x1024 .f32 := fun i =>
  mlpRow (fun k => x (ix3 ⟨(i 0).val / 2048, by have : (i 0).val < 16384 := (i 0).isLt; omega⟩ ⟨(i 0).val % 2048, by omega⟩ k))
    (fun k f => wu (ix3 1 k f)) (fun f j => wd (ix3 1 f j)) (fun j => g (ix2 1 j)) (fun j => b (ix2 1 j)) (i 1)

variable (m : (ℓ : Loc nD τ sig) → Buf (Elt Ideal) ℓ) (ρ : Dev nD → PrngReg) (c : Dev nD)

theorem V_v4 : V m c main_v4 = shapeCast S16384x1024 (m ((c : Thread nD τ).loc main_arg0)) shapeCasts_S8x2048x1024_S16384x1024 := by
  unfold V hostOps0
  after_results_simp
  rfl

theorem V_v0 : V m c main_v0 = truncf (F := Ideal) .bf16 (m ((c : Thread nD τ).loc main_arg1) : FVec Ideal S2x1024x4096 .f32) bitsLt_bf16_f32 := by
  unfold V hostOps0
  after_results_simp

theorem V_v1 : V m c main_v1 = truncf (F := Ideal) .bf16 (m ((c : Thread nD τ).loc main_arg2) : FVec Ideal S2x4096x1024 .f32) bitsLt_bf16_f32 := by
  unfold V hostOps0
  after_results_simp

theorem V_v2 : V m c main_v2 = shapeCast S2x1x1024 (m ((c : Thread nD τ).loc main_arg3)) shapeCasts_S2x1024_S2x1x1024 := by
  unfold V hostOps0
  after_results_simp
  rfl

theorem V_v3 : V m c main_v3 = shapeCast S2x1x1024 (m ((c : Thread nD τ).loc main_arg4)) shapeCasts_S2x1024_S2x1x1024 := by
  unfold V hostOps0
  after_results_simp
  rfl

theorem geom : ∀ t : Fin grid0.N, win0_0.index t 0 = t.val ∧ win0_0.index t 1 = 0
    ∧ win0_1.index t 0 = 1 ∧ win0_1.index t 1 = 0 ∧ win0_1.index t 2 = 0
    ∧ win0_2.index t 0 = 1 ∧ win0_2.index t 1 = 0 ∧ win0_2.index t 2 = 0
    ∧ win0_3.index t 0 = 1 ∧ win0_3.index t 1 = 0 ∧ win0_3.index t 2 = 0
    ∧ win0_4.index t 0 = 1 ∧ win0_4.index t 1 = 0 ∧ win0_4.index t 2 = 0
    ∧ win0_5.index t 0 = t.val ∧ win0_5.index t 1 = 0 := by decide +kernel

theorem v4_apply (x : FVec Ideal S8x2048x1024 .f32) (R : Fin 16384) (k : Fin 1024) :
    (shapeCast S16384x1024 x : FVec Ideal S16384x1024 .f32) (ix2 R k) = x (ix3 ⟨R.val / 2048, by omega⟩ ⟨R.val % 2048, by omega⟩ k) := by
  pointwise

theorem iblk0 (t : Fin cfg0.N) (r k : Fin 1024) (h : t.val * 1024 + r.val < 16384) :
    (iblk m c 0 t : Vec Ideal S1024x1024 .f32) (ix2 r k) = (m ((c : Thread nD τ).loc main_arg0) : FVec Ideal S8x2048x1024 .f32)
      (ix3 ⟨(t.val * 1024 + r.val) / 2048, by omega⟩ ⟨(t.val * 1024 + r.val) % 2048, by omega⟩ k) := by
  obtain ⟨h0, h1, -⟩ := geom t
  unfold iblk
  rw [View.read_apply]
  refine Eq.trans ?_ ((congrFun (V_v4 m c) (ix2 ⟨t.val * 1024 + r.val, h⟩ k)).trans (v4_apply _ _ _))
  show V m c main_v4 _ = V m c main_v4 _
  congr 1
  funext a
  apply Fin.ext
  match a with
  | ⟨0, _⟩ => show win0_0.index t 0 * 1024 + 1 * r.val = t.val * 1024 + r.val; rw [h0]; omega
  | ⟨1, _⟩ => show win0_0.index t 1 * 1024 + 1 * k.val = k.val; rw [h1]; omega

theorem iblk1 (t : Fin cfg0.N) (k : Fin 1024) (f : Fin 4096) :
    (iblk m c 1 t : Vec Ideal S1x1024x4096 .bf16) (ix3 0 k f) = (m ((c : Thread nD τ).loc main_arg1) : FVec Ideal S2x1024x4096 .f32) (ix3 1 k f) := by
  obtain ⟨-, -, h0, h1, h2, -⟩ := geom t
  unfold iblk
  rw [View.read_apply]
  refine Eq.trans ?_ ((congrFun (V_v0 m c) (ix3 1 k f)).trans (by pointwise))
  show V m c main_v0 _ = V m c main_v0 _
  congr 1
  funext a
  apply Fin.ext
  match a with
  | ⟨0, _⟩ => show win0_1.index t 0 * 1 + 1 * 0 = 1; rw [h0]
  | ⟨1, _⟩ => show win0_1.index t 1 * 1024 + 1 * k.val = k.val; rw [h1]; omega
  | ⟨2, _⟩ => show win0_1.index t 2 * 4096 + 1 * f.val = f.val; rw [h2]; omega

theorem iblk2 (t : Fin cfg0.N) (f : Fin 4096) (j : Fin 1024) :
    (iblk m c 2 t : Vec Ideal S1x4096x1024 .bf16) (ix3 0 f j) = (m ((c : Thread nD τ).loc main_arg2) : FVec Ideal S2x4096x1024 .f32) (ix3 1 f j) := by
  obtain ⟨-, -, -, -, -, h0, h1, h2, -⟩ := geom t
  unfold iblk
  rw [View.read_apply]
  refine Eq.trans ?_ ((congrFun (V_v1 m c) (ix3 1 f j)).trans (by pointwise))
  show V m c main_v1 _ = V m c main_v1 _
  congr 1
  funext a
  apply Fin.ext
  match a with
  | ⟨0, _⟩ => show win0_2.index t 0 * 1 + 1 * 0 = 1; rw [h0]
  | ⟨1, _⟩ => show win0_2.index t 1 * 4096 + 1 * f.val = f.val; rw [h1]; omega
  | ⟨2, _⟩ => show win0_2.index t 2 * 1024 + 1 * j.val = j.val; rw [h2]; omega

theorem iblk3 (t : Fin cfg0.N) (j : Fin 1024) :
    (iblk m c 3 t : Vec Ideal S1x1x1024 .f32) (ix3 0 0 j) = (m ((c : Thread nD τ).loc main_arg3) : FVec Ideal S2x1024 .f32) (ix2 1 j) := by
  obtain ⟨-, -, -, -, -, -, -, -, h0, h1, h2, -⟩ := geom t
  unfold iblk
  rw [View.read_apply]
  refine Eq.trans ?_ ((congrFun (V_v2 m c) (ix3 1 0 j)).trans (by pointwise))
  show V m c main_v2 _ = V m c main_v2 _
  congr 1
  funext a
  apply Fin.ext
  match a with
  | ⟨0, _⟩ => show win0_3.index t 0 * 1 + 1 * 0 = 1; rw [h0]
  | ⟨1, _⟩ => show win0_3.index t 1 * 1 + 1 * 0 = 0; rw [h1]
  | ⟨2, _⟩ => show win0_3.index t 2 * 1024 + 1 * j.val = j.val; rw [h2]; omega

theorem iblk4 (t : Fin cfg0.N) (j : Fin 1024) :
    (iblk m c 4 t : Vec Ideal S1x1x1024 .f32) (ix3 0 0 j) = (m ((c : Thread nD τ).loc main_arg4) : FVec Ideal S2x1024 .f32) (ix2 1 j) := by
  obtain ⟨-, -, -, -, -, -, -, -, -, -, -, h0, h1, h2, -⟩ := geom t
  unfold iblk
  rw [View.read_apply]
  refine Eq.trans ?_ ((congrFun (V_v3 m c) (ix3 1 0 j)).trans (by pointwise))
  show V m c main_v3 _ = V m c main_v3 _
  congr 1
  funext a
  apply Fin.ext
  match a with
  | ⟨0, _⟩ => show win0_4.index t 0 * 1 + 1 * 0 = 1; rw [h0]
  | ⟨1, _⟩ => show win0_4.index t 1 * 1 + 1 * 0 = 0; rw [h1]
  | ⟨2, _⟩ => show win0_4.index t 2 * 1024 + 1 * j.val = j.val; rw [h2]; omega

/-- What the result array is shown to hold. -/
abbrev val : Buf (Elt Ideal) ((c : Thread nD τ).loc main_v5) :=
  fn (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (t : Fin cfg0.N) (_hf : (cfg0.win 5).flush t = true) :
    (dats m 0 c).flushed 5 t = ((cfg0.win 5).blk t).view.read (Elt Ideal) (val m c) := by
  have hN : t.val < 16 := lt_of_lt_of_eq t.isLt N_0
  obtain ⟨-, -, -, -, -, -, -, -, -, -, -, -, -, -, h0, h1⟩ := geom t
  rw [Cert.MlpIdeal.Value.flushed5_A]
  funext y
  obtain ⟨r, j, rfl⟩ : ∃ (r j : Fin 1024), y = ix2 r j := ⟨y 0, y 1, eq_ix2 y⟩
  have hb : t.val * 1024 + r.val < 16384 := by omega
  refine (out_apply c _ _ _ _ _ _ _ _ _ _ _ _ _ _ _ _ _ _ _ _ _ _ r j).trans ?_
  rw [View.read_apply]
  have he : ((cfg0.win 5).blk t).view.emb (ix2 r j) = (ix2 ⟨t.val * 1024 + r.val, hb⟩ j : S16384x1024.Idx) := by
    funext a
    apply Fin.ext
    match a with
    | ⟨0, _⟩ => show win0_5.index t 0 * 1024 + 1 * r.val = t.val * 1024 + r.val; rw [h0]; omega
    | ⟨1, _⟩ => show win0_5.index t 1 * 1024 + 1 * j.val = j.val; rw [h1]; omega
  show _ = val m c (((cfg0.win 5).blk t).view.emb (ix2 r j))
  rw [he]
  simp only [iblk0 m c t r _ hb, iblk1, iblk2, iblk3, iblk4]
  rfl

theorem cover (i : S16384x1024.Idx) : ∃ t : Fin cfg0.N, (cfg0.win 5).flush t = true ∧ i ∈ ((cfg0.win 5).blk t).view.set := by
  have hi : (i 0).val < 16384 := (i 0).isLt
  have hj : (i 1).val < 1024 := (i 1).isLt
  have ht : (i 0).val / 1024 < grid0.N := by rw [N_0]; omega
  obtain ⟨-, -, -, -, -, -, -, -, -, -, -, -, -, -, h0, h1⟩ := geom ⟨(i 0).val / 1024, ht⟩
  refine ⟨⟨(i 0).val / 1024, ht⟩, flush0_5 _, ?_⟩
  show i ∈ ((View.whole main_v5).slice (win0_5.rect ⟨(i 0).val / 1024, ht⟩)).set
  rw [View.set_slice_whole, Rect.mem_set_unit]
  intro a
  match a with
  | ⟨0, _⟩ =>
    show win0_5.index ⟨(i 0).val / 1024, ht⟩ 0 * 1024 ≤ (i 0).val ∧ (i 0).val < win0_5.index ⟨(i 0).val / 1024, ht⟩ 0 * 1024 + 1024
    rw [h0]; dsimp only; omega
  | ⟨1, _⟩ =>
    show win0_5.index ⟨(i 0).val / 1024, ht⟩ 1 * 1024 ≤ (i 1).val ∧ (i 1).val < win0_5.index ⟨(i 0).val / 1024, ht⟩ 1 * 1024 + 1024
    rw [h1]; omega

theorem final : (dats m 0 c).arrAt 5 cfg0.N = val m c :=
  (dats m 0 c).arrAt_eq_of_cover 5 (val m c) (flushed_eq m c) cover

end Cert.MlpIdeal.Hand

namespace Cert.MlpRefIdeal.Hand

open Cert.MlpRefIdeal Cert.MlpRefIdeal.Gen Cert.Reads

variable (m : (ℓ : Loc nD τ sig) → Buf (Elt Ideal) ℓ) (c : Dev nD)

/-- The reference computes the same function of its arguments. -/
theorem res_eq : Cert.MlpRefIdeal.Value.res_main_v39 m c
    = Cert.MlpIdeal.Hand.fn (m ((c : Thread nD τ).loc main_arg0)) (m ((c : Thread nD τ).loc main_arg1))
        (m ((c : Thread nD τ).loc main_arg2)) (m ((c : Thread nD τ).loc main_arg3)) (m ((c : Thread nD τ).loc main_arg4)) := by
  funext y
  obtain ⟨r, j, rfl⟩ : ∃ (r : Fin 16384) (j : Fin 1024), y = ix2 r j := ⟨y 0, y 1, eq_ix2 y⟩
  unfold Cert.MlpRefIdeal.Value.res_main_v39 Cert.MlpIdeal.Hand.fn
  pointwise [mlpRow, lnorm, mean, resid, hid]

end Cert.MlpRefIdeal.Hand

namespace Cert.MlpValue

theorem algebraic : Cert.algebraic_MlpIdeal_MlpRefIdeal := fun m ρ m' ρ' _ hag =>
  ⟨fun c => Cert.MlpIdeal.Hand.val m c,
    (θ_run _ _ _).mono (fun _ h c => ⟨(h c).1.trans (Cert.MlpIdeal.Hand.final m c), (h c).2⟩)
      (Cert.MlpIdeal.Value.run_blocks m ρ),
    (θ_run _ _ _).mono (fun _ h c => ⟨(h c).1.trans (by
        rw [Cert.MlpRefIdeal.Hand.res_eq, (hag c).1, (hag c).2.1, (hag c).2.2.1, (hag c).2.2.2.1, (hag c).2.2.2.2]), (h c).2⟩)
      (Cert.MlpRefIdeal.Value.run m' ρ')⟩

end Cert.MlpValue
end
-- ==== Proof.ConvSpec.lean ====
/- The gated short convolution read row by row: the three projections of a row, the row of gated inputs `u`, the
   sequence of those rows with the two that the state holds put first, and the row that the layer returns. -/
module

public import proofs.«01_k».proof.Proof.Spec

@[expose] public section

set_option maxRecDepth 16384

noncomputable section

namespace Cert.Reads

open Idealize.ShloMosaic

/-- A row times a column of the input weight. -/
def pj (x : FVec Ideal ⟨2, ![512, 1024]⟩ .f32) (w : FVec Ideal ⟨2, ![1024, 3072]⟩ .bf16) (r : Fin 512) (n : Fin 3072) : EReal :=
  ∑ k : Fin 1024, x (ix2 r k) * w (ix2 k n)

def bgP (x : FVec Ideal ⟨2, ![512, 1024]⟩ .f32) (w : FVec Ideal ⟨2, ![1024, 3072]⟩ .bf16) (r : Fin 512) (j : Fin 1024) : EReal :=
  pj x w r ⟨j.val, by omega⟩

def cgP (x : FVec Ideal ⟨2, ![512, 1024]⟩ .f32) (w : FVec Ideal ⟨2, ![1024, 3072]⟩ .bf16) (r : Fin 512) (j : Fin 1024) : EReal :=
  pj x w r ⟨1024 + j.val, by omega⟩

def hP (x : FVec Ideal ⟨2, ![512, 1024]⟩ .f32) (w : FVec Ideal ⟨2, ![1024, 3072]⟩ .bf16) (r : Fin 512) (j : Fin 1024) : EReal :=
  pj x w r ⟨2048 + j.val, by omega⟩

def uP (x : FVec Ideal ⟨2, ![512, 1024]⟩ .f32) (w : FVec Ideal ⟨2, ![1024, 3072]⟩ .bf16) (r : Fin 512) (j : Fin 1024) : EReal :=
  cgP x w r j * hP x w r j

/-- The inputs of the convolution in order: the two rows of the state, then two blocks of 512 rows. -/
def useq (c0 c1 : Fin 1024 → EReal) (u0 u1 : Fin 512 → Fin 1024 → EReal) (n : ℕ) (j : Fin 1024) : EReal :=
  if n = 0 then c0 j else if n = 1 then c1 j
  else if h : n < 514 then u0 ⟨n - 2, by omega⟩ j else if h : n < 1026 then u1 ⟨n - 514, by omega⟩ j else 0

/-- A row of the gated convolution. -/
def gat (bg : Fin 1024 → EReal) (u : ℕ → Fin 1024 → EReal) (w : Fin 3 → Fin 1024 → EReal) (n : ℕ) (j : Fin 1024) : EReal :=
  bg j * (u n j * w 0 j + u (n + 1) j * w 1 j + u (n + 2) j * w 2 j)

/-- The gate rows of two blocks, one after the other. -/
def bseq (b0 b1 : Fin 512 → Fin 1024 → EReal) (n : ℕ) (j : Fin 1024) : EReal :=
  if h : n < 512 then b0 ⟨n, h⟩ j else if h : n < 1024 then b1 ⟨n - 512, by omega⟩ j else 0

theorem bseq_lo {b0 b1 : Fin 512 → Fin 1024 → EReal} {n : ℕ} (h : n < 512) : bseq b0 b1 n = b0 ⟨n, h⟩ := by
  funext j; rw [bseq, dif_pos h]

theorem bseq_hi {b0 b1 : Fin 512 → Fin 1024 → EReal} {n : ℕ} (h : 512 ≤ n) (h' : n < 1024) :
    bseq b0 b1 n = b1 ⟨n - 512, by omega⟩ := by
  funext j; rw [bseq, dif_neg (by omega), dif_pos h']

theorem e512 {j : ℕ} (h : 768 ≤ j) : 256 + (j - 768) = j - 512 := by omega

theorem e1536 {j : ℕ} (h : 512 ≤ j) : 1536 + (j - 512) = 1024 + j := by omega

theorem e2560 {j : ℕ} (h : 512 ≤ j) : 2560 + (j - 512) = 2048 + j := by omega

theorem conv_congr {a p q s p' q' s' x y z : EReal} (hp : p' = p) (hq : q' = q) (hs : s' = s) :
    a * (p * x + q * y + s * z) = a * (p' * x + q' * y + s' * z) := by
  rw [hp, hq, hs]

theorem conv_congr0 {a p q s p' q' s' x y z : EReal} (hp : p = p' * x) (hq : q = q' * y) (hs : s = s' * z) :
    a * (p + q + s) = a * (p' * x + q' * y + s' * z) := by
  rw [hp, hq, hs]

theorem mul_eq {p q x : EReal} (h : q = p) : p * x = q * x := by rw [h]

section
variable {c0 c1 : Fin 1024 → EReal} {u0 u1 : Fin 512 → Fin 1024 → EReal} {n : ℕ} {j : Fin 1024}

theorem useq_c0 (h : n = 0) : useq c0 c1 u0 u1 n j = c0 j := by rw [useq, if_pos h]

theorem useq_c1 (h : n = 1) : useq c0 c1 u0 u1 n j = c1 j := by rw [useq, if_neg (by omega), if_pos h]

theorem mul_c0 {x : EReal} (h : n = 0) : 0 = useq (fun _ => 0) c1 u0 u1 n j * x := by
  rw [useq_c0 h, zero_mul]

theorem mul_c1 {x : EReal} (h : n = 1) : 0 = useq c0 (fun _ => 0) u0 u1 n j * x := by
  rw [useq_c1 h, zero_mul]

theorem useq_lo {m : Fin 512} (h : n = m.val + 2) : useq c0 c1 u0 u1 n j = u0 m j := by
  subst h
  rw [useq, if_neg (by omega), if_neg (by omega), dif_pos (by omega)]
  congr

theorem useq_hi {m : Fin 512} (h : n = m.val + 514) : useq c0 c1 u0 u1 n j = u1 m j := by
  subst h
  rw [useq, if_neg (by omega), if_neg (by omega), dif_neg (by omega), dif_pos (by omega)]
  congr 1

end

/-- A choice made by comparing a row number with a small word is a choice by the number. -/
theorem sel_eq {n k : ℕ} (hn : n < 256) (hk : k < 256) (a b : EReal) :
    Scalar.select (IntOp.cmpi .eq (BitVec.ofNat 32 n) (BitVec.ofNat 32 k)) a b = if n = k then a else b := by
  have h : (BitVec.ofNat 32 n = BitVec.ofNat 32 k) ↔ n = k := by
    constructor
    · intro e
      have := congrArg BitVec.toNat e
      simp only [BitVec.toNat_ofNat] at this
      omega
    · rintro rfl; rfl
  by_cases hnk : n = k
  · simp [Scalar.select, IntOp.cmpi, hnk]
  · have e : (BitVec.ofNat 32 n == BitVec.ofNat 32 k) = false := beq_eq_false_iff_ne.mpr fun e => hnk (h.mp e)
    simp [Scalar.select, IntOp.cmpi, hnk, e]

end Cert.Reads

end
-- ==== Proof.ConvFn.lean ====
/- The gated short convolution's layer as a function of its arguments, sequence by sequence. -/
module

public import proofs.«01_k».proof.Proof.ConvSpec
public import proofs.«01_k».proof.Proof.Gen.ConvRefIdeal.Run
public import proofs.«01_k».proof.Defs

@[expose] public section

set_option maxRecDepth 16384

noncomputable section

open Idealize.ShloMosaic Idealize.ShloMosaic.TcCoe

namespace Cert.Reads

abbrev XA := FVec Ideal ⟨3, ![8, 2048, 1024]⟩ .f32
abbrev WA := FVec Ideal ⟨3, ![1, 1024, 3072]⟩ .f32

/-- A row of a sequence times a column of the input weight. -/
def pjA (x : XA) (w : WA) (b : Fin 8) (s : Fin 2048) (n : Fin 3072) : EReal := ∑ k : Fin 1024, x (ix3 b s k) * w (ix3 0 k n)

def bgA (x : XA) (w : WA) (b : Fin 8) (s : Fin 2048) (j : Fin 1024) : EReal := pjA x w b s ⟨j.val, by omega⟩

def uA (x : XA) (w : WA) (b : Fin 8) (s : Fin 2048) (j : Fin 1024) : EReal :=
  pjA x w b s ⟨1024 + j.val, by omega⟩ * pjA x w b s ⟨2048 + j.val, by omega⟩

/-- The gated inputs of a sequence, two rows of zeros put first. -/
def useqA (x : XA) (w : WA) (b : Fin 8) (n : ℕ) (j : Fin 1024) : EReal :=
  if n < 2 then 0 else if h : n - 2 < 2048 then uA x w b ⟨n - 2, h⟩ j else 0

/-- Row `s` of sequence `b` of the layer's result. -/
def convRow (x : XA) (w : WA) (wc : FVec Ideal ⟨3, ![1, 3, 1024]⟩ .f32) (wo : FVec Ideal ⟨3, ![1, 1024, 1024]⟩ .f32)
    (g bb : FVec Ideal ⟨2, ![2, 1024]⟩ .f32) (b : Fin 8) (s : Fin 2048) (j : Fin 1024) : EReal :=
  lnorm (resid (fun k => x (ix3 b s k))
      fun k => ∑ i, gat (bgA x w b s) (useqA x w b) (fun n k => wc (ix3 0 n k)) s.val i * wo (ix3 0 i k))
    (fun k => g (ix2 1 k)) (fun k => bb (ix2 1 k)) j

/-- The layer's first result. -/
def fnY (x : XA) (w : WA) (wc : FVec Ideal ⟨3, ![1, 3, 1024]⟩ .f32) (wo : FVec Ideal ⟨3, ![1, 1024, 1024]⟩ .f32)
    (g bb : FVec Ideal ⟨2, ![2, 1024]⟩ .f32) : FVec Ideal ⟨2, ![16384, 1024]⟩ .f32 := fun i =>
  convRow x w wc wo g bb ⟨(i 0).val / 2048, by have : (i 0).val < 16384 := (i 0).isLt; omega⟩ ⟨(i 0).val % 2048, by omega⟩ (i 1)

/-- The layer's second result: the last two gated inputs of every sequence. -/
def fnS (x : XA) (w : WA) : FVec Ideal ⟨3, ![8, 2, 1024]⟩ .f32 := fun i =>
  uA x w (i 0) ⟨2046 + (i 1).val, by have : (i 1).val < 2 := (i 1).isLt; omega⟩ (i 2)

end Cert.Reads

namespace Cert.ConvRefIdeal.Hand

open Cert.ConvRefIdeal Cert.ConvRefIdeal.Gen Cert.Reads

variable (m : (ℓ : Loc nD τ sig) → Buf (Elt Ideal) ℓ) (c : Dev nD)

/-- The zeros and the gated inputs put together, as the reference prints it. -/
abbrev full (x : FVec Ideal S8x2048x1024 .f32) (w : FVec Ideal S1x1024x3072 .f32) : FVec Ideal S8x2050x1024 .f32 :=
  concatenate S8x2050x1024 1 [⟨S8x2x1024, (broadcastInDim S8x2x1024 ![] bcast_S_S8x2x1024 (constant S_ .f32 0x00000000#32))⟩, ⟨S8x2048x1024, (mulf (extractStridedSlice S8x2048x1024 ![0, 0, 1024] (Host.dotGeneral dot_S8x2048x1024_S1024x3072_S8x2048x3072_2_0_01_1_n_n none x (shapeCast _ w shapeCasts_S1x1024x3072_S1024x3072)) slices_S8x2048x3072_S8x2048x1024_0_0_1024) (extractStridedSlice S8x2048x1024 ![0, 0, 2048] (Host.dotGeneral dot_S8x2048x1024_S1024x3072_S8x2048x3072_2_0_01_1_n_n none x (shapeCast _ w shapeCasts_S1x1024x3072_S1024x3072)) slices_S8x2048x3072_S8x2048x1024_0_0_2048))⟩] concatenates_S8x2x1024_S8x2048x1024_S8x2050x1024_d1

/-- The layer norm over the last axis, as the reference prints it. -/
abbrev lnR (U : FVec Ideal S8x2048x1024 .f32) (g bb : FVec Ideal S2x1024 .f32) : FVec Ideal S16384x1024 .f32 :=
  shapeCast S16384x1024 (addf (mulf (mulf (subf U (broadcastInDim S8x2048x1024 ![0, 1, 2] bcast_S8x2048x1_S8x2048x1024_0_1_2 (Host.divf (broadcastInDim S8x2048x1 ![0, 1] bcast_S8x2048_S8x2048x1_0_1 (Host.reduceAdd U (constant S_ .f32 0x00000000#32) reducesTo_S8x2048x1024_S8x2048_d2 h_S_)) (broadcastInDim S8x2048x1 ![] bcast_S_S8x2048x1 (constant S_ .f32 0x44800000#32))))) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (subf U (broadcastInDim S8x2048x1024 ![0, 1, 2] bcast_S8x2048x1_S8x2048x1024_0_1_2 (Host.divf (broadcastInDim S8x2048x1 ![0, 1] bcast_S8x2048_S8x2048x1_0_1 (Host.reduceAdd U (constant S_ .f32 0x00000000#32) reducesTo_S8x2048x1024_S8x2048_d2 h_S_)) (broadcastInDim S8x2048x1 ![] bcast_S_S8x2048x1 (constant S_ .f32 0x44800000#32))))) (subf U (broadcastInDim S8x2048x1024 ![0, 1, 2] bcast_S8x2048x1_S8x2048x1024_0_1_2 (Host.divf (broadcastInDim S8x2048x1 ![0, 1] bcast_S8x2048_S8x2048x1_0_1 (Host.reduceAdd U (constant S_ .f32 0x00000000#32) reducesTo_S8x2048x1024_S8x2048_d2 h_S_)) (broadcastInDim S8x2048x1 ![] bcast_S_S8x2048x1 (constant S_ .f32 0x44800000#32)))))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 (shapeCast S1024 (extractStridedSlice S1x1024 ![1, 0] g slices_S2x1024_S1x1024_1_0) shapeCasts_S1x1024_S1024)))) (broadcastInDim S8x2048x1024 ![0, 1, 2] bcast_S1x1x1024_S8x2048x1024_0_1_2 (broadcastInDim S1x1x1024 ![2] bcast_S1024_S1x1x1024_2 (shapeCast S1024 (extractStridedSlice S1x1024 ![1, 0] bb slices_S2x1024_S1x1024_1_0) shapeCasts_S1x1024_S1024)))) shapeCasts_S8x2048x1024_S16384x1024

/-- The residual sum, as the reference prints it, over the padded inputs `C`. -/
abbrev resR (C : FVec Ideal S8x2050x1024 .f32) (x : FVec Ideal S8x2048x1024 .f32) (w : FVec Ideal S1x1024x3072 .f32)
    (wc : FVec Ideal S1x3x1024 .f32) (wo : FVec Ideal S1x1024x1024 .f32) : FVec Ideal S8x2048x1024 .f32 :=
  (addf (mulf (broadcastInDim S8x2048x1024 ![] bcast_S_S8x2048x1024 (constant S_ .f32 0x3FB504F3#32)) x) (Host.dotGeneral dot_S8x2048x1024_S1024x1024_S8x2048x1024_2_0_01_1_n_n none (mulf (extractStridedSlice S8x2048x1024 ![0, 0, 0] (Host.dotGeneral dot_S8x2048x1024_S1024x3072_S8x2048x3072_2_0_01_1_n_n none x (shapeCast S1024x3072 w shapeCasts_S1x1024x3072_S1024x3072)) slices_S8x2048x3072_S8x2048x1024_0_0_0) (addf (addf (mulf (extractStridedSlice S8x2048x1024 ![0, 0, 0] C slices_S8x2050x1024_S8x2048x1024_0_0_0) (broadcastInDim S8x2048x1024 ![0, 1, 2] bcast_S1x1x1024_S8x2048x1024_0_1_2 (broadcastInDim S1x1x1024 ![2] bcast_S1024_S1x1x1024_2 (shapeCast S1024 (extractStridedSlice S1x1024 ![0, 0] (shapeCast S3x1024 wc shapeCasts_S1x3x1024_S3x1024) slices_S3x1024_S1x1024_0_0) shapeCasts_S1x1024_S1024)))) (mulf (extractStridedSlice S8x2048x1024 ![0, 1, 0] C slices_S8x2050x1024_S8x2048x1024_0_1_0) (broadcastInDim S8x2048x1024 ![0, 1, 2] bcast_S1x1x1024_S8x2048x1024_0_1_2 (broadcastInDim S1x1x1024 ![2] bcast_S1024_S1x1x1024_2 (shapeCast S1024 (extractStridedSlice S1x1024 ![1, 0] (shapeCast S3x1024 wc shapeCasts_S1x3x1024_S3x1024) slices_S3x1024_S1x1024_1_0) shapeCasts_S1x1024_S1024))))) (mulf (extractStridedSlice S8x2048x1024 ![0, 2, 0] C slices_S8x2050x1024_S8x2048x1024_0_2_0) (broadcastInDim S8x2048x1024 ![0, 1, 2] bcast_S1x1x1024_S8x2048x1024_0_1_2 (broadcastInDim S1x1x1024 ![2] bcast_S1024_S1x1x1024_2 (shapeCast S1024 (extractStridedSlice S1x1024 ![2, 0] (shapeCast S3x1024 wc shapeCasts_S1x3x1024_S3x1024) slices_S3x1024_S1x1024_2_0) shapeCasts_S1x1024_S1024)))))) (shapeCast S1024x1024 wo shapeCasts_S1x1024x1024_S1024x1024)))

theorem full_apply (x : FVec Ideal S8x2048x1024 .f32) (w : FVec Ideal S1x1024x3072 .f32) (b : Fin 8) (n : Fin 2050) (j : Fin 1024) :
    full x w (ix3 b n j) = useqA x w b n.val j := by
  unfold full
  pointwise [useqA, uA, pjA]
  have hn := n.isLt
  by_cases h : n.val < 2
  · rw [dif_pos h, if_pos h]
  · rw [dif_neg h, if_neg h, dif_pos (by omega)]

theorem lnR_apply (U : FVec Ideal S8x2048x1024 .f32) (g bb : FVec Ideal S2x1024 .f32) (r : Fin 16384) (j : Fin 1024) :
    lnR U g bb (ix2 r j) = lnorm (fun k => U (ix3 ⟨r.val / 2048, by omega⟩ ⟨r.val % 2048, by omega⟩ k))
      (fun k => g (ix2 1 k)) (fun k => bb (ix2 1 k)) j := by
  unfold lnR
  pointwise [lnorm, mean]

theorem resR_apply (C : FVec Ideal S8x2050x1024 .f32) (x : FVec Ideal S8x2048x1024 .f32) (w : FVec Ideal S1x1024x3072 .f32)
    (wc : FVec Ideal S1x3x1024 .f32) (wo : FVec Ideal S1x1024x1024 .f32) (b : Fin 8) (s : Fin 2048) (j : Fin 1024)
    (hf : ∀ (b : Fin 8) (n : Fin 2050) (j : Fin 1024), C (ix3 b n j) = useqA x w b n.val j) :
    resR C x w wc wo (ix3 b s j) = resid (fun k => x (ix3 b s k))
      (fun k => ∑ i, gat (bgA x w b s) (useqA x w b) (fun n k => wc (ix3 0 n k)) s.val i * wo (ix3 0 i k)) j := by
  unfold resR
  pointwise [hf, resid, gat, bgA, pjA]
  simp only [Nat.add_comm 1, Nat.add_comm 2]

theorem res_y : Cert.ConvRefIdeal.Value.res_main_v63 m c
    = fnY (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext y
  obtain ⟨r, j, rfl⟩ : ∃ (r : Fin 16384) (j : Fin 1024), y = ix2 r j := ⟨y 0, y 1, eq_ix2 y⟩
  refine (lnR_apply (resR (full (m ((c : Thread nD τ).loc main_arg0)) (m ((c : Thread nD τ).loc main_arg1)))
    (m ((c : Thread nD τ).loc main_arg0)) (m ((c : Thread nD τ).loc main_arg1)) (m ((c : Thread nD τ).loc main_arg2))
    (m ((c : Thread nD τ).loc main_arg3))) (m ((c : Thread nD τ).loc main_arg4)) (m ((c : Thread nD τ).loc main_arg5)) r j).trans ?_
  rw [show (fun k : Fin 1024 => resR _ _ _ _ _ (ix3 _ _ k)) = _ from
    funext fun k => resR_apply _ _ _ _ _ _ _ k (full_apply _ _)]
  rfl

theorem res_s (x : FVec Ideal S8x2048x1024 .f32) (w : FVec Ideal S1x1024x3072 .f32) :
    extractStridedSlice S8x2x1024 ![0, 2048, 0] (full x w) slices_S8x2050x1024_S8x2x1024_0_2048_0 = fnS x w := by
  funext y
  obtain ⟨b, r, j, rfl⟩ : ∃ (b : Fin 8) (r : Fin 2) (j : Fin 1024), y = ix3 b r j := ⟨y 0, y 1, y 2, eq_ix3 y⟩
  have hr := r.isLt
  refine Eq.trans (b := full x w (ix3 b ⟨2048 + r.val, by omega⟩ j)) ?_ ?_
  · generalize full x w = C
    pointwise
  · rw [full_apply, useqA, if_neg (by show ¬ 2048 + r.val < 2; omega), dif_pos (by show 2048 + r.val - 2 < 2048; omega)]
    unfold fnS
    congr 1
    apply Fin.ext
    show 2048 + r.val - 2 = 2046 + r.val
    omega

end Cert.ConvRefIdeal.Hand
end
-- ==== Proof.ConvBodyA.lean ====
module

public import proofs.«01_k».proof.Proof.Gen.ConvIdeal.Frame.RunA
public import proofs.«01_k».proof.Proof.ConvSpec

@[expose] public section

set_option maxRecDepth 16384

noncomputable section

namespace Cert.ConvIdeal.Hand

open Cert.ConvIdeal Cert.ConvIdeal.Gen Idealize.ShloMosaic Idealize.ShloMosaic.TcCoe Cert.Reads

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S1024x1024 .f32) (harg4 : arg4.IsWhole) (arg5 : Memref sig .tc .vmem S1024x3072 .bf16) (harg5 : arg5.IsWhole)
  (arg6 : Memref sig .tc .vmem S3x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S1024x1024 .f32) (harg10 : arg10.IsWhole) (arg11 : Memref sig .tc .vmem S1x2x1024 .f32) (harg11 : arg11.IsWhole)
  (arg12 : Memref sig .tc .vmem S2x512x1024 .bf16) (harg12 : arg12.IsWhole) (arg13 : Memref sig .tc .vmem S2x512x1024 .f32) (harg13 : arg13.IsWhole)
  (arg14 : Memref sig .tc .vmem S512x1024 .f32) (harg14 : arg14.IsWhole) (arg15 : Memref sig .tc .vmem S2x512x1024 .f32) (harg15 : arg15.IsWhole)
  (arg16 : Memref sig .tc .vmem S512x1024 .bf16) (harg16 : arg16.IsWhole) (arg17 : Memref sig .tc .vmem S8x1024 .f32) (harg17 : arg17.IsWhole)
  (x0 : Vec Ideal S512x1024 .f32) (x1 : Vec Ideal S512x1024 .f32) (x2 : Vec Ideal S512x1024 .f32) (x3 : Vec Ideal S1024x1024 .f32)
  (x4 : Vec Ideal S1024x3072 .bf16) (x5 : Vec Ideal S3x1024 .f32) (x6 : Vec Ideal S1024x1024 .bf16) (x7 : Vec Ideal S1x1024 .f32)
  (x8 : Vec Ideal S1x1024 .f32) (xs1 : Vec Ideal S2x512x1024 .f32) (xs3 : Vec Ideal S2x512x1024 .f32) (xs5 : Vec Ideal S8x1024 .f32)

theorem a_v25_apply (j : Fin 1024) :
    kernelRun0_A.sl.v25 (F := Ideal) c arg17 (ix2 (n0 := 1) 0 j) = 0 := by
  unfold kernelRun0_A.sl.v25
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, View.readAt_eq_ld, Ideal.ofBits_zero]

theorem a_v26_apply (j : Fin 1024) :
    kernelRun0_A.sl.v26 (F := Ideal) c arg17 (ix2 (n0 := 1) 0 j) = 0 := by
  unfold kernelRun0_A.sl.v26
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, View.readAt_eq_ld, Ideal.ofBits_zero]

theorem a_v466_apply (r : Fin 512) (k : Fin 1024) :
    kernelRun0_A.sl.v466 (F := Ideal) c arg1 harg1 arg12 x0 (ix3 (n0 := 1) 0 r k) = x0 (ix2 r k) := by
  unfold kernelRun0_A.sl.v466
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, View.readAt_eq_ld, harg1.read_unread]

theorem a_v503_apply (r : Fin 512) (j : Fin 512) :
    kernelRun0_A.sl.v503 (F := Ideal) c arg1 harg1 arg5 harg5 arg12 arg14 x0 x4 (ix2 r j) = cgP x0 x4 r ⟨j.val, by omega⟩ := by
  unfold kernelRun0_A.sl.v503
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, View.readAt_eq_ld, harg1.read_unread, harg5.read_unread, bgP, cgP, hP, uP, pj]
  try simp only [← Nat.add_assoc, Nat.reduceAdd]
  try rfl

theorem a_v513_apply (r : Fin 512) (j : Fin 512) :
    kernelRun0_A.sl.v513 (F := Ideal) c arg1 harg1 arg5 harg5 arg12 arg14 x0 x4 (ix2 r j) = cgP x0 x4 r ⟨512 + j.val, by omega⟩ := by
  unfold kernelRun0_A.sl.v513
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, View.readAt_eq_ld, harg1.read_unread, harg5.read_unread, bgP, cgP, hP, uP, pj]
  try simp only [← Nat.add_assoc, Nat.reduceAdd]
  try rfl

theorem a_v22_apply (r : Fin 256) (j : Fin 1024) :
    kernelRun0_A.sl.v22 (F := Ideal) c arg1 harg1 arg5 harg5 arg12 arg14 arg15 x0 x4 (ix3 (n0 := 1) 0 r j) = uP x0 x4 ⟨r.val, by omega⟩ j := by
  unfold kernelRun0_A.sl.v22
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, View.readAt_eq_ld, harg1.read_unread, harg5.read_unread, bgP, cgP, hP, uP, pj]
    try simp (disch := omega) only [Nat.add_sub_of_le, e1536, e2560]
    try rfl

theorem a_v77_apply (r : Fin 256) (j : Fin 1024) :
    kernelRun0_A.sl.v77 (F := Ideal) c arg1 harg1 arg5 harg5 arg12 arg14 arg15 x0 x4 (ix3 (n0 := 1) 0 r j) = uP x0 x4 ⟨256 + r.val, by omega⟩ j := by
  unfold kernelRun0_A.sl.v77
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, View.readAt_eq_ld, harg1.read_unread, harg5.read_unread, bgP, cgP, hP, uP, pj]
    try simp (disch := omega) only [Nat.add_sub_of_le, e1536, e2560]
    try rfl

theorem a_v58_apply (r : Fin 256) (j : Fin 1024) :
    kernelRun0_A.sl.v58 (F := Ideal) c arg1 harg1 arg5 harg5 arg12 arg13 x0 x4 (ix3 (n0 := 1) 0 r j) = bgP x0 x4 ⟨r.val, by omega⟩ j := by
  unfold kernelRun0_A.sl.v58
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, View.readAt_eq_ld, harg1.read_unread, harg5.read_unread, bgP, cgP, hP, uP, pj]
    try simp (disch := omega) only [Nat.add_sub_of_le, e1536, e2560]
    try rfl

theorem a_v113_apply (r : Fin 256) (j : Fin 1024) :
    kernelRun0_A.sl.v113 (F := Ideal) c arg1 harg1 arg2 harg2 arg5 harg5 arg12 arg13 x0 x1 x4 (ix3 (n0 := 1) 0 r j) = bgP x0 x4 ⟨256 + r.val, by omega⟩ j := by
  unfold kernelRun0_A.sl.v113
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, View.readAt_eq_ld, harg1.read_unread, harg2.read_unread, harg5.read_unread, bgP, cgP, hP, uP, pj]
    try simp (disch := omega) only [Nat.add_sub_of_le, e1536, e2560]
    try rfl

theorem a_v69_apply (r : Fin 512) (k : Fin 1024) :
    kernelRun0_A.sl.v69 (F := Ideal) c arg1 harg1 arg2 harg2 arg12 x0 x1 (ix3 (n0 := 1) 0 r k) = x1 (ix2 r k) := by
  unfold kernelRun0_A.sl.v69
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, View.readAt_eq_ld, harg1.read_unread, harg2.read_unread]

theorem a_v289_apply (r : Fin 512) (k : Fin 1024) :
    kernelRun0_A.sl.v289 (F := Ideal) c arg1 harg1 arg2 harg2 arg3 harg3 arg12 x0 x1 x2 (ix3 (n0 := 1) 0 r k) = x2 (ix2 r k) := by
  unfold kernelRun0_A.sl.v289
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, View.readAt_eq_ld, harg1.read_unread, harg2.read_unread, harg3.read_unread]

theorem a_v221_apply (r : Fin 512) (j : Fin 512) :
    kernelRun0_A.sl.v221 (F := Ideal) c arg1 harg1 arg2 harg2 arg5 harg5 arg12 arg14 x0 x1 x4 (ix2 r j) = cgP x1 x4 r ⟨j.val, by omega⟩ := by
  unfold kernelRun0_A.sl.v221
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, View.readAt_eq_ld, harg1.read_unread, harg2.read_unread, harg5.read_unread, bgP, cgP, hP, uP, pj]
  try simp only [← Nat.add_assoc, Nat.reduceAdd]
  try rfl

theorem a_v231_apply (r : Fin 512) (j : Fin 512) :
    kernelRun0_A.sl.v231 (F := Ideal) c arg1 harg1 arg2 harg2 arg5 harg5 arg12 arg14 x0 x1 x4 (ix2 r j) = cgP x1 x4 r ⟨512 + j.val, by omega⟩ := by
  unfold kernelRun0_A.sl.v231
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, View.readAt_eq_ld, harg1.read_unread, harg2.read_unread, harg5.read_unread, bgP, cgP, hP, uP, pj]
  try simp only [← Nat.add_assoc, Nat.reduceAdd]
  try rfl

theorem a_v441_apply (r : Fin 512) (j : Fin 512) :
    kernelRun0_A.sl.v441 (F := Ideal) c arg1 harg1 arg2 harg2 arg3 harg3 arg5 harg5 arg12 arg14 x0 x1 x2 x4 (ix2 r j) = cgP x2 x4 r ⟨j.val, by omega⟩ := by
  unfold kernelRun0_A.sl.v441
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, View.readAt_eq_ld, harg1.read_unread, harg2.read_unread, harg3.read_unread, harg5.read_unread, bgP, cgP, hP, uP, pj]
  try simp only [← Nat.add_assoc, Nat.reduceAdd]
  try rfl

theorem a_v451_apply (r : Fin 512) (j : Fin 512) :
    kernelRun0_A.sl.v451 (F := Ideal) c arg1 harg1 arg2 harg2 arg3 harg3 arg5 harg5 arg12 arg14 x0 x1 x2 x4 (ix2 r j) = cgP x2 x4 r ⟨512 + j.val, by omega⟩ := by
  unfold kernelRun0_A.sl.v451
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, View.readAt_eq_ld, harg1.read_unread, harg2.read_unread, harg3.read_unread, harg5.read_unread, bgP, cgP, hP, uP, pj]
  try simp only [← Nat.add_assoc, Nat.reduceAdd]
  try rfl

theorem a_v242_apply (r : Fin 256) (j : Fin 1024) :
    kernelRun0_A.sl.v242 (F := Ideal) c arg1 harg1 arg2 harg2 arg5 harg5 arg12 arg14 arg15 x0 x1 x4 (ix3 (n0 := 1) 0 r j) = uP x1 x4 ⟨r.val, by omega⟩ j := by
  unfold kernelRun0_A.sl.v242
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, View.readAt_eq_ld, harg1.read_unread, harg2.read_unread, harg5.read_unread, bgP, cgP, hP, uP, pj]
    try simp (disch := omega) only [Nat.add_sub_of_le, e1536, e2560]
    try rfl

theorem a_v297_apply (r : Fin 256) (j : Fin 1024) :
    kernelRun0_A.sl.v297 (F := Ideal) c arg1 harg1 arg2 harg2 arg5 harg5 arg12 arg14 arg15 x0 x1 x4 (ix3 (n0 := 1) 0 r j) = uP x1 x4 ⟨256 + r.val, by omega⟩ j := by
  unfold kernelRun0_A.sl.v297
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, View.readAt_eq_ld, harg1.read_unread, harg2.read_unread, harg5.read_unread, bgP, cgP, hP, uP, pj]
    try simp (disch := omega) only [Nat.add_sub_of_le, e1536, e2560]
    try rfl

theorem a_v278_apply (r : Fin 256) (j : Fin 1024) :
    kernelRun0_A.sl.v278 (F := Ideal) c arg1 harg1 arg2 harg2 arg5 harg5 arg12 arg13 x0 x1 x4 (ix3 (n0 := 1) 0 r j) = bgP x1 x4 ⟨r.val, by omega⟩ j := by
  unfold kernelRun0_A.sl.v278
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, View.readAt_eq_ld, harg1.read_unread, harg2.read_unread, harg5.read_unread, bgP, cgP, hP, uP, pj]
    try simp (disch := omega) only [Nat.add_sub_of_le, e1536, e2560]
    try rfl

theorem a_v333_apply (r : Fin 256) (j : Fin 1024) :
    kernelRun0_A.sl.v333 (F := Ideal) c arg1 harg1 arg2 harg2 arg3 harg3 arg5 harg5 arg12 arg13 x0 x1 x2 x4 (ix3 (n0 := 1) 0 r j) = bgP x1 x4 ⟨256 + r.val, by omega⟩ j := by
  unfold kernelRun0_A.sl.v333
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, View.readAt_eq_ld, harg1.read_unread, harg2.read_unread, harg3.read_unread, harg5.read_unread, bgP, cgP, hP, uP, pj]
    try simp (disch := omega) only [Nat.add_sub_of_le, e1536, e2560]
    try rfl

theorem a_v80_apply (j : Fin 1024) :
    kernelRun0_A.sl.v80 (F := Ideal) c arg1 harg1 arg5 harg5 arg12 arg14 arg15 arg17 x0 x4 (ix2 (n0 := 1) 0 j) = uP x0 x4 254 j := by
  unfold kernelRun0_A.sl.v80
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, View.readAt_eq_ld, harg1.read_unread, harg5.read_unread, bgP, cgP, hP, uP, pj]
  try simp only [← Nat.add_assoc, Nat.reduceAdd]
  try rfl

theorem a_v81_apply (j : Fin 1024) :
    kernelRun0_A.sl.v81 (F := Ideal) c arg1 harg1 arg5 harg5 arg12 arg14 arg15 arg17 x0 x4 (ix2 (n0 := 1) 0 j) = uP x0 x4 255 j := by
  unfold kernelRun0_A.sl.v81
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, View.readAt_eq_ld, harg1.read_unread, harg5.read_unread, bgP, cgP, hP, uP, pj]
  try simp only [← Nat.add_assoc, Nat.reduceAdd]
  try rfl

theorem a_v245_apply (j : Fin 1024) :
    kernelRun0_A.sl.v245 (F := Ideal) c arg1 harg1 arg5 harg5 arg12 arg14 arg15 arg17 x0 x4 (ix2 (n0 := 1) 0 j) = uP x0 x4 510 j := by
  unfold kernelRun0_A.sl.v245
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, View.readAt_eq_ld, harg1.read_unread, harg5.read_unread, bgP, cgP, hP, uP, pj]
  try simp only [← Nat.add_assoc, Nat.reduceAdd]
  try rfl

theorem a_v246_apply (j : Fin 1024) :
    kernelRun0_A.sl.v246 (F := Ideal) c arg1 harg1 arg5 harg5 arg12 arg14 arg15 arg17 x0 x4 (ix2 (n0 := 1) 0 j) = uP x0 x4 511 j := by
  unfold kernelRun0_A.sl.v246
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, View.readAt_eq_ld, harg1.read_unread, harg5.read_unread, bgP, cgP, hP, uP, pj]
  try simp only [← Nat.add_assoc, Nat.reduceAdd]
  try rfl

theorem a_v300_apply (j : Fin 1024) :
    kernelRun0_A.sl.v300 (F := Ideal) c arg1 harg1 arg2 harg2 arg5 harg5 arg12 arg14 arg15 arg17 x0 x1 x4 (ix2 (n0 := 1) 0 j) = uP x1 x4 254 j := by
  unfold kernelRun0_A.sl.v300
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, View.readAt_eq_ld, harg1.read_unread, harg2.read_unread, harg5.read_unread, bgP, cgP, hP, uP, pj]
  try simp only [← Nat.add_assoc, Nat.reduceAdd]
  try rfl

theorem a_v301_apply (j : Fin 1024) :
    kernelRun0_A.sl.v301 (F := Ideal) c arg1 harg1 arg2 harg2 arg5 harg5 arg12 arg14 arg15 arg17 x0 x1 x4 (ix2 (n0 := 1) 0 j) = uP x1 x4 255 j := by
  unfold kernelRun0_A.sl.v301
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, View.readAt_eq_ld, harg1.read_unread, harg2.read_unread, harg5.read_unread, bgP, cgP, hP, uP, pj]
  try simp only [← Nat.add_assoc, Nat.reduceAdd]
  try rfl

theorem a_v456_apply (r : Fin 2) (j : Fin 1024) :
    kernelRun0_A.sl.v456 (F := Ideal) c arg1 harg1 arg2 harg2 arg5 harg5 arg12 arg14 arg15 arg17 x0 x1 x4 (ix2 r j) = uP x1 x4 ⟨510 + r.val, by omega⟩ j := by
  unfold kernelRun0_A.sl.v456
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, a_v301_apply, View.readAt_eq_ld, harg1.read_unread, harg2.read_unread, harg5.read_unread, bgP, cgP, hP, uP, pj]
  try simp only [← Nat.add_assoc, Nat.reduceAdd]
  try rfl

theorem a_v140_apply (r : Fin 256) (j : Fin 1024) :
    kernelRun0_A.sl.v140 (F := Ideal) c arg1 harg1 arg2 harg2 arg5 harg5 arg6 harg6 arg12 arg13 arg14 arg15 arg16 arg17 x0 x1 x4 x5 (ix2 r j) = gat ((bgP x0 x4) ⟨r.val, by omega⟩) (useq (fun _ => 0) (fun _ => 0) (uP x0 x4) (uP x1 x4)) (fun n k => x5 (ix2 n k)) r.val j := by
  unfold kernelRun0_A.sl.v140
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, a_v301_apply, a_v456_apply, View.readAt_eq_ld, harg1.read_unread, harg2.read_unread, harg5.read_unread, harg6.read_unread]
  simp (disch := omega) only [sel_eq]
  unfold gat
  refine conv_congr0 ?_ ?_ ?_
  all_goals
    (try split_ifs) <;> first | (exfalso; omega) | exact mul_c0 (by omega) | exact mul_c1 (by omega) | exact mul_eq (useq_lo (by first | omega | (dsimp only; omega) | (simp; omega) | (simp; done))) | exact mul_eq (useq_hi (by first | omega | (dsimp only; omega) | (simp; omega) | (simp; done)))

theorem a_v182_apply (r : Fin 256) (j : Fin 1024) :
    kernelRun0_A.sl.v182 (F := Ideal) c arg1 harg1 arg2 harg2 arg5 harg5 arg6 harg6 arg12 arg13 arg14 arg15 arg16 arg17 x0 x1 x4 x5 (ix2 r j) = gat ((bgP x0 x4) ⟨256 + r.val, by omega⟩) (useq (fun _ => 0) (fun _ => 0) (uP x0 x4) (uP x1 x4)) (fun n k => x5 (ix2 n k)) (256 + r.val) j := by
  unfold kernelRun0_A.sl.v182
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, a_v301_apply, a_v456_apply, a_v140_apply, View.readAt_eq_ld, harg1.read_unread, harg2.read_unread, harg5.read_unread, harg6.read_unread]
  simp (disch := omega) only [sel_eq]
  unfold gat
  refine conv_congr0 ?_ ?_ ?_
  all_goals
    (try split_ifs) <;> first | (exfalso; omega) | exact mul_c0 (by omega) | exact mul_c1 (by omega) | exact mul_eq (useq_lo (by first | omega | (dsimp only; omega) | (simp; omega) | (simp; done))) | exact mul_eq (useq_hi (by first | omega | (dsimp only; omega) | (simp; omega) | (simp; done)))

theorem a_v360_apply (r : Fin 256) (j : Fin 1024) :
    kernelRun0_A.sl.v360 (F := Ideal) c arg1 harg1 arg2 harg2 arg3 harg3 arg5 harg5 arg6 harg6 arg12 arg13 arg14 arg15 arg16 arg17 x0 x1 x2 x4 x5 (ix2 r j) = gat (bgP x1 x4 ⟨r.val, by omega⟩) (useq (fun _ => 0) (fun _ => 0) (uP x0 x4) (uP x1 x4)) (fun n k => x5 (ix2 n k)) (512 + r.val) j := by
  unfold kernelRun0_A.sl.v360
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, a_v301_apply, a_v456_apply, a_v140_apply, a_v182_apply, View.readAt_eq_ld, harg1.read_unread, harg2.read_unread, harg3.read_unread, harg5.read_unread, harg6.read_unread]
  simp (disch := omega) only [sel_eq]
  unfold gat
  refine conv_congr0 ?_ ?_ ?_
  all_goals
    (try split_ifs) <;> first | (exfalso; omega) | exact mul_c0 (by omega) | exact mul_c1 (by omega) | exact mul_eq (useq_lo (by first | omega | (dsimp only; omega) | (simp; omega) | (simp; done))) | exact mul_eq (useq_hi (by first | omega | (dsimp only; omega) | (simp; omega) | (simp; done)))

theorem a_v402_apply (r : Fin 256) (j : Fin 1024) :
    kernelRun0_A.sl.v402 (F := Ideal) c arg1 harg1 arg2 harg2 arg3 harg3 arg5 harg5 arg6 harg6 arg12 arg13 arg14 arg15 arg16 arg17 x0 x1 x2 x4 x5 (ix2 r j) = gat (bgP x1 x4 ⟨256 + r.val, by omega⟩) (useq (fun _ => 0) (fun _ => 0) (uP x0 x4) (uP x1 x4)) (fun n k => x5 (ix2 n k)) (768 + r.val) j := by
  unfold kernelRun0_A.sl.v402
  rw [View.readCov_eq_canon']
  simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  pointwise
  simp (disch := first | omega | (simp; done) | (simp; omega)) only [hit2, miss2_0, miss2_1, hit3, miss3_0, miss3_1, miss3_2]
  try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, a_v301_apply, a_v456_apply, a_v140_apply, a_v182_apply, a_v360_apply, View.readAt_eq_ld, harg1.read_unread, harg2.read_unread, harg3.read_unread, harg5.read_unread, harg6.read_unread]
  simp (disch := omega) only [sel_eq]
  unfold gat
  refine conv_congr0 ?_ ?_ ?_
  all_goals
    (try split_ifs) <;> first | (exfalso; omega) | exact mul_c0 (by omega) | exact mul_c1 (by omega) | exact mul_eq (useq_lo (by first | omega | (dsimp only; omega) | (simp; omega) | (simp; done))) | exact mul_eq (useq_hi (by first | omega | (dsimp only; omega) | (simp; omega) | (simp; done)))

end Cert.ConvIdeal.Hand
end
-- ==== Proof.ConvOutA.lean ====
module

public import proofs.«01_k».proof.Proof.Gen.ConvIdeal.Frame
public import proofs.«01_k».proof.Proof.ConvBodyA

@[expose] public section

set_option maxRecDepth 16384

noncomputable section

namespace Cert.ConvIdeal.Hand

open Cert.ConvIdeal Cert.ConvIdeal.Gen Idealize.ShloMosaic Idealize.ShloMosaic.TcCoe Cert.Reads

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S1024x1024 .f32) (harg4 : arg4.IsWhole) (arg5 : Memref sig .tc .vmem S1024x3072 .bf16) (harg5 : arg5.IsWhole)
  (arg6 : Memref sig .tc .vmem S3x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S1024x1024 .f32) (harg10 : arg10.IsWhole) (arg11 : Memref sig .tc .vmem S1x2x1024 .f32) (harg11 : arg11.IsWhole)
  (arg12 : Memref sig .tc .vmem S2x512x1024 .bf16) (harg12 : arg12.IsWhole) (arg13 : Memref sig .tc .vmem S2x512x1024 .f32) (harg13 : arg13.IsWhole)
  (arg14 : Memref sig .tc .vmem S512x1024 .f32) (harg14 : arg14.IsWhole) (arg15 : Memref sig .tc .vmem S2x512x1024 .f32) (harg15 : arg15.IsWhole)
  (arg16 : Memref sig .tc .vmem S512x1024 .bf16) (harg16 : arg16.IsWhole) (arg17 : Memref sig .tc .vmem S8x1024 .f32) (harg17 : arg17.IsWhole)
  (x0 : Vec Ideal S512x1024 .f32) (x1 : Vec Ideal S512x1024 .f32) (x2 : Vec Ideal S512x1024 .f32) (x3 : Vec Ideal S1024x1024 .f32)
  (x4 : Vec Ideal S1024x3072 .bf16) (x5 : Vec Ideal S3x1024 .f32) (x6 : Vec Ideal S1024x1024 .bf16) (x7 : Vec Ideal S1x1024 .f32)
  (x8 : Vec Ideal S1x1024 .f32) (xs1 : Vec Ideal S2x512x1024 .f32) (xs3 : Vec Ideal S2x512x1024 .f32) (xs5 : Vec Ideal S8x1024 .f32) (hc0 : cond0_0 i) (hc1 : cond0_1 i)

set_option maxHeartbeats 4000000 in
/-- The block of rows a point of this kind writes. -/
theorem out0_A_9_apply (r j : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 (ix2 r j) = lnorm (resid (fun k => x3 (ix2 r k)) fun k => ∑ m, gat (bseq (bgP x0 x4) (bgP x1 x4) r.val) (useq (fun _ => 0) (fun _ => 0) (uP x0 x4) (uP x1 x4)) (fun n k => x5 (ix2 n k)) r.val m * x6 (ix2 m k))
      (fun k => x7 (ix2 0 k)) (fun k => x8 (ix2 0 k)) j := by
  unfold out0_A_9
  rw [View.read_writes_junk_eq_canon]
  unfold kernelRun0_A
  dsimp only
  try simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  rcases (by omega : r.val < 256 ∨ (256 ≤ r.val ∧ r.val < 512) ∨ (512 ≤ r.val ∧ r.val < 768) ∨ (768 ≤ r.val)) with hf | hf | hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, a_v301_apply, a_v456_apply, a_v140_apply, a_v182_apply, a_v360_apply, a_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    try simp (disch := omega) only [Nat.add_sub_of_le, bseq_lo, bseq_hi, e512]
    rfl

set_option maxHeartbeats 4000000 in
/-- The two rows of the state a point of this kind writes. -/
theorem out0_A_10_apply (r : Fin 2) (j : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 (ix3 (n0 := 1) 0 r j) = uP x1 x4 ⟨510 + r.val, by omega⟩ j := by
  unfold out0_A_10
  rw [View.read_writes_junk_eq_canon]
  unfold kernelRun0_A
  dsimp only
  try simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, a_v301_apply, a_v456_apply, a_v140_apply, a_v182_apply, a_v360_apply, a_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    try rfl

set_option maxHeartbeats 4000000 in
/-- The gate rows a point of this kind carries on. -/
theorem sout0_A_1_apply (r : Fin 512) (j : Fin 1024) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 (ix3 (n0 := 2) 0 r j) = bgP x2 x4 r j := by
  unfold sout0_A_1
  rw [View.read_writes_junk_eq_canon]
  unfold kernelRun0_A
  dsimp only
  try simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, a_v301_apply, a_v456_apply, a_v140_apply, a_v182_apply, a_v360_apply, a_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, bgP, cgP, hP, uP, pj]
    try simp (disch := omega) only [Nat.add_sub_of_le, e1536, e2560]
    try rfl

set_option maxHeartbeats 4000000 in
/-- The gated rows a point of this kind carries on. -/
theorem sout0_A_3_apply (r : Fin 512) (j : Fin 1024) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 (ix3 (n0 := 2) 0 r j) = uP x2 x4 r j := by
  unfold sout0_A_3
  rw [View.read_writes_junk_eq_canon]
  unfold kernelRun0_A
  dsimp only
  try simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, a_v301_apply, a_v456_apply, a_v140_apply, a_v182_apply, a_v360_apply, a_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, bgP, cgP, hP, uP, pj]
    try simp (disch := omega) only [Nat.add_sub_of_le, e1536, e2560]
    try rfl

set_option maxHeartbeats 4000000 in
/-- The two last rows a point of this kind carries on. -/
theorem sout0_A_5_apply (r : Fin 8) (hr : r.val < 2) (j : Fin 1024) :
    sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 (ix2 r j) = uP x1 x4 ⟨510 + r.val, by omega⟩ j := by
  unfold sout0_A_5
  rw [View.read_writes_junk_eq_canon]
  unfold kernelRun0_A
  dsimp only
  try simp only [kernelRun0_A.sl.HS0_1, kernelRun0_A.sl.HS0_2, kernelRun0_A.sl.HS0_3, kernelRun0_A.sl.HS1_2, kernelRun0_A.sl.HS1_3, kernelRun0_A.sl.HS1_4, kernelRun0_A.sl.HS1_5, kernelRun0_A.sl.HS2_2, kernelRun0_A.sl.HS2_4, kernelRun0_A.sl.HS2_6, kernelRun0_A.sl.HS3_2, kernelRun0_A.sl.HS3_4, kernelRun0_A.sl.HS4_2, kernelRun0_A.sl.HS4_4, kernelRun0_A.sl.HS5_1, kernelRun0_A.sl.HS5_2, kernelRun0_A.sl.HS5_3, kernelRun0_A.sl.HS5_4, kernelRun0_A.sl.HS5_5]
  all_goals
    simp (disch := first | omega | (simp; done) | (simp; omega)) only [hit2, miss2_0, miss2_1, hit3, miss3_0, miss3_1, miss3_2]
    try simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v24]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, a_v25_apply, a_v26_apply, a_v466_apply, a_v503_apply, a_v513_apply, a_v22_apply, a_v77_apply, a_v58_apply, a_v113_apply, a_v69_apply, a_v289_apply, a_v221_apply, a_v231_apply, a_v441_apply, a_v451_apply, a_v242_apply, a_v297_apply, a_v278_apply, a_v333_apply, a_v80_apply, a_v81_apply, a_v245_apply, a_v246_apply, a_v300_apply, a_v301_apply, a_v456_apply, a_v140_apply, a_v182_apply, a_v360_apply, a_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, bgP, cgP, hP, uP, pj]
    try simp only [← Nat.add_assoc, Nat.reduceAdd]
    try rfl

end Cert.ConvIdeal.Hand
end
-- ==== Proof.ConvBodyB.lean ====
module

public import proofs.«01_k».proof.Proof.Gen.ConvIdeal.Frame.RunB
public import proofs.«01_k».proof.Proof.ConvSpec

@[expose] public section

set_option maxRecDepth 16384

noncomputable section

namespace Cert.ConvIdeal.Hand

open Cert.ConvIdeal Cert.ConvIdeal.Gen Idealize.ShloMosaic Idealize.ShloMosaic.TcCoe Cert.Reads

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S1024x1024 .f32) (harg4 : arg4.IsWhole) (arg5 : Memref sig .tc .vmem S1024x3072 .bf16) (harg5 : arg5.IsWhole)
  (arg6 : Memref sig .tc .vmem S3x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S1024x1024 .f32) (harg10 : arg10.IsWhole) (arg11 : Memref sig .tc .vmem S1x2x1024 .f32) (harg11 : arg11.IsWhole)
  (arg12 : Memref sig .tc .vmem S2x512x1024 .bf16) (harg12 : arg12.IsWhole) (arg13 : Memref sig .tc .vmem S2x512x1024 .f32) (harg13 : arg13.IsWhole)
  (arg14 : Memref sig .tc .vmem S512x1024 .f32) (harg14 : arg14.IsWhole) (arg15 : Memref sig .tc .vmem S2x512x1024 .f32) (harg15 : arg15.IsWhole)
  (arg16 : Memref sig .tc .vmem S512x1024 .bf16) (harg16 : arg16.IsWhole) (arg17 : Memref sig .tc .vmem S8x1024 .f32) (harg17 : arg17.IsWhole)
  (x0 : Vec Ideal S512x1024 .f32) (x1 : Vec Ideal S512x1024 .f32) (x2 : Vec Ideal S512x1024 .f32) (x3 : Vec Ideal S1024x1024 .f32)
  (x4 : Vec Ideal S1024x3072 .bf16) (x5 : Vec Ideal S3x1024 .f32) (x6 : Vec Ideal S1024x1024 .bf16) (x7 : Vec Ideal S1x1024 .f32)
  (x8 : Vec Ideal S1x1024 .f32) (xs1 : Vec Ideal S2x512x1024 .f32) (xs3 : Vec Ideal S2x512x1024 .f32) (xs5 : Vec Ideal S8x1024 .f32)

theorem b_v69_apply (r : Fin 512) (k : Fin 1024) :
    kernelRun0_B.sl.v69 (F := Ideal) c arg2 harg2 arg12 x1 (ix3 (n0 := 1) 0 r k) = x1 (ix2 r k) := by
  unfold kernelRun0_B.sl.v69
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, View.readAt_eq_ld, harg2.read_unread]

theorem b_v289_apply (r : Fin 512) (k : Fin 1024) :
    kernelRun0_B.sl.v289 (F := Ideal) c arg2 harg2 arg3 harg3 arg12 x1 x2 (ix3 (n0 := 1) 0 r k) = x2 (ix2 r k) := by
  unfold kernelRun0_B.sl.v289
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, View.readAt_eq_ld, harg2.read_unread, harg3.read_unread]

theorem b_v221_apply (r : Fin 512) (j : Fin 512) :
    kernelRun0_B.sl.v221 (F := Ideal) c arg2 harg2 arg5 harg5 arg12 arg14 x1 x4 (ix2 r j) = cgP x1 x4 r ⟨j.val, by omega⟩ := by
  unfold kernelRun0_B.sl.v221
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, View.readAt_eq_ld, harg2.read_unread, harg5.read_unread, bgP, cgP, hP, uP, pj]
  try simp only [← Nat.add_assoc, Nat.reduceAdd]
  try rfl

theorem b_v231_apply (r : Fin 512) (j : Fin 512) :
    kernelRun0_B.sl.v231 (F := Ideal) c arg2 harg2 arg5 harg5 arg12 arg14 x1 x4 (ix2 r j) = cgP x1 x4 r ⟨512 + j.val, by omega⟩ := by
  unfold kernelRun0_B.sl.v231
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, View.readAt_eq_ld, harg2.read_unread, harg5.read_unread, bgP, cgP, hP, uP, pj]
  try simp only [← Nat.add_assoc, Nat.reduceAdd]
  try rfl

theorem b_v441_apply (r : Fin 512) (j : Fin 512) :
    kernelRun0_B.sl.v441 (F := Ideal) c arg2 harg2 arg3 harg3 arg5 harg5 arg12 arg14 x1 x2 x4 (ix2 r j) = cgP x2 x4 r ⟨j.val, by omega⟩ := by
  unfold kernelRun0_B.sl.v441
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, View.readAt_eq_ld, harg2.read_unread, harg3.read_unread, harg5.read_unread, bgP, cgP, hP, uP, pj]
  try simp only [← Nat.add_assoc, Nat.reduceAdd]
  try rfl

theorem b_v451_apply (r : Fin 512) (j : Fin 512) :
    kernelRun0_B.sl.v451 (F := Ideal) c arg2 harg2 arg3 harg3 arg5 harg5 arg12 arg14 x1 x2 x4 (ix2 r j) = cgP x2 x4 r ⟨512 + j.val, by omega⟩ := by
  unfold kernelRun0_B.sl.v451
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, View.readAt_eq_ld, harg2.read_unread, harg3.read_unread, harg5.read_unread, bgP, cgP, hP, uP, pj]
  try simp only [← Nat.add_assoc, Nat.reduceAdd]
  try rfl

theorem b_v242_apply (r : Fin 256) (j : Fin 1024) :
    kernelRun0_B.sl.v242 (F := Ideal) c arg2 harg2 arg5 harg5 arg12 arg14 arg15 x1 x4 (ix3 (n0 := 1) 0 r j) = uP x1 x4 ⟨r.val, by omega⟩ j := by
  unfold kernelRun0_B.sl.v242
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
    pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, View.readAt_eq_ld, harg2.read_unread, harg5.read_unread, bgP, cgP, hP, uP, pj]
    try simp (disch := omega) only [Nat.add_sub_of_le, e1536, e2560]
    try rfl

theorem b_v297_apply (r : Fin 256) (j : Fin 1024) :
    kernelRun0_B.sl.v297 (F := Ideal) c arg2 harg2 arg5 harg5 arg12 arg14 arg15 x1 x4 (ix3 (n0 := 1) 0 r j) = uP x1 x4 ⟨256 + r.val, by omega⟩ j := by
  unfold kernelRun0_B.sl.v297
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
    pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, View.readAt_eq_ld, harg2.read_unread, harg5.read_unread, bgP, cgP, hP, uP, pj]
    try simp (disch := omega) only [Nat.add_sub_of_le, e1536, e2560]
    try rfl

theorem b_v278_apply (r : Fin 256) (j : Fin 1024) :
    kernelRun0_B.sl.v278 (F := Ideal) c arg2 harg2 arg5 harg5 arg12 arg13 x1 x4 (ix3 (n0 := 1) 0 r j) = bgP x1 x4 ⟨r.val, by omega⟩ j := by
  unfold kernelRun0_B.sl.v278
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
    pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, View.readAt_eq_ld, harg2.read_unread, harg5.read_unread, bgP, cgP, hP, uP, pj]
    try simp (disch := omega) only [Nat.add_sub_of_le, e1536, e2560]
    try rfl

theorem b_v333_apply (r : Fin 256) (j : Fin 1024) :
    kernelRun0_B.sl.v333 (F := Ideal) c arg2 harg2 arg3 harg3 arg5 harg5 arg12 arg13 x1 x2 x4 (ix3 (n0 := 1) 0 r j) = bgP x1 x4 ⟨256 + r.val, by omega⟩ j := by
  unfold kernelRun0_B.sl.v333
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
    pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, View.readAt_eq_ld, harg2.read_unread, harg3.read_unread, harg5.read_unread, bgP, cgP, hP, uP, pj]
    try simp (disch := omega) only [Nat.add_sub_of_le, e1536, e2560]
    try rfl

theorem b_v80_apply (j : Fin 1024) :
    kernelRun0_B.sl.v80 (F := Ideal) c arg15 harg15 arg17 xs3 (ix2 (n0 := 1) 0 j) = xs3 (ix3 0 254 j) := by
  unfold kernelRun0_B.sl.v80
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, View.readAt_eq_ld, harg15.read_unread, bgP, cgP, hP, uP, pj]
  try simp only [← Nat.add_assoc, Nat.reduceAdd]
  try rfl

theorem b_v81_apply (j : Fin 1024) :
    kernelRun0_B.sl.v81 (F := Ideal) c arg15 harg15 arg17 xs3 (ix2 (n0 := 1) 0 j) = xs3 (ix3 0 255 j) := by
  unfold kernelRun0_B.sl.v81
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, View.readAt_eq_ld, harg15.read_unread, bgP, cgP, hP, uP, pj]
  try simp only [← Nat.add_assoc, Nat.reduceAdd]
  try rfl

theorem b_v245_apply (j : Fin 1024) :
    kernelRun0_B.sl.v245 (F := Ideal) c arg15 harg15 arg17 xs3 (ix2 (n0 := 1) 0 j) = xs3 (ix3 0 510 j) := by
  unfold kernelRun0_B.sl.v245
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, View.readAt_eq_ld, harg15.read_unread, bgP, cgP, hP, uP, pj]
  try simp only [← Nat.add_assoc, Nat.reduceAdd]
  try rfl

theorem b_v246_apply (j : Fin 1024) :
    kernelRun0_B.sl.v246 (F := Ideal) c arg15 harg15 arg17 xs3 (ix2 (n0 := 1) 0 j) = xs3 (ix3 0 511 j) := by
  unfold kernelRun0_B.sl.v246
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, View.readAt_eq_ld, harg15.read_unread, bgP, cgP, hP, uP, pj]
  try simp only [← Nat.add_assoc, Nat.reduceAdd]
  try rfl

theorem b_v300_apply (j : Fin 1024) :
    kernelRun0_B.sl.v300 (F := Ideal) c arg2 harg2 arg5 harg5 arg12 arg14 arg15 harg15 arg17 x1 x4 xs3 (ix2 (n0 := 1) 0 j) = uP x1 x4 254 j := by
  unfold kernelRun0_B.sl.v300
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, View.readAt_eq_ld, harg2.read_unread, harg5.read_unread, harg15.read_unread, bgP, cgP, hP, uP, pj]
  try simp only [← Nat.add_assoc, Nat.reduceAdd]
  try rfl

theorem b_v301_apply (j : Fin 1024) :
    kernelRun0_B.sl.v301 (F := Ideal) c arg2 harg2 arg5 harg5 arg12 arg14 arg15 harg15 arg17 x1 x4 xs3 (ix2 (n0 := 1) 0 j) = uP x1 x4 255 j := by
  unfold kernelRun0_B.sl.v301
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, View.readAt_eq_ld, harg2.read_unread, harg5.read_unread, harg15.read_unread, bgP, cgP, hP, uP, pj]
  try simp only [← Nat.add_assoc, Nat.reduceAdd]
  try rfl

theorem b_v456_apply (r : Fin 2) (j : Fin 1024) :
    kernelRun0_B.sl.v456 (F := Ideal) c arg2 harg2 arg5 harg5 arg12 arg14 arg15 harg15 arg17 x1 x4 xs3 (ix2 r j) = uP x1 x4 ⟨510 + r.val, by omega⟩ j := by
  unfold kernelRun0_B.sl.v456
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, b_v301_apply, View.readAt_eq_ld, harg2.read_unread, harg5.read_unread, harg15.read_unread, bgP, cgP, hP, uP, pj]
  try simp only [← Nat.add_assoc, Nat.reduceAdd]
  try rfl

theorem b_v140_apply (r : Fin 256) (j : Fin 1024) :
    kernelRun0_B.sl.v140 (F := Ideal) c arg6 harg6 arg13 harg13 arg15 harg15 arg16 arg17 harg17 x5 xs1 xs3 xs5 (ix2 r j) = gat ((fun r k => xs1 (ix3 0 r k)) ⟨r.val, by omega⟩) (useq (fun k => xs5 (ix2 0 k)) (fun k => xs5 (ix2 1 k)) (fun r k => xs3 (ix3 0 r k)) (uP x1 x4)) (fun n k => x5 (ix2 n k)) r.val j := by
  unfold kernelRun0_B.sl.v140
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, b_v301_apply, b_v456_apply, View.readAt_eq_ld, harg6.read_unread, harg13.read_unread, harg15.read_unread, harg17.read_unread]
  simp (disch := omega) only [sel_eq]
  unfold gat
  refine conv_congr ?_ ?_ ?_
  all_goals
    (try split_ifs) <;> first | (exfalso; omega) | exact useq_c0 (by omega) | exact useq_c1 (by omega) | exact useq_lo (by first | omega | (dsimp only; omega) | (simp; omega) | (simp; done)) | exact useq_hi (by first | omega | (dsimp only; omega) | (simp; omega) | (simp; done))

theorem b_v182_apply (r : Fin 256) (j : Fin 1024) :
    kernelRun0_B.sl.v182 (F := Ideal) c arg6 harg6 arg13 harg13 arg15 harg15 arg16 arg17 harg17 x5 xs1 xs3 xs5 (ix2 r j) = gat ((fun r k => xs1 (ix3 0 r k)) ⟨256 + r.val, by omega⟩) (useq (fun k => xs5 (ix2 0 k)) (fun k => xs5 (ix2 1 k)) (fun r k => xs3 (ix3 0 r k)) (uP x1 x4)) (fun n k => x5 (ix2 n k)) (256 + r.val) j := by
  unfold kernelRun0_B.sl.v182
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, b_v301_apply, b_v456_apply, b_v140_apply, View.readAt_eq_ld, harg6.read_unread, harg13.read_unread, harg15.read_unread, harg17.read_unread]
  simp (disch := omega) only [sel_eq]
  unfold gat
  refine conv_congr ?_ ?_ ?_
  all_goals
    (try split_ifs) <;> first | (exfalso; omega) | exact useq_c0 (by omega) | exact useq_c1 (by omega) | exact useq_lo (by first | omega | (dsimp only; omega) | (simp; omega) | (simp; done)) | exact useq_hi (by first | omega | (dsimp only; omega) | (simp; omega) | (simp; done))

theorem b_v360_apply (r : Fin 256) (j : Fin 1024) :
    kernelRun0_B.sl.v360 (F := Ideal) c arg2 harg2 arg3 harg3 arg5 harg5 arg6 harg6 arg12 arg13 harg13 arg14 arg15 harg15 arg16 arg17 harg17 x1 x2 x4 x5 xs1 xs3 xs5 (ix2 r j) = gat (bgP x1 x4 ⟨r.val, by omega⟩) (useq (fun k => xs5 (ix2 0 k)) (fun k => xs5 (ix2 1 k)) (fun r k => xs3 (ix3 0 r k)) (uP x1 x4)) (fun n k => x5 (ix2 n k)) (512 + r.val) j := by
  unfold kernelRun0_B.sl.v360
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, b_v301_apply, b_v456_apply, b_v140_apply, b_v182_apply, View.readAt_eq_ld, harg2.read_unread, harg3.read_unread, harg5.read_unread, harg6.read_unread, harg13.read_unread, harg15.read_unread, harg17.read_unread]
  simp (disch := omega) only [sel_eq]
  unfold gat
  refine conv_congr ?_ ?_ ?_
  all_goals
    (try split_ifs) <;> first | (exfalso; omega) | exact useq_c0 (by omega) | exact useq_c1 (by omega) | exact useq_lo (by first | omega | (dsimp only; omega) | (simp; omega) | (simp; done)) | exact useq_hi (by first | omega | (dsimp only; omega) | (simp; omega) | (simp; done))

theorem b_v402_apply (r : Fin 256) (j : Fin 1024) :
    kernelRun0_B.sl.v402 (F := Ideal) c arg2 harg2 arg3 harg3 arg5 harg5 arg6 harg6 arg12 arg13 harg13 arg14 arg15 harg15 arg16 arg17 harg17 x1 x2 x4 x5 xs1 xs3 xs5 (ix2 r j) = gat (bgP x1 x4 ⟨256 + r.val, by omega⟩) (useq (fun k => xs5 (ix2 0 k)) (fun k => xs5 (ix2 1 k)) (fun r k => xs3 (ix3 0 r k)) (uP x1 x4)) (fun n k => x5 (ix2 n k)) (768 + r.val) j := by
  unfold kernelRun0_B.sl.v402
  rw [View.readCov_eq_canon']
  simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  pointwise
  simp (disch := first | omega | (simp; done) | (simp; omega)) only [hit2, miss2_0, miss2_1, hit3, miss3_0, miss3_1, miss3_2]
  try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
  pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, b_v301_apply, b_v456_apply, b_v140_apply, b_v182_apply, b_v360_apply, View.readAt_eq_ld, harg2.read_unread, harg3.read_unread, harg5.read_unread, harg6.read_unread, harg13.read_unread, harg15.read_unread, harg17.read_unread]
  simp (disch := omega) only [sel_eq]
  unfold gat
  refine conv_congr ?_ ?_ ?_
  all_goals
    (try split_ifs) <;> first | (exfalso; omega) | exact useq_c0 (by omega) | exact useq_c1 (by omega) | exact useq_lo (by first | omega | (dsimp only; omega) | (simp; omega) | (simp; done)) | exact useq_hi (by first | omega | (dsimp only; omega) | (simp; omega) | (simp; done))

end Cert.ConvIdeal.Hand
end
-- ==== Proof.ConvOutB.lean ====
module

public import proofs.«01_k».proof.Proof.Gen.ConvIdeal.Frame
public import proofs.«01_k».proof.Proof.ConvBodyB

@[expose] public section

set_option maxRecDepth 16384

noncomputable section

namespace Cert.ConvIdeal.Hand

open Cert.ConvIdeal Cert.ConvIdeal.Gen Idealize.ShloMosaic Idealize.ShloMosaic.TcCoe Cert.Reads

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S1024x1024 .f32) (harg4 : arg4.IsWhole) (arg5 : Memref sig .tc .vmem S1024x3072 .bf16) (harg5 : arg5.IsWhole)
  (arg6 : Memref sig .tc .vmem S3x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S1024x1024 .f32) (harg10 : arg10.IsWhole) (arg11 : Memref sig .tc .vmem S1x2x1024 .f32) (harg11 : arg11.IsWhole)
  (arg12 : Memref sig .tc .vmem S2x512x1024 .bf16) (harg12 : arg12.IsWhole) (arg13 : Memref sig .tc .vmem S2x512x1024 .f32) (harg13 : arg13.IsWhole)
  (arg14 : Memref sig .tc .vmem S512x1024 .f32) (harg14 : arg14.IsWhole) (arg15 : Memref sig .tc .vmem S2x512x1024 .f32) (harg15 : arg15.IsWhole)
  (arg16 : Memref sig .tc .vmem S512x1024 .bf16) (harg16 : arg16.IsWhole) (arg17 : Memref sig .tc .vmem S8x1024 .f32) (harg17 : arg17.IsWhole)
  (x0 : Vec Ideal S512x1024 .f32) (x1 : Vec Ideal S512x1024 .f32) (x2 : Vec Ideal S512x1024 .f32) (x3 : Vec Ideal S1024x1024 .f32)
  (x4 : Vec Ideal S1024x3072 .bf16) (x5 : Vec Ideal S3x1024 .f32) (x6 : Vec Ideal S1024x1024 .bf16) (x7 : Vec Ideal S1x1024 .f32)
  (x8 : Vec Ideal S1x1024 .f32) (xs1 : Vec Ideal S2x512x1024 .f32) (xs3 : Vec Ideal S2x512x1024 .f32) (xs5 : Vec Ideal S8x1024 .f32) (hc0 : ¬cond0_0 i) (hc1 : ¬cond0_1 i)

set_option maxHeartbeats 4000000 in
/-- The block of rows a point of this kind writes. -/
theorem out0_B_9_apply (r j : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs1 xs3 xs5 (ix2 r j) = lnorm (resid (fun k => x3 (ix2 r k)) fun k => ∑ m, gat (bseq (fun r k => xs1 (ix3 0 r k)) (bgP x1 x4) r.val) (useq (fun k => xs5 (ix2 0 k)) (fun k => xs5 (ix2 1 k)) (fun r k => xs3 (ix3 0 r k)) (uP x1 x4)) (fun n k => x5 (ix2 n k)) r.val m * x6 (ix2 m k))
      (fun k => x7 (ix2 0 k)) (fun k => x8 (ix2 0 k)) j := by
  unfold out0_B_9
  rw [View.read_writes_junk_eq_canon]
  unfold kernelRun0_B
  dsimp only
  try simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  rcases (by omega : r.val < 256 ∨ (256 ≤ r.val ∧ r.val < 512) ∨ (512 ≤ r.val ∧ r.val < 768) ∨ (768 ≤ r.val)) with hf | hf | hf | hf
  all_goals
    simp (disch := first | omega | (simp; done) | (simp; omega)) only [hit2, miss2_0, miss2_1, hit3, miss3_0, miss3_1, miss3_2]
    try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
    pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, b_v301_apply, b_v456_apply, b_v140_apply (x1 := x1) (x4 := x4), b_v182_apply (x1 := x1) (x4 := x4), b_v360_apply, b_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    try simp (disch := omega) only [Nat.add_sub_of_le, bseq_lo, bseq_hi, e512]
    rfl

set_option maxHeartbeats 4000000 in
/-- The two rows of the state a point of this kind writes. -/
theorem out0_B_10_apply (r : Fin 2) (j : Fin 1024) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs1 xs3 xs5 (ix3 (n0 := 1) 0 r j) = uP x1 x4 ⟨510 + r.val, by omega⟩ j := by
  unfold out0_B_10
  rw [View.read_writes_junk_eq_canon]
  unfold kernelRun0_B
  dsimp only
  try simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  all_goals
    simp (disch := first | omega | (simp; done) | (simp; omega)) only [hit2, miss2_0, miss2_1, hit3, miss3_0, miss3_1, miss3_2]
    try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
    pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, b_v301_apply, b_v456_apply, b_v140_apply (x1 := x1) (x4 := x4), b_v182_apply (x1 := x1) (x4 := x4), b_v360_apply, b_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    try rfl

set_option maxHeartbeats 4000000 in
/-- The gate rows a point of this kind carries on. -/
theorem sout0_B_1_apply (r : Fin 512) (j : Fin 1024) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs1 xs3 xs5 (ix3 (n0 := 2) 0 r j) = bgP x2 x4 r j := by
  unfold sout0_B_1
  rw [View.read_writes_junk_eq_canon]
  unfold kernelRun0_B
  dsimp only
  try simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
    pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, b_v301_apply, b_v456_apply, b_v140_apply (x1 := x1) (x4 := x4), b_v182_apply (x1 := x1) (x4 := x4), b_v360_apply, b_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, bgP, cgP, hP, uP, pj]
    try simp (disch := omega) only [Nat.add_sub_of_le, e1536, e2560]
    try rfl

set_option maxHeartbeats 4000000 in
/-- The gated rows a point of this kind carries on. -/
theorem sout0_B_3_apply (r : Fin 512) (j : Fin 1024) :
    sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs1 xs3 xs5 (ix3 (n0 := 2) 0 r j) = uP x2 x4 r j := by
  unfold sout0_B_3
  rw [View.read_writes_junk_eq_canon]
  unfold kernelRun0_B
  dsimp only
  try simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
    pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, b_v301_apply, b_v456_apply, b_v140_apply (x1 := x1) (x4 := x4), b_v182_apply (x1 := x1) (x4 := x4), b_v360_apply, b_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, bgP, cgP, hP, uP, pj]
    try simp (disch := omega) only [Nat.add_sub_of_le, e1536, e2560]
    try rfl

set_option maxHeartbeats 4000000 in
/-- The two last rows a point of this kind carries on. -/
theorem sout0_B_5_apply (r : Fin 8) (hr : r.val < 2) (j : Fin 1024) :
    sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs1 xs3 xs5 (ix2 r j) = uP x1 x4 ⟨510 + r.val, by omega⟩ j := by
  unfold sout0_B_5
  rw [View.read_writes_apply_eq_canon]
  swap
  · unfold kernelRun0_B
    dsimp only
    unfold kernelRun0_B.sl.HS5_4
    refine ⟨_, List.mem_cons_self, ?_⟩
    dsimp only
    rw [Rect.mem_set_unit]
    intro a
    match a with
    | ⟨0, _⟩ => exact ⟨Nat.zero_le _, by show r.val < 0 + 2; omega⟩
    | ⟨1, _⟩ => exact ⟨Nat.zero_le _, by show j.val < 0 + 1024; omega⟩
  unfold kernelRun0_B
  dsimp only
  try simp only [kernelRun0_B.sl.HS0_1, kernelRun0_B.sl.HS0_2, kernelRun0_B.sl.HS1_2, kernelRun0_B.sl.HS1_3, kernelRun0_B.sl.HS2_2, kernelRun0_B.sl.HS2_4, kernelRun0_B.sl.HS3_2, kernelRun0_B.sl.HS4_2, kernelRun0_B.sl.HS4_4, kernelRun0_B.sl.HS5_1, kernelRun0_B.sl.HS5_2, kernelRun0_B.sl.HS5_3, kernelRun0_B.sl.HS5_4]
  all_goals
    simp (disch := first | omega | (simp; done) | (simp; omega)) only [hit2, miss2_0, miss2_1, hit3, miss3_0, miss3_1, miss3_2]
    try simp only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v24, kernelRun0_B.sl.v113]
    pointwise [k0_pay1, k0_pay2, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, b_v69_apply, b_v289_apply, b_v221_apply, b_v231_apply, b_v441_apply, b_v451_apply, b_v242_apply, b_v297_apply, b_v278_apply, b_v333_apply, b_v80_apply, b_v81_apply, b_v245_apply, b_v246_apply, b_v300_apply, b_v301_apply, b_v456_apply, b_v140_apply (x1 := x1) (x4 := x4), b_v182_apply (x1 := x1) (x4 := x4), b_v360_apply, b_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, bgP, cgP, hP, uP, pj]
    try simp only [← Nat.add_assoc, Nat.reduceAdd]
    try rfl

end Cert.ConvIdeal.Hand
end
-- ==== Proof.ConvBodyC.lean ====
module

public import proofs.«01_k».proof.Proof.Gen.ConvIdeal.Frame.RunC
public import proofs.«01_k».proof.Proof.ConvSpec

@[expose] public section

set_option maxRecDepth 16384

noncomputable section

namespace Cert.ConvIdeal.Hand

open Cert.ConvIdeal Cert.ConvIdeal.Gen Idealize.ShloMosaic Idealize.ShloMosaic.TcCoe Cert.Reads

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S1024x1024 .f32) (harg4 : arg4.IsWhole) (arg5 : Memref sig .tc .vmem S1024x3072 .bf16) (harg5 : arg5.IsWhole)
  (arg6 : Memref sig .tc .vmem S3x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S1024x1024 .f32) (harg10 : arg10.IsWhole) (arg11 : Memref sig .tc .vmem S1x2x1024 .f32) (harg11 : arg11.IsWhole)
  (arg12 : Memref sig .tc .vmem S2x512x1024 .bf16) (harg12 : arg12.IsWhole) (arg13 : Memref sig .tc .vmem S2x512x1024 .f32) (harg13 : arg13.IsWhole)
  (arg14 : Memref sig .tc .vmem S512x1024 .f32) (harg14 : arg14.IsWhole) (arg15 : Memref sig .tc .vmem S2x512x1024 .f32) (harg15 : arg15.IsWhole)
  (arg16 : Memref sig .tc .vmem S512x1024 .bf16) (harg16 : arg16.IsWhole) (arg17 : Memref sig .tc .vmem S8x1024 .f32) (harg17 : arg17.IsWhole)
  (x0 : Vec Ideal S512x1024 .f32) (x1 : Vec Ideal S512x1024 .f32) (x2 : Vec Ideal S512x1024 .f32) (x3 : Vec Ideal S1024x1024 .f32)
  (x4 : Vec Ideal S1024x3072 .bf16) (x5 : Vec Ideal S3x1024 .f32) (x6 : Vec Ideal S1024x1024 .bf16) (x7 : Vec Ideal S1x1024 .f32)
  (x8 : Vec Ideal S1x1024 .f32) (xs1 : Vec Ideal S2x512x1024 .f32) (xs3 : Vec Ideal S2x512x1024 .f32) (xs5 : Vec Ideal S8x1024 .f32)

theorem c_v25_apply (j : Fin 1024) :
    kernelRun0_C.sl.v25 (F := Ideal) c arg17 (ix2 (n0 := 1) 0 j) = 0 := by
  unfold kernelRun0_C.sl.v25
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, View.readAt_eq_ld, Ideal.ofBits_zero]

theorem c_v26_apply (j : Fin 1024) :
    kernelRun0_C.sl.v26 (F := Ideal) c arg17 (ix2 (n0 := 1) 0 j) = 0 := by
  unfold kernelRun0_C.sl.v26
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, View.readAt_eq_ld, Ideal.ofBits_zero]

theorem c_v69_apply (r : Fin 512) (k : Fin 1024) :
    kernelRun0_C.sl.v69 (F := Ideal) c arg2 harg2 arg12 x1 (ix3 (n0 := 1) 0 r k) = x1 (ix2 r k) := by
  unfold kernelRun0_C.sl.v69
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, View.readAt_eq_ld, harg2.read_unread]

theorem c_v289_apply (r : Fin 512) (k : Fin 1024) :
    kernelRun0_C.sl.v289 (F := Ideal) c arg2 harg2 arg3 harg3 arg12 x1 x2 (ix3 (n0 := 1) 0 r k) = x2 (ix2 r k) := by
  unfold kernelRun0_C.sl.v289
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, View.readAt_eq_ld, harg2.read_unread, harg3.read_unread]

theorem c_v221_apply (r : Fin 512) (j : Fin 512) :
    kernelRun0_C.sl.v221 (F := Ideal) c arg2 harg2 arg5 harg5 arg12 arg14 x1 x4 (ix2 r j) = cgP x1 x4 r ⟨j.val, by omega⟩ := by
  unfold kernelRun0_C.sl.v221
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, View.readAt_eq_ld, harg2.read_unread, harg5.read_unread, bgP, cgP, hP, uP, pj]
  try simp only [← Nat.add_assoc, Nat.reduceAdd]
  try rfl

theorem c_v231_apply (r : Fin 512) (j : Fin 512) :
    kernelRun0_C.sl.v231 (F := Ideal) c arg2 harg2 arg5 harg5 arg12 arg14 x1 x4 (ix2 r j) = cgP x1 x4 r ⟨512 + j.val, by omega⟩ := by
  unfold kernelRun0_C.sl.v231
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, View.readAt_eq_ld, harg2.read_unread, harg5.read_unread, bgP, cgP, hP, uP, pj]
  try simp only [← Nat.add_assoc, Nat.reduceAdd]
  try rfl

theorem c_v441_apply (r : Fin 512) (j : Fin 512) :
    kernelRun0_C.sl.v441 (F := Ideal) c arg2 harg2 arg3 harg3 arg5 harg5 arg12 arg14 x1 x2 x4 (ix2 r j) = cgP x2 x4 r ⟨j.val, by omega⟩ := by
  unfold kernelRun0_C.sl.v441
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, View.readAt_eq_ld, harg2.read_unread, harg3.read_unread, harg5.read_unread, bgP, cgP, hP, uP, pj]
  try simp only [← Nat.add_assoc, Nat.reduceAdd]
  try rfl

theorem c_v451_apply (r : Fin 512) (j : Fin 512) :
    kernelRun0_C.sl.v451 (F := Ideal) c arg2 harg2 arg3 harg3 arg5 harg5 arg12 arg14 x1 x2 x4 (ix2 r j) = cgP x2 x4 r ⟨512 + j.val, by omega⟩ := by
  unfold kernelRun0_C.sl.v451
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, View.readAt_eq_ld, harg2.read_unread, harg3.read_unread, harg5.read_unread, bgP, cgP, hP, uP, pj]
  try simp only [← Nat.add_assoc, Nat.reduceAdd]
  try rfl

theorem c_v242_apply (r : Fin 256) (j : Fin 1024) :
    kernelRun0_C.sl.v242 (F := Ideal) c arg2 harg2 arg5 harg5 arg12 arg14 arg15 x1 x4 (ix3 (n0 := 1) 0 r j) = uP x1 x4 ⟨r.val, by omega⟩ j := by
  unfold kernelRun0_C.sl.v242
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
    pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, View.readAt_eq_ld, harg2.read_unread, harg5.read_unread, bgP, cgP, hP, uP, pj]
    try simp (disch := omega) only [Nat.add_sub_of_le, e1536, e2560]
    try rfl

theorem c_v297_apply (r : Fin 256) (j : Fin 1024) :
    kernelRun0_C.sl.v297 (F := Ideal) c arg2 harg2 arg5 harg5 arg12 arg14 arg15 x1 x4 (ix3 (n0 := 1) 0 r j) = uP x1 x4 ⟨256 + r.val, by omega⟩ j := by
  unfold kernelRun0_C.sl.v297
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
    pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, View.readAt_eq_ld, harg2.read_unread, harg5.read_unread, bgP, cgP, hP, uP, pj]
    try simp (disch := omega) only [Nat.add_sub_of_le, e1536, e2560]
    try rfl

theorem c_v278_apply (r : Fin 256) (j : Fin 1024) :
    kernelRun0_C.sl.v278 (F := Ideal) c arg2 harg2 arg5 harg5 arg12 arg13 x1 x4 (ix3 (n0 := 1) 0 r j) = bgP x1 x4 ⟨r.val, by omega⟩ j := by
  unfold kernelRun0_C.sl.v278
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
    pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, View.readAt_eq_ld, harg2.read_unread, harg5.read_unread, bgP, cgP, hP, uP, pj]
    try simp (disch := omega) only [Nat.add_sub_of_le, e1536, e2560]
    try rfl

theorem c_v333_apply (r : Fin 256) (j : Fin 1024) :
    kernelRun0_C.sl.v333 (F := Ideal) c arg2 harg2 arg3 harg3 arg5 harg5 arg12 arg13 x1 x2 x4 (ix3 (n0 := 1) 0 r j) = bgP x1 x4 ⟨256 + r.val, by omega⟩ j := by
  unfold kernelRun0_C.sl.v333
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
    pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, View.readAt_eq_ld, harg2.read_unread, harg3.read_unread, harg5.read_unread, bgP, cgP, hP, uP, pj]
    try simp (disch := omega) only [Nat.add_sub_of_le, e1536, e2560]
    try rfl

theorem c_v80_apply (j : Fin 1024) :
    kernelRun0_C.sl.v80 (F := Ideal) c arg15 harg15 arg17 xs3 (ix2 (n0 := 1) 0 j) = xs3 (ix3 0 254 j) := by
  unfold kernelRun0_C.sl.v80
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, View.readAt_eq_ld, harg15.read_unread, bgP, cgP, hP, uP, pj]
  try simp only [← Nat.add_assoc, Nat.reduceAdd]
  try rfl

theorem c_v81_apply (j : Fin 1024) :
    kernelRun0_C.sl.v81 (F := Ideal) c arg15 harg15 arg17 xs3 (ix2 (n0 := 1) 0 j) = xs3 (ix3 0 255 j) := by
  unfold kernelRun0_C.sl.v81
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, View.readAt_eq_ld, harg15.read_unread, bgP, cgP, hP, uP, pj]
  try simp only [← Nat.add_assoc, Nat.reduceAdd]
  try rfl

theorem c_v245_apply (j : Fin 1024) :
    kernelRun0_C.sl.v245 (F := Ideal) c arg15 harg15 arg17 xs3 (ix2 (n0 := 1) 0 j) = xs3 (ix3 0 510 j) := by
  unfold kernelRun0_C.sl.v245
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, View.readAt_eq_ld, harg15.read_unread, bgP, cgP, hP, uP, pj]
  try simp only [← Nat.add_assoc, Nat.reduceAdd]
  try rfl

theorem c_v246_apply (j : Fin 1024) :
    kernelRun0_C.sl.v246 (F := Ideal) c arg15 harg15 arg17 xs3 (ix2 (n0 := 1) 0 j) = xs3 (ix3 0 511 j) := by
  unfold kernelRun0_C.sl.v246
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, View.readAt_eq_ld, harg15.read_unread, bgP, cgP, hP, uP, pj]
  try simp only [← Nat.add_assoc, Nat.reduceAdd]
  try rfl

theorem c_v300_apply (j : Fin 1024) :
    kernelRun0_C.sl.v300 (F := Ideal) c arg2 harg2 arg5 harg5 arg12 arg14 arg15 harg15 arg17 x1 x4 xs3 (ix2 (n0 := 1) 0 j) = uP x1 x4 254 j := by
  unfold kernelRun0_C.sl.v300
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, View.readAt_eq_ld, harg2.read_unread, harg5.read_unread, harg15.read_unread, bgP, cgP, hP, uP, pj]
  try simp only [← Nat.add_assoc, Nat.reduceAdd]
  try rfl

theorem c_v301_apply (j : Fin 1024) :
    kernelRun0_C.sl.v301 (F := Ideal) c arg2 harg2 arg5 harg5 arg12 arg14 arg15 harg15 arg17 x1 x4 xs3 (ix2 (n0 := 1) 0 j) = uP x1 x4 255 j := by
  unfold kernelRun0_C.sl.v301
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, View.readAt_eq_ld, harg2.read_unread, harg5.read_unread, harg15.read_unread, bgP, cgP, hP, uP, pj]
  try simp only [← Nat.add_assoc, Nat.reduceAdd]
  try rfl

theorem c_v456_apply (r : Fin 2) (j : Fin 1024) :
    kernelRun0_C.sl.v456 (F := Ideal) c arg2 harg2 arg5 harg5 arg12 arg14 arg15 harg15 arg17 x1 x4 xs3 (ix2 r j) = uP x1 x4 ⟨510 + r.val, by omega⟩ j := by
  unfold kernelRun0_C.sl.v456
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, c_v301_apply, View.readAt_eq_ld, harg2.read_unread, harg5.read_unread, harg15.read_unread, bgP, cgP, hP, uP, pj]
  try simp only [← Nat.add_assoc, Nat.reduceAdd]
  try rfl

theorem c_v140_apply (r : Fin 256) (j : Fin 1024) :
    kernelRun0_C.sl.v140 (F := Ideal) c arg6 harg6 arg13 harg13 arg15 harg15 arg16 arg17 x5 xs1 xs3 (ix2 r j) = gat ((fun r k => xs1 (ix3 0 r k)) ⟨r.val, by omega⟩) (useq (fun _ => 0) (fun _ => 0) (fun r k => xs3 (ix3 0 r k)) (uP x1 x4)) (fun n k => x5 (ix2 n k)) r.val j := by
  unfold kernelRun0_C.sl.v140
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, c_v301_apply, c_v456_apply, View.readAt_eq_ld, harg6.read_unread, harg13.read_unread, harg15.read_unread]
  simp (disch := omega) only [sel_eq]
  unfold gat
  refine conv_congr0 ?_ ?_ ?_
  all_goals
    (try split_ifs) <;> first | (exfalso; omega) | exact mul_c0 (by omega) | exact mul_c1 (by omega) | exact mul_eq (useq_lo (by first | omega | (dsimp only; omega) | (simp; omega) | (simp; done))) | exact mul_eq (useq_hi (by first | omega | (dsimp only; omega) | (simp; omega) | (simp; done)))

theorem c_v182_apply (r : Fin 256) (j : Fin 1024) :
    kernelRun0_C.sl.v182 (F := Ideal) c arg6 harg6 arg13 harg13 arg15 harg15 arg16 arg17 x5 xs1 xs3 (ix2 r j) = gat ((fun r k => xs1 (ix3 0 r k)) ⟨256 + r.val, by omega⟩) (useq (fun _ => 0) (fun _ => 0) (fun r k => xs3 (ix3 0 r k)) (uP x1 x4)) (fun n k => x5 (ix2 n k)) (256 + r.val) j := by
  unfold kernelRun0_C.sl.v182
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, c_v301_apply, c_v456_apply, c_v140_apply, View.readAt_eq_ld, harg6.read_unread, harg13.read_unread, harg15.read_unread]
  simp (disch := omega) only [sel_eq]
  unfold gat
  refine conv_congr0 ?_ ?_ ?_
  all_goals
    (try split_ifs) <;> first | (exfalso; omega) | exact mul_c0 (by omega) | exact mul_c1 (by omega) | exact mul_eq (useq_lo (by first | omega | (dsimp only; omega) | (simp; omega) | (simp; done))) | exact mul_eq (useq_hi (by first | omega | (dsimp only; omega) | (simp; omega) | (simp; done)))

theorem c_v360_apply (r : Fin 256) (j : Fin 1024) :
    kernelRun0_C.sl.v360 (F := Ideal) c arg2 harg2 arg3 harg3 arg5 harg5 arg6 harg6 arg12 arg13 harg13 arg14 arg15 harg15 arg16 arg17 x1 x2 x4 x5 xs1 xs3 (ix2 r j) = gat (bgP x1 x4 ⟨r.val, by omega⟩) (useq (fun _ => 0) (fun _ => 0) (fun r k => xs3 (ix3 0 r k)) (uP x1 x4)) (fun n k => x5 (ix2 n k)) (512 + r.val) j := by
  unfold kernelRun0_C.sl.v360
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, c_v301_apply, c_v456_apply, c_v140_apply, c_v182_apply, View.readAt_eq_ld, harg2.read_unread, harg3.read_unread, harg5.read_unread, harg6.read_unread, harg13.read_unread, harg15.read_unread]
  simp (disch := omega) only [sel_eq]
  unfold gat
  refine conv_congr0 ?_ ?_ ?_
  all_goals
    (try split_ifs) <;> first | (exfalso; omega) | exact mul_c0 (by omega) | exact mul_c1 (by omega) | exact mul_eq (useq_lo (by first | omega | (dsimp only; omega) | (simp; omega) | (simp; done))) | exact mul_eq (useq_hi (by first | omega | (dsimp only; omega) | (simp; omega) | (simp; done)))

theorem c_v402_apply (r : Fin 256) (j : Fin 1024) :
    kernelRun0_C.sl.v402 (F := Ideal) c arg2 harg2 arg3 harg3 arg5 harg5 arg6 harg6 arg12 arg13 harg13 arg14 arg15 harg15 arg16 arg17 x1 x2 x4 x5 xs1 xs3 (ix2 r j) = gat (bgP x1 x4 ⟨256 + r.val, by omega⟩) (useq (fun _ => 0) (fun _ => 0) (fun r k => xs3 (ix3 0 r k)) (uP x1 x4)) (fun n k => x5 (ix2 n k)) (768 + r.val) j := by
  unfold kernelRun0_C.sl.v402
  rw [View.readCov_eq_canon']
  simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  pointwise
  simp (disch := first | omega | (simp; done) | (simp; omega)) only [hit2, miss2_0, miss2_1, hit3, miss3_0, miss3_1, miss3_2]
  try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
  pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, c_v301_apply, c_v456_apply, c_v140_apply, c_v182_apply, c_v360_apply, View.readAt_eq_ld, harg2.read_unread, harg3.read_unread, harg5.read_unread, harg6.read_unread, harg13.read_unread, harg15.read_unread]
  simp (disch := omega) only [sel_eq]
  unfold gat
  refine conv_congr0 ?_ ?_ ?_
  all_goals
    (try split_ifs) <;> first | (exfalso; omega) | exact mul_c0 (by omega) | exact mul_c1 (by omega) | exact mul_eq (useq_lo (by first | omega | (dsimp only; omega) | (simp; omega) | (simp; done))) | exact mul_eq (useq_hi (by first | omega | (dsimp only; omega) | (simp; omega) | (simp; done)))

end Cert.ConvIdeal.Hand
end
-- ==== Proof.ConvOutC.lean ====
module

public import proofs.«01_k».proof.Proof.Gen.ConvIdeal.Frame
public import proofs.«01_k».proof.Proof.ConvBodyC

@[expose] public section

set_option maxRecDepth 16384

noncomputable section

namespace Cert.ConvIdeal.Hand

open Cert.ConvIdeal Cert.ConvIdeal.Gen Idealize.ShloMosaic Idealize.ShloMosaic.TcCoe Cert.Reads

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S1024x1024 .f32) (harg4 : arg4.IsWhole) (arg5 : Memref sig .tc .vmem S1024x3072 .bf16) (harg5 : arg5.IsWhole)
  (arg6 : Memref sig .tc .vmem S3x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x1024 .f32) (harg9 : arg9.IsWhole)
  (arg10 : Memref sig .tc .vmem S1024x1024 .f32) (harg10 : arg10.IsWhole) (arg11 : Memref sig .tc .vmem S1x2x1024 .f32) (harg11 : arg11.IsWhole)
  (arg12 : Memref sig .tc .vmem S2x512x1024 .bf16) (harg12 : arg12.IsWhole) (arg13 : Memref sig .tc .vmem S2x512x1024 .f32) (harg13 : arg13.IsWhole)
  (arg14 : Memref sig .tc .vmem S512x1024 .f32) (harg14 : arg14.IsWhole) (arg15 : Memref sig .tc .vmem S2x512x1024 .f32) (harg15 : arg15.IsWhole)
  (arg16 : Memref sig .tc .vmem S512x1024 .bf16) (harg16 : arg16.IsWhole) (arg17 : Memref sig .tc .vmem S8x1024 .f32) (harg17 : arg17.IsWhole)
  (x0 : Vec Ideal S512x1024 .f32) (x1 : Vec Ideal S512x1024 .f32) (x2 : Vec Ideal S512x1024 .f32) (x3 : Vec Ideal S1024x1024 .f32)
  (x4 : Vec Ideal S1024x3072 .bf16) (x5 : Vec Ideal S3x1024 .f32) (x6 : Vec Ideal S1024x1024 .bf16) (x7 : Vec Ideal S1x1024 .f32)
  (x8 : Vec Ideal S1x1024 .f32) (xs1 : Vec Ideal S2x512x1024 .f32) (xs3 : Vec Ideal S2x512x1024 .f32) (xs5 : Vec Ideal S8x1024 .f32) (hc0 : ¬cond0_0 i) (hc1 : cond0_1 i)

set_option maxHeartbeats 4000000 in
/-- The block of rows a point of this kind writes. -/
theorem out0_C_9_apply (r j : Fin 1024) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs1 xs3 (ix2 r j) = lnorm (resid (fun k => x3 (ix2 r k)) fun k => ∑ m, gat (bseq (fun r k => xs1 (ix3 0 r k)) (bgP x1 x4) r.val) (useq (fun _ => 0) (fun _ => 0) (fun r k => xs3 (ix3 0 r k)) (uP x1 x4)) (fun n k => x5 (ix2 n k)) r.val m * x6 (ix2 m k))
      (fun k => x7 (ix2 0 k)) (fun k => x8 (ix2 0 k)) j := by
  unfold out0_C_9
  rw [View.read_writes_junk_eq_canon]
  unfold kernelRun0_C
  dsimp only
  try simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  rcases (by omega : r.val < 256 ∨ (256 ≤ r.val ∧ r.val < 512) ∨ (512 ≤ r.val ∧ r.val < 768) ∨ (768 ≤ r.val)) with hf | hf | hf | hf
  all_goals
    simp (disch := first | omega | (simp; done) | (simp; omega)) only [hit2, miss2_0, miss2_1, hit3, miss3_0, miss3_1, miss3_2]
    try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
    pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, c_v301_apply, c_v456_apply, c_v140_apply (x1 := x1) (x4 := x4), c_v182_apply (x1 := x1) (x4 := x4), c_v360_apply, c_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    try simp (disch := omega) only [Nat.add_sub_of_le, bseq_lo, bseq_hi, e512]
    rfl

set_option maxHeartbeats 4000000 in
/-- The two rows of the state a point of this kind writes. -/
theorem out0_C_10_apply (r : Fin 2) (j : Fin 1024) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs1 xs3 (ix3 (n0 := 1) 0 r j) = uP x1 x4 ⟨510 + r.val, by omega⟩ j := by
  unfold out0_C_10
  rw [View.read_writes_junk_eq_canon]
  unfold kernelRun0_C
  dsimp only
  try simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  all_goals
    simp (disch := first | omega | (simp; done) | (simp; omega)) only [hit2, miss2_0, miss2_1, hit3, miss3_0, miss3_1, miss3_2]
    try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
    pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, c_v301_apply, c_v456_apply, c_v140_apply (x1 := x1) (x4 := x4), c_v182_apply (x1 := x1) (x4 := x4), c_v360_apply, c_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    try rfl

set_option maxHeartbeats 4000000 in
/-- The gate rows a point of this kind carries on. -/
theorem sout0_C_1_apply (r : Fin 512) (j : Fin 1024) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs1 xs3 (ix3 (n0 := 2) 0 r j) = bgP x2 x4 r j := by
  unfold sout0_C_1
  rw [View.read_writes_junk_eq_canon]
  unfold kernelRun0_C
  dsimp only
  try simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
    pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, c_v301_apply, c_v456_apply, c_v140_apply (x1 := x1) (x4 := x4), c_v182_apply (x1 := x1) (x4 := x4), c_v360_apply, c_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, bgP, cgP, hP, uP, pj]
    try simp (disch := omega) only [Nat.add_sub_of_le, e1536, e2560]
    try rfl

set_option maxHeartbeats 4000000 in
/-- The gated rows a point of this kind carries on. -/
theorem sout0_C_3_apply (r : Fin 512) (j : Fin 1024) :
    sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs1 xs3 (ix3 (n0 := 2) 0 r j) = uP x2 x4 r j := by
  unfold sout0_C_3
  rw [View.read_writes_junk_eq_canon]
  unfold kernelRun0_C
  dsimp only
  try simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  rcases (by omega : j.val < 512 ∨ 512 ≤ j.val) with hf | hf
  all_goals
    simp (disch := first | omega | (simp; done) | (simp; omega)) only [hit2, miss2_0, miss2_1, hit3, miss3_0, miss3_1, miss3_2]
    try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
    pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, c_v301_apply, c_v456_apply, c_v140_apply (x1 := x1) (x4 := x4), c_v182_apply (x1 := x1) (x4 := x4), c_v360_apply, c_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, bgP, cgP, hP, uP, pj]
    try simp (disch := omega) only [Nat.add_sub_of_le, e1536, e2560]
    try rfl

set_option maxHeartbeats 4000000 in
/-- The two last rows a point of this kind carries on. -/
theorem sout0_C_5_apply (r : Fin 8) (hr : r.val < 2) (j : Fin 1024) :
    sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs1 xs3 (ix2 r j) = uP x1 x4 ⟨510 + r.val, by omega⟩ j := by
  unfold sout0_C_5
  rw [View.read_writes_junk_eq_canon]
  unfold kernelRun0_C
  dsimp only
  try simp only [kernelRun0_C.sl.HS0_1, kernelRun0_C.sl.HS0_2, kernelRun0_C.sl.HS1_2, kernelRun0_C.sl.HS1_3, kernelRun0_C.sl.HS2_2, kernelRun0_C.sl.HS2_4, kernelRun0_C.sl.HS3_2, kernelRun0_C.sl.HS4_2, kernelRun0_C.sl.HS4_4, kernelRun0_C.sl.HS5_1, kernelRun0_C.sl.HS5_2, kernelRun0_C.sl.HS5_3, kernelRun0_C.sl.HS5_4, kernelRun0_C.sl.HS5_5]
  all_goals
    simp (disch := first | omega | (simp; done) | (simp; omega)) only [hit2, miss2_0, miss2_1, hit3, miss3_0, miss3_1, miss3_2]
    try simp only [kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v24, kernelRun0_C.sl.v113]
    pointwise [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, c_v25_apply, c_v26_apply, c_v69_apply, c_v289_apply, c_v221_apply, c_v231_apply, c_v441_apply, c_v451_apply, c_v242_apply, c_v297_apply, c_v278_apply, c_v333_apply, c_v80_apply, c_v81_apply, c_v245_apply, c_v246_apply, c_v300_apply, c_v301_apply, c_v456_apply, c_v140_apply (x1 := x1) (x4 := x4), c_v182_apply (x1 := x1) (x4 := x4), c_v360_apply, c_v402_apply, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, bgP, cgP, hP, uP, pj]
    try simp only [← Nat.add_assoc, Nat.reduceAdd]
    try rfl

end Cert.ConvIdeal.Hand
end
-- ==== Proof.ConvValue.lean ====
/- The gated short convolution over the whole grid: what every grid point reads, what it leaves for the next one, and the
   two arrays after the run, which are the layer's two results. -/
module

public import proofs.«01_k».proof.Proof.ConvFn
public import proofs.«01_k».proof.Proof.ConvOutA
public import proofs.«01_k».proof.Proof.ConvOutB
public import proofs.«01_k».proof.Proof.ConvOutC

@[expose] public section

set_option maxRecDepth 16384

noncomputable section

open Idealize.ShloMosaic Idealize.ShloMosaic.TcCoe Idealize.SL.Sem
open Idealize.ShloMosaic.Pipeline (Dat)

namespace Cert.Reads

section
variable {xb : FVec Ideal ⟨2, ![512, 1024]⟩ .f32} {wb : FVec Ideal ⟨2, ![1024, 3072]⟩ .bf16} {x : XA} {w : WA}
  {b : Fin 8} {s : Fin 2048} {r : Fin 512}

theorem pj_eq (hx : ∀ k, xb (ix2 r k) = x (ix3 b s k)) (hw : ∀ k n, wb (ix2 k n) = w (ix3 0 k n)) (n : Fin 3072) :
    pj xb wb r n = pjA x w b s n := by
  unfold pj pjA
  simp only [hx, hw]

theorem bgP_eq (hx : ∀ k, xb (ix2 r k) = x (ix3 b s k)) (hw : ∀ k n, wb (ix2 k n) = w (ix3 0 k n)) (j : Fin 1024) :
    bgP xb wb r j = bgA x w b s j := pj_eq hx hw _

theorem uP_eq (hx : ∀ k, xb (ix2 r k) = x (ix3 b s k)) (hw : ∀ k n, wb (ix2 k n) = w (ix3 0 k n)) (j : Fin 1024) :
    uP xb wb r j = uA x w b s j := by
  unfold uP cgP hP uA
  rw [pj_eq hx hw, pj_eq hx hw]

end

theorem useqA_row {x : XA} {w : WA} {b : Fin 8} (n : ℕ) (s : Fin 2048) (h : n = s.val + 2) (j : Fin 1024) :
    useqA x w b n j = uA x w b s j := by
  subst h
  unfold useqA
  rw [if_neg (by omega), dif_pos (by omega)]
  congr 1

theorem useqA_zero {x : XA} {w : WA} {b : Fin 8} (n : ℕ) (h : n < 2) (j : Fin 1024) : useqA x w b n j = 0 := by
  unfold useqA
  rw [if_pos h]

/-- A point's row of the gated convolution is the sequence's row, `off` rows on. -/
theorem gat_shift {x : XA} {w : WA} {b : Fin 8} {c0 c1 : Fin 1024 → EReal} {b0 b1 u0 u1 : Fin 512 → Fin 1024 → EReal}
    (wc : Fin 3 → Fin 1024 → EReal) (off : ℕ) (hoff : off ≤ 1024)
    (hb0 : ∀ (r : Fin 512) j, b0 r j = bgA x w b ⟨off + r.val, by omega⟩ j)
    (hb1 : ∀ (r : Fin 512) j, b1 r j = bgA x w b ⟨off + 512 + r.val, by omega⟩ j)
    (hu0 : ∀ (r : Fin 512) j, u0 r j = uA x w b ⟨off + r.val, by omega⟩ j)
    (hu1 : ∀ (r : Fin 512) j, u1 r j = uA x w b ⟨off + 512 + r.val, by omega⟩ j)
    (hc0 : ∀ j, c0 j = useqA x w b off j) (hc1 : ∀ j, c1 j = useqA x w b (off + 1) j) (r : Fin 1024) (j : Fin 1024) :
    gat (bseq b0 b1 r.val) (useq c0 c1 u0 u1) wc r.val j
      = gat (bgA x w b ⟨off + r.val, by omega⟩) (useqA x w b) wc (off + r.val) j := by
  have hb : bseq b0 b1 r.val j = bgA x w b ⟨off + r.val, by omega⟩ j := by
    unfold bseq
    by_cases h : r.val < 512
    · rw [dif_pos h, hb0]
    · rw [dif_neg h, dif_pos r.isLt, hb1]
      congr 1
      apply Fin.ext
      show off + 512 + (r.val - 512) = off + r.val
      omega
  have hu : ∀ n, n < 1026 → useq c0 c1 u0 u1 n j = useqA x w b (off + n) j := by
    intro n hn
    unfold useq
    by_cases h0 : n = 0
    · rw [if_pos h0, hc0, h0, Nat.add_zero]
    · rw [if_neg h0]
      by_cases h1 : n = 1
      · rw [if_pos h1, hc1, h1]
      · rw [if_neg h1]
        by_cases h2 : n < 514
        · rw [dif_pos h2, hu0]
          exact (useqA_row _ _ (by show off + n = off + (n - 2) + 2; omega) j).symm
        · rw [dif_neg h2, dif_pos hn, hu1]
          exact (useqA_row _ _ (by show off + n = off + 512 + (n - 514) + 2; omega) j).symm
  have hr := r.isLt
  unfold gat
  rw [hb, hu r.val (by omega), hu (r.val + 1) (by omega), hu (r.val + 2) (by omega)]
  rfl

end Cert.Reads

namespace Cert.ConvIdeal.Hand

open Cert.ConvIdeal Cert.ConvIdeal.Gen Cert.Reads

variable (m : (ℓ : Loc nD τ sig) → Buf (Elt Ideal) ℓ) (ρ : Dev nD → PrngReg) (c : Dev nD)

theorem V_v11 : V m c main_v11 = shapeCast S16384x1024 (m ((c : Thread nD τ).loc main_arg0)) shapeCasts_S8x2048x1024_S16384x1024 := by
  unfold V hostOps0
  after_results_simp
  rfl

theorem V_v1 : V m c main_v1 = truncf (F := Ideal) .bf16
    (shapeCast S1024x3072 (m ((c : Thread nD τ).loc main_arg1) : FVec Ideal S1x1024x3072 .f32) shapeCasts_S1x1024x3072_S1024x3072) bitsLt_bf16_f32 := by
  unfold V hostOps0
  after_results_simp
  rfl

theorem V_v2 : V m c main_v2 = shapeCast S3x1024 (m ((c : Thread nD τ).loc main_arg2)) shapeCasts_S1x3x1024_S3x1024 := by
  unfold V hostOps0
  after_results_simp
  rfl

theorem V_v4 : V m c main_v4 = truncf (F := Ideal) .bf16
    (shapeCast S1024x1024 (m ((c : Thread nD τ).loc main_arg3) : FVec Ideal S1x1024x1024 .f32) shapeCasts_S1x1024x1024_S1024x1024) bitsLt_bf16_f32 := by
  unfold V hostOps0
  after_results_simp
  rfl

theorem V_v7 : V m c main_v7 = shapeCast S1x1024 (shapeCast S1024 (extractStridedSlice S1x1024 ![1, 0]
    (m ((c : Thread nD τ).loc main_arg4) : FVec Ideal S2x1024 .f32) slices_S2x1024_S1x1024_1_0) shapeCasts_S1x1024_S1024) shapeCasts_S1024_S1x1024 := by
  unfold V hostOps0
  after_results_simp
  rfl

theorem V_v10 : V m c main_v10 = shapeCast S1x1024 (shapeCast S1024 (extractStridedSlice S1x1024 ![1, 0]
    (m ((c : Thread nD τ).loc main_arg5) : FVec Ideal S2x1024 .f32) slices_S2x1024_S1x1024_1_0) shapeCasts_S1x1024_S1024) shapeCasts_S1024_S1x1024 := by
  unfold V hostOps0
  after_results_simp
  rfl

theorem geomX : ∀ t : Fin grid0.N, win0_0.index t 0 = 0 ∧ win0_0.index t 1 = 0
    ∧ win0_1.index t 0 = 2 * t.val + 1 ∧ win0_1.index t 1 = 0
    ∧ win0_2.index t 0 = min (2 * t.val + 2) 31 ∧ win0_2.index t 1 = 0
    ∧ win0_3.index t 0 = t.val ∧ win0_3.index t 1 = 0 := by decide +kernel

theorem geomW : ∀ t : Fin grid0.N, win0_4.index t 0 = 0 ∧ win0_4.index t 1 = 0
    ∧ win0_5.index t 0 = 0 ∧ win0_5.index t 1 = 0 ∧ win0_6.index t 0 = 0 ∧ win0_6.index t 1 = 0
    ∧ win0_7.index t 0 = 0 ∧ win0_7.index t 1 = 0 ∧ win0_8.index t 0 = 0 ∧ win0_8.index t 1 = 0 := by decide +kernel

theorem geomO : ∀ t : Fin grid0.N, win0_9.index t 0 = t.val ∧ win0_9.index t 1 = 0
    ∧ win0_10.index t 0 = t.val / 2 ∧ win0_10.index t 1 = 0 ∧ win0_10.index t 2 = 0 := by decide +kernel

theorem rows_apply (x : FVec Ideal S8x2048x1024 .f32) (R : Fin 16384) (k : Fin 1024) :
    (shapeCast S16384x1024 x : FVec Ideal S16384x1024 .f32) (ix2 R k) = x (ix3 ⟨R.val / 2048, by omega⟩ ⟨R.val % 2048, by omega⟩ k) := by
  pointwise

theorem w_apply (w : FVec Ideal S1x1024x3072 .f32) (k : Fin 1024) (n : Fin 3072) :
    (truncf (F := Ideal) .bf16 (shapeCast S1024x3072 w shapeCasts_S1x1024x3072_S1024x3072) bitsLt_bf16_f32) (ix2 k n) = w (ix3 0 k n) := by
  pointwise

theorem wc_apply (w : FVec Ideal S1x3x1024 .f32) (n : Fin 3) (k : Fin 1024) :
    (shapeCast S3x1024 w shapeCasts_S1x3x1024_S3x1024 : FVec Ideal S3x1024 .f32) (ix2 n k) = w (ix3 0 n k) := by
  pointwise

theorem wo_apply (w : FVec Ideal S1x1024x1024 .f32) (i k : Fin 1024) :
    (truncf (F := Ideal) .bf16 (shapeCast S1024x1024 w shapeCasts_S1x1024x1024_S1024x1024) bitsLt_bf16_f32) (ix2 i k) = w (ix3 0 i k) := by
  pointwise

theorem gb_apply (w : FVec Ideal S2x1024 .f32) (k : Fin 1024) :
    (shapeCast S1x1024 (shapeCast S1024 (extractStridedSlice S1x1024 ![1, 0] w slices_S2x1024_S1x1024_1_0) shapeCasts_S1x1024_S1024)
      shapeCasts_S1024_S1x1024 : FVec Ideal S1x1024 .f32) (ix2 0 k) = w (ix2 1 k) := by
  pointwise

/-- The flat array of rows, read at row `s` of sequence `b`. -/
theorem v11_apply (R : ℕ) (hR : R < 16384) (b : Fin 8) (s : Fin 2048) (h : R = b.val * 2048 + s.val) (k : Fin 1024) :
    (V m c main_v11 : FVec Ideal S16384x1024 .f32) (ix2 ⟨R, hR⟩ k)
      = (m ((c : Thread nD τ).loc main_arg0) : FVec Ideal S8x2048x1024 .f32) (ix3 b s k) := by
  have hs := s.isLt
  refine ((congrFun (V_v11 m c) (ix2 ⟨R, hR⟩ k)).trans (rows_apply _ _ _)).trans ?_
  congr 2
  · apply Fin.ext; show R / 2048 = b.val; omega
  · apply Fin.ext; show R % 2048 = s.val; omega

theorem iblk0 (t : Fin cfg0.N) (r : Fin 512) (k : Fin 1024) (b : Fin 8) (s : Fin 2048) (h : r.val = b.val * 2048 + s.val) :
    (iblk m c 0 t : Vec Ideal S512x1024 .f32) (ix2 r k) = (m ((c : Thread nD τ).loc main_arg0) : FVec Ideal S8x2048x1024 .f32) (ix3 b s k) := by
  obtain ⟨h0, h1, -⟩ := geomX t
  have hR : r.val < 16384 := by omega
  unfold iblk
  rw [View.read_apply]
  refine Eq.trans ?_ (v11_apply m c r.val hR b s h k)
  show V m c main_v11 _ = V m c main_v11 _
  congr 1
  funext a
  apply Fin.ext
  match a with
  | ⟨0, _⟩ => show win0_0.index t 0 * 512 + 1 * r.val = r.val; rw [h0]; omega
  | ⟨1, _⟩ => show win0_0.index t 1 * 1024 + 1 * k.val = k.val; rw [h1]; omega

theorem iblk1 (t : Fin cfg0.N) (r : Fin 512) (k : Fin 1024) (b : Fin 8) (s : Fin 2048)
    (h : (2 * t.val + 1) * 512 + r.val = b.val * 2048 + s.val) :
    (iblk m c 1 t : Vec Ideal S512x1024 .f32) (ix2 r k) = (m ((c : Thread nD τ).loc main_arg0) : FVec Ideal S8x2048x1024 .f32) (ix3 b s k) := by
  obtain ⟨-, -, h0, h1, -⟩ := geomX t
  have hN : t.val < 16 := lt_of_lt_of_eq t.isLt N_0
  have hR : (2 * t.val + 1) * 512 + r.val < 16384 := by omega
  unfold iblk
  rw [View.read_apply]
  refine Eq.trans ?_ (v11_apply m c _ hR b s h k)
  show V m c main_v11 _ = V m c main_v11 _
  congr 1
  funext a
  apply Fin.ext
  match a with
  | ⟨0, _⟩ => show win0_1.index t 0 * 512 + 1 * r.val = (2 * t.val + 1) * 512 + r.val; rw [h0]; omega
  | ⟨1, _⟩ => show win0_1.index t 1 * 1024 + 1 * k.val = k.val; rw [h1]; omega

theorem iblk2 (t : Fin cfg0.N) (ht : t.val < 15) (r : Fin 512) (k : Fin 1024) (b : Fin 8) (s : Fin 2048)
    (h : (2 * t.val + 2) * 512 + r.val = b.val * 2048 + s.val) :
    (iblk m c 2 t : Vec Ideal S512x1024 .f32) (ix2 r k) = (m ((c : Thread nD τ).loc main_arg0) : FVec Ideal S8x2048x1024 .f32) (ix3 b s k) := by
  obtain ⟨-, -, -, -, h0, h1, -⟩ := geomX t
  have hR : (2 * t.val + 2) * 512 + r.val < 16384 := by omega
  have hmin : min (2 * t.val + 2) 31 = 2 * t.val + 2 := Nat.min_eq_left (by omega)
  unfold iblk
  rw [View.read_apply]
  refine Eq.trans ?_ (v11_apply m c _ hR b s h k)
  show V m c main_v11 _ = V m c main_v11 _
  congr 1
  funext a
  apply Fin.ext
  match a with
  | ⟨0, _⟩ => show win0_2.index t 0 * 512 + 1 * r.val = (2 * t.val + 2) * 512 + r.val; rw [h0, hmin]; omega
  | ⟨1, _⟩ => show win0_2.index t 1 * 1024 + 1 * k.val = k.val; rw [h1]; omega

theorem iblk3 (t : Fin cfg0.N) (r : Fin 1024) (k : Fin 1024) (b : Fin 8) (s : Fin 2048)
    (h : t.val * 1024 + r.val = b.val * 2048 + s.val) :
    (iblk m c 3 t : Vec Ideal S1024x1024 .f32) (ix2 r k) = (m ((c : Thread nD τ).loc main_arg0) : FVec Ideal S8x2048x1024 .f32) (ix3 b s k) := by
  obtain ⟨-, -, -, -, -, -, h0, h1⟩ := geomX t
  have hN : t.val < 16 := lt_of_lt_of_eq t.isLt N_0
  have hR : t.val * 1024 + r.val < 16384 := by omega
  unfold iblk
  rw [View.read_apply]
  refine Eq.trans ?_ (v11_apply m c _ hR b s h k)
  show V m c main_v11 _ = V m c main_v11 _
  congr 1
  funext a
  apply Fin.ext
  match a with
  | ⟨0, _⟩ => show win0_3.index t 0 * 1024 + 1 * r.val = t.val * 1024 + r.val; rw [h0]; omega
  | ⟨1, _⟩ => show win0_3.index t 1 * 1024 + 1 * k.val = k.val; rw [h1, Nat.zero_mul, Nat.zero_add, Nat.one_mul]

theorem iblk4 (t : Fin cfg0.N) (k : Fin 1024) (n : Fin 3072) :
    (iblk m c 4 t : Vec Ideal S1024x3072 .bf16) (ix2 k n) = (m ((c : Thread nD τ).loc main_arg1) : FVec Ideal S1x1024x3072 .f32) (ix3 0 k n) := by
  obtain ⟨h0, h1, -⟩ := geomW t
  unfold iblk
  rw [View.read_apply]
  refine Eq.trans ?_ ((congrFun (V_v1 m c) (ix2 k n)).trans (w_apply _ _ _))
  show V m c main_v1 _ = V m c main_v1 _
  congr 1
  funext a
  apply Fin.ext
  match a with
  | ⟨0, _⟩ => show win0_4.index t 0 * 1024 + 1 * k.val = k.val; rw [h0]; omega
  | ⟨1, _⟩ => show win0_4.index t 1 * 3072 + 1 * n.val = n.val; rw [h1]; omega

theorem iblk5 (t : Fin cfg0.N) (n : Fin 3) (k : Fin 1024) :
    (iblk m c 5 t : Vec Ideal S3x1024 .f32) (ix2 n k) = (m ((c : Thread nD τ).loc main_arg2) : FVec Ideal S1x3x1024 .f32) (ix3 0 n k) := by
  obtain ⟨-, -, h0, h1, -⟩ := geomW t
  unfold iblk
  rw [View.read_apply]
  refine Eq.trans ?_ ((congrFun (V_v2 m c) (ix2 n k)).trans (wc_apply _ _ _))
  show V m c main_v2 _ = V m c main_v2 _
  congr 1
  funext a
  apply Fin.ext
  match a with
  | ⟨0, _⟩ => show win0_5.index t 0 * 3 + 1 * n.val = n.val; rw [h0]; omega
  | ⟨1, _⟩ => show win0_5.index t 1 * 1024 + 1 * k.val = k.val; rw [h1]; omega

theorem iblk6 (t : Fin cfg0.N) (i k : Fin 1024) :
    (iblk m c 6 t : Vec Ideal S1024x1024 .bf16) (ix2 i k) = (m ((c : Thread nD τ).loc main_arg3) : FVec Ideal S1x1024x1024 .f32) (ix3 0 i k) := by
  obtain ⟨-, -, -, -, h0, h1, -⟩ := geomW t
  unfold iblk
  rw [View.read_apply]
  refine Eq.trans ?_ ((congrFun (V_v4 m c) (ix2 i k)).trans (wo_apply _ _ _))
  show V m c main_v4 _ = V m c main_v4 _
  congr 1
  funext a
  apply Fin.ext
  match a with
  | ⟨0, _⟩ => show win0_6.index t 0 * 1024 + 1 * i.val = i.val; rw [h0]; omega
  | ⟨1, _⟩ => show win0_6.index t 1 * 1024 + 1 * k.val = k.val; rw [h1]; omega

theorem iblk7 (t : Fin cfg0.N) (k : Fin 1024) :
    (iblk m c 7 t : Vec Ideal S1x1024 .f32) (ix2 0 k) = (m ((c : Thread nD τ).loc main_arg4) : FVec Ideal S2x1024 .f32) (ix2 1 k) := by
  obtain ⟨-, -, -, -, -, -, h0, h1, -⟩ := geomW t
  unfold iblk
  rw [View.read_apply]
  refine Eq.trans ?_ ((congrFun (V_v7 m c) (ix2 0 k)).trans (gb_apply _ _))
  show V m c main_v7 _ = V m c main_v7 _
  congr 1
  funext a
  apply Fin.ext
  match a with
  | ⟨0, _⟩ => show win0_7.index t 0 * 1 + 1 * 0 = 0; rw [h0]
  | ⟨1, _⟩ => show win0_7.index t 1 * 1024 + 1 * k.val = k.val; rw [h1]; omega

theorem iblk8 (t : Fin cfg0.N) (k : Fin 1024) :
    (iblk m c 8 t : Vec Ideal S1x1024 .f32) (ix2 0 k) = (m ((c : Thread nD τ).loc main_arg5) : FVec Ideal S2x1024 .f32) (ix2 1 k) := by
  obtain ⟨-, -, -, -, -, -, -, -, h0, h1⟩ := geomW t
  unfold iblk
  rw [View.read_apply]
  refine Eq.trans ?_ ((congrFun (V_v10 m c) (ix2 0 k)).trans (gb_apply _ _))
  show V m c main_v10 _ = V m c main_v10 _
  congr 1
  funext a
  apply Fin.ext
  match a with
  | ⟨0, _⟩ => show win0_8.index t 0 * 1 + 1 * 0 = 0; rw [h0]
  | ⟨1, _⟩ => show win0_8.index t 1 * 1024 + 1 * k.val = k.val; rw [h1]; omega

/-! ## What a point leaves for the next -/

theorem sc1 (t : Fin cfg0.N) (r : Fin 512) (j : Fin 1024) :
    (outsAt0 m c t.val t.isLt).2.2.1 (ix3 (n0 := 2) 0 r j) = bgP (iblk m c 2 t) (iblk m c 4 t) r j := by
  have hN : t.val < 16 := lt_of_lt_of_eq t.isLt N_0
  by_cases h1 : t.val % 2 = 0
  · by_cases h0 : t.val % 16 = 0
    · rw [outsAt0_A m c t h0 h1]; dsimp only; exact sout0_A_1_apply ..
    · rw [outsAt0_C m c t h0 h1]; dsimp only; exact sout0_C_1_apply ..
  · rw [outsAt0_B m c t (by omega) h1]; dsimp only; exact sout0_B_1_apply ..

theorem sc3 (t : Fin cfg0.N) (r : Fin 512) (j : Fin 1024) :
    (outsAt0 m c t.val t.isLt).2.2.2.1 (ix3 (n0 := 2) 0 r j) = uP (iblk m c 2 t) (iblk m c 4 t) r j := by
  have hN : t.val < 16 := lt_of_lt_of_eq t.isLt N_0
  by_cases h1 : t.val % 2 = 0
  · by_cases h0 : t.val % 16 = 0
    · rw [outsAt0_A m c t h0 h1]; dsimp only; exact sout0_A_3_apply ..
    · rw [outsAt0_C m c t h0 h1]; dsimp only; exact sout0_C_3_apply ..
  · rw [outsAt0_B m c t (by omega) h1]; dsimp only; exact sout0_B_3_apply ..

theorem sc5 (t : Fin cfg0.N) (r : Fin 8) (hr : r.val < 2) (j : Fin 1024) :
    (outsAt0 m c t.val t.isLt).2.2.2.2 (ix2 r j) = uP (iblk m c 1 t) (iblk m c 4 t) ⟨510 + r.val, by omega⟩ j := by
  have hN : t.val < 16 := lt_of_lt_of_eq t.isLt N_0
  by_cases h1 : t.val % 2 = 0
  · by_cases h0 : t.val % 16 = 0
    · rw [outsAt0_A m c t h0 h1]; dsimp only; exact sout0_A_5_apply (hr := hr) ..
    · rw [outsAt0_C m c t h0 h1]; dsimp only; exact sout0_C_5_apply (hr := hr) ..
  · rw [outsAt0_B m c t (by omega) h1]; dsimp only; exact sout0_B_5_apply (hr := hr) ..

/-! ## The two arrays -/

abbrev valY : Buf (Elt Ideal) ((c : Thread nD τ).loc main_v12_0) :=
  fnY (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

abbrev valS : Buf (Elt Ideal) ((c : Thread nD τ).loc main_v12_1) :=
  fnS (m ((c : Thread nD τ).loc main_arg0)) (m ((c : Thread nD τ).loc main_arg1))

/-- The row a point computes, once its gate rows and inputs are known to be the sequence's. -/
theorem row_eq (t : Fin cfg0.N) (b : Fin 8) (off : ℕ) (hoff : off ≤ 1024) (ht : t.val * 1024 = b.val * 2048 + off)
    {c0 c1 : Fin 1024 → EReal} {b0 u0 : Fin 512 → Fin 1024 → EReal}
    (hb0 : ∀ (r : Fin 512) j, b0 r j = bgA (m ((c : Thread nD τ).loc main_arg0)) (m ((c : Thread nD τ).loc main_arg1)) b ⟨off + r.val, by omega⟩ j)
    (hu0 : ∀ (r : Fin 512) j, u0 r j = uA (m ((c : Thread nD τ).loc main_arg0)) (m ((c : Thread nD τ).loc main_arg1)) b ⟨off + r.val, by omega⟩ j)
    (hc0 : ∀ j, c0 j = useqA (m ((c : Thread nD τ).loc main_arg0)) (m ((c : Thread nD τ).loc main_arg1)) b off j)
    (hc1 : ∀ j, c1 j = useqA (m ((c : Thread nD τ).loc main_arg0)) (m ((c : Thread nD τ).loc main_arg1)) b (off + 1) j)
    (r j : Fin 1024) :
    lnorm (resid (fun k => (iblk m c 3 t : Vec Ideal S1024x1024 .f32) (ix2 r k)) fun k => ∑ i,
        gat (bseq b0 (bgP (iblk m c 1 t) (iblk m c 4 t)) r.val) (useq c0 c1 u0 (uP (iblk m c 1 t) (iblk m c 4 t)))
          (fun n k => (iblk m c 5 t : Vec Ideal S3x1024 .f32) (ix2 n k)) r.val i * (iblk m c 6 t : Vec Ideal S1024x1024 .bf16) (ix2 i k))
      (fun k => (iblk m c 7 t : Vec Ideal S1x1024 .f32) (ix2 0 k)) (fun k => (iblk m c 8 t : Vec Ideal S1x1024 .f32) (ix2 0 k)) j
    = convRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        b ⟨off + r.val, by omega⟩ j := by
  have hw := iblk4 m c t
  have h3 := fun k => iblk3 m c t r k b ⟨off + r.val, by omega⟩ (by show _ = _ + (off + r.val); omega)
  have hg := gat_shift (x := m ((c : Thread nD τ).loc main_arg0)) (w := m ((c : Thread nD τ).loc main_arg1)) (b := b)
    (fun n k => (iblk m c 5 t : Vec Ideal S3x1024 .f32) (ix2 n k)) off hoff hb0
    (fun r j => bgP_eq (s := ⟨off + 512 + r.val, by omega⟩) (fun k => iblk1 m c t r k b _ (by show _ = _ + (off + 512 + r.val); omega)) hw j) hu0
    (fun r j => uP_eq (s := ⟨off + 512 + r.val, by omega⟩) (fun k => iblk1 m c t r k b _ (by show _ = _ + (off + 512 + r.val); omega)) hw j) hc0 hc1 r
  unfold convRow
  simp only [hg]
  simp only [h3, iblk5, iblk6, iblk7, iblk8]

theorem out9 (t : Fin cfg0.N) (b : Fin 8) (off : ℕ) (hoff : off = (t.val % 2) * 1024) (hb : b.val = t.val / 2) (r j : Fin 1024) :
    (outsAt0 m c t.val t.isLt).1 (ix2 r j)
    = convRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        b ⟨off + r.val, by omega⟩ j := by
  have hN : t.val < 16 := lt_of_lt_of_eq t.isLt N_0
  have hp : t.val - 1 < cfg0.N := Nat.lt_of_le_of_lt (Nat.sub_le _ _) t.isLt
  have hw := iblk4 m c t
  have hw' := iblk4 m c ⟨t.val - 1, hp⟩
  by_cases h1 : t.val % 2 = 0
  · by_cases h0 : t.val % 16 = 0
    · rw [outsAt0_A m c t h0 h1]
      dsimp only
      refine (out0_A_9_apply ..).trans ?_
      exact row_eq m c t b off (by omega) (by omega)
        (fun r j => bgP_eq (fun k => iblk0 m c t r k b _ (by show _ = _ + (off + r.val); omega)) hw j)
        (fun r j => uP_eq (fun k => iblk0 m c t r k b _ (by show _ = _ + (off + r.val); omega)) hw j)
        (fun j => (useqA_zero _ (by omega) j).symm) (fun j => (useqA_zero _ (by omega) j).symm) r j
    · rw [outsAt0_C m c t h0 h1]
      dsimp only
      refine (out0_C_9_apply ..).trans ?_
      exact row_eq m c t b off (by omega) (by omega)
        (fun r j => (sc1 m c ⟨t.val - 1, hp⟩ r j).trans
          (bgP_eq (fun k => iblk2 m c ⟨t.val - 1, hp⟩ (by show t.val - 1 < 15; omega) r k b _
            (by show (2 * (t.val - 1) + 2) * 512 + r.val = _ + (off + r.val); omega)) hw' j))
        (fun r j => (sc3 m c ⟨t.val - 1, hp⟩ r j).trans
          (uP_eq (fun k => iblk2 m c ⟨t.val - 1, hp⟩ (by show t.val - 1 < 15; omega) r k b _
            (by show (2 * (t.val - 1) + 2) * 512 + r.val = _ + (off + r.val); omega)) hw' j))
        (fun j => (useqA_zero _ (by omega) j).symm) (fun j => (useqA_zero _ (by omega) j).symm) r j
  · rw [outsAt0_B m c t (by omega) h1]
    dsimp only
    refine (out0_B_9_apply ..).trans ?_
    exact row_eq m c t b off (by omega) (by omega)
      (fun r j => (sc1 m c ⟨t.val - 1, hp⟩ r j).trans
        (bgP_eq (fun k => iblk2 m c ⟨t.val - 1, hp⟩ (by show t.val - 1 < 15; omega) r k b _
          (by show (2 * (t.val - 1) + 2) * 512 + r.val = _ + (off + r.val); omega)) hw' j))
      (fun r j => (sc3 m c ⟨t.val - 1, hp⟩ r j).trans
        (uP_eq (fun k => iblk2 m c ⟨t.val - 1, hp⟩ (by show t.val - 1 < 15; omega) r k b _
          (by show (2 * (t.val - 1) + 2) * 512 + r.val = _ + (off + r.val); omega)) hw' j))
      (fun j => (sc5 m c ⟨t.val - 1, hp⟩ 0 (by decide) j).trans
        ((uP_eq (fun k => iblk1 m c ⟨t.val - 1, hp⟩ ⟨510 + 0, by omega⟩ k b ⟨1022, by omega⟩
          (by show (2 * (t.val - 1) + 1) * 512 + (510 + 0) = b.val * 2048 + 1022; omega)) hw' j).trans
          (useqA_row _ _ (by show off = 1022 + 2; omega) j).symm))
      (fun j => (sc5 m c ⟨t.val - 1, hp⟩ 1 (by decide) j).trans
        ((uP_eq (fun k => iblk1 m c ⟨t.val - 1, hp⟩ ⟨510 + 1, by omega⟩ k b ⟨1023, by omega⟩
          (by show (2 * (t.val - 1) + 1) * 512 + (510 + 1) = b.val * 2048 + 1023; omega)) hw' j).trans
          (useqA_row _ _ (by show off + 1 = 1023 + 2; omega) j).symm)) r j

theorem out10 (t : Fin cfg0.N) (h1 : t.val % 2 = 1) (b : Fin 8) (hb : b.val = t.val / 2) (r : Fin 2) (j : Fin 1024) :
    (outsAt0 m c t.val t.isLt).2.1 (ix3 (n0 := 1) 0 r j)
    = uA (m ((c : Thread nD τ).loc main_arg0)) (m ((c : Thread nD τ).loc main_arg1)) b ⟨2046 + r.val, by omega⟩ j := by
  have hN : t.val < 16 := lt_of_lt_of_eq t.isLt N_0
  rw [outsAt0_B m c t (by omega) (by omega)]
  dsimp only
  refine (out0_B_10_apply ..).trans ?_
  exact uP_eq (fun k => iblk1 m c t _ k b _ (by show (2 * t.val + 1) * 512 + (510 + r.val) = _ + (2046 + r.val); omega)) (iblk4 m c t) j

theorem flushed9_eq (t : Fin cfg0.N) (_hf : (cfg0.win 9).flush t = true) :
    (dats m 0 c).flushed 9 t = ((cfg0.win 9).blk t).view.read (Elt Ideal) (valY m c) := by
  have hN : t.val < 16 := lt_of_lt_of_eq t.isLt N_0
  obtain ⟨h0, h1, -⟩ := geomO t
  show (cfg0.win 9).cut (grid0.coords t) ((dats m 0 c).after 9 t) = _
  rw [after0_9]
  funext y
  obtain ⟨r, j, rfl⟩ : ∃ (r j : Fin 1024), y = ix2 r j := ⟨y 0, y 1, eq_ix2 y⟩
  have hb : t.val * 1024 + r.val < 16384 := by omega
  refine (out9 m c t ⟨t.val / 2, by omega⟩ _ rfl rfl r j).trans ?_
  rw [View.read_apply]
  have he : ((cfg0.win 9).blk t).view.emb (ix2 r j) = (ix2 ⟨t.val * 1024 + r.val, hb⟩ j : S16384x1024.Idx) := by
    funext a
    apply Fin.ext
    match a with
    | ⟨0, _⟩ => show win0_9.index t 0 * 1024 + 1 * r.val = t.val * 1024 + r.val; rw [h0]; omega
    | ⟨1, _⟩ => show win0_9.index t 1 * 1024 + 1 * j.val = j.val; rw [h1]; omega
  show _ = valY m c (((cfg0.win 9).blk t).view.emb (ix2 r j))
  rw [he]
  unfold valY fnY
  congr 1
  · apply Fin.ext; show t.val / 2 = (t.val * 1024 + r.val) / 2048; omega
  · apply Fin.ext; show t.val % 2 * 1024 + r.val = (t.val * 1024 + r.val) % 2048; omega

theorem cover9 (i : S16384x1024.Idx) : ∃ t : Fin cfg0.N, (cfg0.win 9).flush t = true ∧ i ∈ ((cfg0.win 9).blk t).view.set := by
  have hi : (i 0).val < 16384 := (i 0).isLt
  have hj : (i 1).val < 1024 := (i 1).isLt
  have ht : (i 0).val / 1024 < grid0.N := by rw [N_0]; omega
  obtain ⟨h0, h1, -⟩ := geomO ⟨(i 0).val / 1024, ht⟩
  refine ⟨⟨(i 0).val / 1024, ht⟩, flush0_9 _, ?_⟩
  show i ∈ ((View.whole main_v12_0).slice (win0_9.rect ⟨(i 0).val / 1024, ht⟩)).set
  rw [View.set_slice_whole, Rect.mem_set_unit]
  intro a
  match a with
  | ⟨0, _⟩ =>
    show win0_9.index ⟨(i 0).val / 1024, ht⟩ 0 * 1024 ≤ (i 0).val ∧ (i 0).val < win0_9.index ⟨(i 0).val / 1024, ht⟩ 0 * 1024 + 1024
    rw [h0]; dsimp only; omega
  | ⟨1, _⟩ =>
    show win0_9.index ⟨(i 0).val / 1024, ht⟩ 1 * 1024 ≤ (i 1).val ∧ (i 1).val < win0_9.index ⟨(i 0).val / 1024, ht⟩ 1 * 1024 + 1024
    rw [h1]; omega

theorem final9 : (dats m 0 c).arrAt 9 cfg0.N = valY m c :=
  (dats m 0 c).arrAt_eq_of_cover 9 (valY m c) (flushed9_eq m c) cover9

theorem flushed10_eq (t : Fin cfg0.N) (hf : (cfg0.win 10).flush t = true) :
    (dats m 0 c).flushed 10 t = ((cfg0.win 10).blk t).view.read (Elt Ideal) (valS m c) := by
  have hN : t.val < 16 := lt_of_lt_of_eq t.isLt N_0
  obtain ⟨-, -, h0, h1, h2⟩ := geomO t
  show (cfg0.win 10).cut (grid0.coords t) ((dats m 0 c).after 10 t) = _
  rw [after0_10]
  funext y
  obtain ⟨z, r, j, rfl⟩ : ∃ (z : Fin 1) (r : Fin 2) (j : Fin 1024), y = ix3 z r j := ⟨y 0, y 1, y 2, eq_ix3 y⟩
  obtain rfl : z = 0 := Subsingleton.elim _ _
  refine (out10 m c t ((flush0_10 t).mp hf) ⟨t.val / 2, by omega⟩ rfl r j).trans ?_
  rw [View.read_apply]
  have he : ((cfg0.win 10).blk t).view.emb (ix3 0 r j) = (ix3 ⟨t.val / 2, by omega⟩ r j : S8x2x1024.Idx) := by
    funext a
    apply Fin.ext
    match a with
    | ⟨0, _⟩ => show win0_10.index t 0 * 1 + 1 * 0 = t.val / 2; rw [h0]; omega
    | ⟨1, _⟩ => show win0_10.index t 1 * 2 + 1 * r.val = r.val; rw [h1]; omega
    | ⟨2, _⟩ => show win0_10.index t 2 * 1024 + 1 * j.val = j.val; rw [h2]; omega
  show _ = valS m c (((cfg0.win 10).blk t).view.emb (ix3 0 r j))
  rw [he]
  rfl

theorem cover10 (i : S8x2x1024.Idx) : ∃ t : Fin cfg0.N, (cfg0.win 10).flush t = true ∧ i ∈ ((cfg0.win 10).blk t).view.set := by
  have hi : (i 0).val < 8 := (i 0).isLt
  have hr : (i 1).val < 2 := (i 1).isLt
  have hj : (i 2).val < 1024 := (i 2).isLt
  have ht : 2 * (i 0).val + 1 < grid0.N := by rw [N_0]; omega
  obtain ⟨-, -, h0, h1, h2⟩ := geomO ⟨2 * (i 0).val + 1, ht⟩
  refine ⟨⟨2 * (i 0).val + 1, ht⟩, (flush0_10 _).mpr (by show (2 * (i 0).val + 1) % 2 = 1; omega), ?_⟩
  show i ∈ ((View.whole main_v12_1).slice (win0_10.rect ⟨2 * (i 0).val + 1, ht⟩)).set
  rw [View.set_slice_whole, Rect.mem_set_unit]
  intro a
  match a with
  | ⟨0, _⟩ =>
    show win0_10.index ⟨2 * (i 0).val + 1, ht⟩ 0 * 1 ≤ (i 0).val ∧ (i 0).val < win0_10.index ⟨2 * (i 0).val + 1, ht⟩ 0 * 1 + 1
    rw [h0]; dsimp only; omega
  | ⟨1, _⟩ =>
    show win0_10.index ⟨2 * (i 0).val + 1, ht⟩ 1 * 2 ≤ (i 1).val ∧ (i 1).val < win0_10.index ⟨2 * (i 0).val + 1, ht⟩ 1 * 2 + 2
    rw [h1]; omega
  | ⟨2, _⟩ =>
    show win0_10.index ⟨2 * (i 0).val + 1, ht⟩ 2 * 1024 ≤ (i 2).val ∧ (i 2).val < win0_10.index ⟨2 * (i 0).val + 1, ht⟩ 2 * 1024 + 1024
    rw [h2]; omega

theorem final10 : (dats m 0 c).arrAt 10 cfg0.N = valS m c :=
  (dats m 0 c).arrAt_eq_of_cover 10 (valS m c) (flushed10_eq m c) cover10

/-- The run with its two results named and its arguments kept. -/
theorem run_vals : θ_run defs (onTc (τ := τ) (main (F := Ideal))) ⟨m, fun _ => 0, ρ⟩ fun r => ∀ c : Dev nD,
    r.2.mem ((c : Thread nD τ).loc main_v12_0) = valY m c
      ∧ r.2.mem ((c : Thread nD τ).loc main_v12_1) = valS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 9).trans (final9 m c), ((h c).1 10).trans (final10 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.ConvIdeal.Hand

namespace Cert.ConvValue

theorem algebraic : Cert.algebraic_ConvIdeal_ConvRefIdeal := fun m ρ m' ρ' _ hag =>
  ⟨fun c => Cert.ConvIdeal.Hand.valY m c, fun c => Cert.ConvIdeal.Hand.valS m c,
    Cert.ConvIdeal.Hand.run_vals m ρ,
    (θ_run _ _ _).mono (fun _ h c => ⟨(h c).1.trans (by
        rw [Cert.ConvRefIdeal.Hand.res_y, (hag c).1, (hag c).2.1, (hag c).2.2.1, (hag c).2.2.2.1, (hag c).2.2.2.2.1, (hag c).2.2.2.2.2]),
      (h c).2.1.trans ((Cert.ConvRefIdeal.Hand.res_s _ _).trans (by rw [(hag c).1, (hag c).2.1])), (h c).2.2⟩)
      (Cert.ConvRefIdeal.Value.run m' ρ')⟩

end Cert.ConvValue
end
-- ==== Proof.SampleMask.lean ====
/- The masks of the sample's attention: which rows of a block belong to one sequence, and which of them hold tokens. -/
module

public import proofs.«01_k».proof.Proof.Gen.SampleIdeal.Frame.RunA
public import proofs.«01_k».proof.Proof.Spec

@[expose] public section

set_option maxRecDepth 16384

noncomputable section

namespace Cert.SampleIdeal.Hand

open Cert.SampleIdeal Cert.SampleIdeal.Gen Idealize.ShloMosaic Idealize.ShloMosaic.TcCoe Cert.Reads

theorem v44_apply (i c : Fin 128) : kernelRun0_A.sl.v44 (ix2 i c) = BitVec.ofNat 32 i.val := by
  unfold kernelRun0_A.sl.v44
  pointwise
theorem v45_apply (i c : Fin 128) : kernelRun0_A.sl.v45 (ix2 i c) = BitVec.ofNat 32 c.val := by
  unfold kernelRun0_A.sl.v45
  pointwise
theorem v122_apply (i : Fin 128) (c : Fin 512) : kernelRun0_A.sl.v122 (ix2 i c) = BitVec.ofNat 32 i.val := by
  unfold kernelRun0_A.sl.v122
  pointwise
/-- The quotient by eight, rounded down, as the words compute it. -/
theorem quot8 : ∀ i : Fin 128, Scalar.select
      (IntOp.andi
        (IntOp.cmpi .ne
          (IntOp.subi (BitVec.setWidth 32 (IntOp.cmpi .sgt (BitVec.ofNat 32 i.val) 0#32))
            (BitVec.setWidth 32 (IntOp.cmpi .slt (BitVec.ofNat 32 i.val) 0#32)))
          (Scalar.subi (Scalar.extui (Scalar.cmpi .sgt 8#32 0#32)) (Scalar.extui (Scalar.cmpi .slt 8#32 0#32))))
        (IntOp.cmpi .ne (IntOp.remsi ArithUnit.vector (BitVec.ofNat 32 i.val) 8#32) 0#32))
      (IntOp.subi (IntOp.divsi ArithUnit.vector (BitVec.ofNat 32 i.val) 8#32) 1#32)
      (IntOp.divsi ArithUnit.vector (BitVec.ofNat 32 i.val) 8#32) = BitVec.ofNat 32 (i.val / 8) := by
  decide +kernel

/-- The remainder by eight is below four, as the words compute it. -/
theorem rem8 : ∀ i : Fin 128, IntOp.cmpi .slt
      (Scalar.select
        (IntOp.andi
          (IntOp.xori (IntOp.cmpi .slt (IntOp.remsi ArithUnit.vector (BitVec.ofNat 32 i.val) 8#32) 0#32)
            (Scalar.cmpi .slt 8#32 0#32))
          (IntOp.cmpi .ne (IntOp.remsi ArithUnit.vector (BitVec.ofNat 32 i.val) 8#32) 0#32))
        (IntOp.addi (IntOp.remsi ArithUnit.vector (BitVec.ofNat 32 i.val) 8#32) 8#32)
        (IntOp.remsi ArithUnit.vector (BitVec.ofNat 32 i.val) 8#32))
      4#32 = if i.val % 8 < 4 then 1#1 else 0#1 := by
  decide +kernel

theorem eq_word (a b : ℕ) (ha : a < 16) (hb : b < 16) :
    IntOp.cmpi .eq (BitVec.ofNat 32 a) (BitVec.ofNat 32 b) = if a = b then 1#1 else 0#1 := by
  have h : ∀ a b : Fin 16, IntOp.cmpi .eq (BitVec.ofNat 32 a.val) (BitVec.ofNat 32 b.val) = if a.val = b.val then 1#1 else 0#1 := by
    decide +kernel
  exact h ⟨a, ha⟩ ⟨b, hb⟩

theorem ge_word : ∀ a b : Fin 128,
    IntOp.cmpi .sge (BitVec.ofNat 32 a.val) (BitVec.ofNat 32 b.val) = if b.val ≤ a.val then 1#1 else 0#1 := by
  decide +kernel

theorem row_apply (i c : Fin 128) : k0_pay12 (ix2 i c) = BitVec.ofNat 32 (i.val / 8) := by
  pointwise [k0_pay12]
  exact quot8 i

theorem same_apply' (i c : Fin 128) : k0_pay15 kernelRun0_A.sl.v45 k0_pay12 (8#32) k0_pay13 k0_pay14 0#32 (ix2 i c)
    = if i.val / 8 = c.val / 8 then 1#1 else 0#1 := by
  pointwise [k0_pay15, k0_pay13, k0_pay14, v45_apply, row_apply]
  rw [quot8 c, eq_word _ _ (by omega) (by omega)]

theorem same_apply (i c : Fin 128) : kernelRun0_A.sl.r_8 (ix2 i c) = if i.val / 8 = c.val / 8 then 1#1 else 0#1 :=
  same_apply' i c

theorem col_apply (i c : Fin 128) : kernelRun0_A.sl.r_18 (ix2 i c) = BitVec.ofNat 32 (c.val / 8) := by
  pointwise [kernelRun0_A.sl.r_18, k0_pay32, k0_pay30, k0_pay31, v45_apply]
  exact quot8 c

theorem valid_apply (i : Fin 128) (c : Fin 512) : k0_pay18 kernelRun0_A.sl.v122 (8#32) (0#1) (1#32) (ix2 i c)
    = if i.val % 8 < 4 then 1#1 else 0#1 := by
  pointwise [k0_pay18, v122_apply]
  exact rem8 i

theorem below_apply (i c : Fin 128) : k0_pay24 kernelRun0_A.sl.v44 kernelRun0_A.sl.v45 kernelRun0_A.sl.r_8 (ix2 i c)
    = if i.val / 8 = c.val / 8 ∧ c.val ≤ i.val then 1#1 else 0#1 := by
  pointwise [k0_pay24, v44_apply, v45_apply, same_apply]
  rw [ge_word]
  by_cases h : i.val / 8 = c.val / 8 <;> by_cases h' : c.val ≤ i.val <;> simp [h, h'] <;> rfl

/-- The sum over a block's rows of what vanishes off the tokens of sequence `n` is the sum over its four tokens. -/
theorem sum128 (F : Fin 128 → EReal) (n : Fin 16) (h : ∀ c : Fin 128, ¬(c.val / 8 = n.val ∧ c.val % 8 < 4) → F c = 0) :
    ∑ c, F c = ∑ j : Fin 4, F ⟨8 * n.val + j.val, by omega⟩ := by
  refine (Fintype.sum_of_injective (fun j : Fin 4 => (⟨8 * n.val + j.val, by omega⟩ : Fin 128)) ?_ _ _ ?_ fun _ => rfl).symm
  · intro a b hab
    have := congrArg Fin.val hab
    exact Fin.ext (by dsimp only at this; omega)
  · intro c hc
    refine h c fun hc' => hc ⟨⟨c.val % 8, hc'.2⟩, Fin.ext ?_⟩
    show 8 * n.val + c.val % 8 = c.val
    omega

end Cert.SampleIdeal.Hand
end
-- ==== Proof.SampleSpec.lean ====
/- One sequence of the sample's gated linear attention, as functions of extended reals: from the four tokens' projected
   rows `p`, their gates' arguments `z` and the sequence's state `S`, the attended rows, the next state and the layer's
   row. Both the kernel and the reference are read as these. -/
module

public import proofs.«01_k».proof.Proof.Spec

@[expose] public section

set_option maxRecDepth 16384

noncomputable section

namespace Cert.Reads

open Idealize.ShloMosaic

/-- The log gate of its argument: the log of the logistic function, over sixteen. -/
def lgate (z : EReal) : EReal :=
  Ideal.div (-(max (-z) 0 + Ideal.log (1 + Ideal.exp (-(FloatOps.absf (F := Ideal) (φ := .f32) z))))) (Ideal.ofBits .f32 0x41800000#32)

variable (p : Fin 4 → Fin 3088 → EReal) (z : Fin 4 → Fin 512 → EReal) (S : Fin 4 → Fin 128 → Fin 256 → EReal)

/-- The log decay from the start of the sequence to token `t`. -/
def cum (t : Fin 4) (e : Fin 512) : EReal := ∑ j : Fin 4, if j.val ≤ t.val then lgate (z j e) else 0

/-- The log decay over the sequence. -/
def tot (e : Fin 512) : EReal := ∑ j : Fin 4, lgate (z j e)

/-- The decayed query, of which the head's scale is part. -/
def qd (t : Fin 4) (e : Fin 512) : EReal := p t ⟨e.val, by omega⟩ * Ideal.ofBits .f32 0x3DB504F3#32 * Ideal.exp (cum z t e)

/-- The key with the decay undone. -/
def kd (t : Fin 4) (e : Fin 512) : EReal := p t ⟨512 + e.val, by omega⟩ * Ideal.exp (-(cum z t e))

/-- The key decayed to the sequence's end. -/
def kl (t : Fin 4) (e : Fin 512) : EReal := p t ⟨512 + e.val, by omega⟩ * Ideal.exp (tot z e - cum z t e)

/-- The attended row of head `h`: what the tokens so far hold, and what the state holds. -/
def attn (t h : Fin 4) (v : Fin 256) : EReal :=
  (∑ j : Fin 4, (if j.val ≤ t.val then ∑ d : Fin 128, qd p z t ⟨h.val * 128 + d.val, by omega⟩ * kd p z j ⟨h.val * 128 + d.val, by omega⟩
      else 0) * p j ⟨1024 + (h.val * 256 + v.val), by omega⟩)
    + ∑ d : Fin 128, qd p z t ⟨h.val * 128 + d.val, by omega⟩ * S h d v

/-- The next state. -/
def snext (h : Fin 4) (d : Fin 128) (v : Fin 256) : EReal :=
  Ideal.exp (tot z ⟨h.val * 128 + d.val, by omega⟩) * S h d v
    + ∑ j : Fin 4, kl p z j ⟨h.val * 128 + d.val, by omega⟩ * p j ⟨1024 + (h.val * 256 + v.val), by omega⟩

/-- A head's row over its root mean square, scaled. -/
def rms (o : Fin 256 → EReal) (ng : EReal) (v : Fin 256) : EReal :=
  o v * Ideal.rsqrt (Ideal.div (∑ w, o w * o w) (Ideal.ofBits .f32 0x43800000#32) + Ideal.ofBits .f32 0x358637BD#32) * ng

/-- A gate's argument times the logistic function of it. -/
def swish (r : EReal) : EReal := r * Ideal.div 1 (1 + Ideal.exp (-r))

/-- The layer's row of token `t`, whose own row is `x`. -/
def glaRow (x : Fin 1024 → EReal) (ng : Fin 1024 → EReal) (wo : Fin 1024 → Fin 1024 → EReal) (lg lb : Fin 1024 → EReal)
    (t : Fin 4) : Fin 1024 → EReal :=
  lnorm (resid x fun j => ∑ u : Fin 1024, rms (attn p z S t ⟨u.val / 256, by omega⟩) (ng u) ⟨u.val % 256, by omega⟩
    * swish (p t ⟨2048 + u.val, by omega⟩) * wo u j) lg lb

/-- The projected rows of a sequence's tokens. -/
def proj (x : Fin 4 → Fin 1024 → EReal) (w : Fin 1024 → Fin 3088 → EReal) (t : Fin 4) (j : Fin 3088) : EReal :=
  ∑ k, x t k * w k j

/-- The gates' arguments, from the last sixteen columns of the projected rows. -/
def gatez (wg : Fin 16 → Fin 512 → EReal) (bg : Fin 512 → EReal) (t : Fin 4) (e : Fin 512) : EReal :=
  ∑ k : Fin 16, p t ⟨3072 + k.val, by omega⟩ * wg k e + bg e

/-- The arrays of the layer, sequence by sequence: the projected rows, the gates' arguments, the states. -/
def sP (x : (⟨3, ![128, 4, 1024]⟩ : Shape).Idx → EReal) (w : (⟨3, ![1, 1024, 3088]⟩ : Shape).Idx → EReal) (s : Fin 128) :
    Fin 4 → Fin 3088 → EReal :=
  proj (fun t k => x (ix3 s t k)) (fun k j => w (ix3 0 k j))

def sZ (x : (⟨3, ![128, 4, 1024]⟩ : Shape).Idx → EReal) (w : (⟨3, ![1, 1024, 3088]⟩ : Shape).Idx → EReal)
    (wg : (⟨3, ![1, 16, 512]⟩ : Shape).Idx → EReal) (bg : (⟨2, ![1, 512]⟩ : Shape).Idx → EReal) (s : Fin 128) :
    Fin 4 → Fin 512 → EReal :=
  gatez (sP x w s) (fun k e => wg (ix3 0 k e)) (fun e => bg (ix2 0 e))

def sS (st : (⟨5, ![1, 128, 4, 128, 256]⟩ : Shape).Idx → EReal) (s : Fin 128) : Fin 4 → Fin 128 → Fin 256 → EReal :=
  fun h d v => st (ix5 0 s h d v)

/-- The layer's row of token `t` of sequence `s`, of the nine arrays. -/
def glaY (x : (⟨3, ![128, 4, 1024]⟩ : Shape).Idx → EReal) (st : (⟨5, ![1, 128, 4, 128, 256]⟩ : Shape).Idx → EReal)
    (w : (⟨3, ![1, 1024, 3088]⟩ : Shape).Idx → EReal) (wg : (⟨3, ![1, 16, 512]⟩ : Shape).Idx → EReal)
    (bg : (⟨2, ![1, 512]⟩ : Shape).Idx → EReal) (ng : (⟨3, ![1, 4, 256]⟩ : Shape).Idx → EReal)
    (wo : (⟨3, ![1, 1024, 1024]⟩ : Shape).Idx → EReal) (lg lb : (⟨2, ![2, 1024]⟩ : Shape).Idx → EReal)
    (s : Fin 128) (t : Fin 4) (j : Fin 1024) : EReal :=
  glaRow (sP x w s) (sZ x w wg bg s) (sS st s) (fun k => x (ix3 s t k))
    (fun u => ng (ix3 0 ⟨u.val / 256, by omega⟩ ⟨u.val % 256, by omega⟩)) (fun u j => wo (ix3 0 u j))
    (fun j => lg (ix2 0 j)) (fun j => lb (ix2 0 j)) t j

/-- The next state of sequence `s`, of the five arrays it depends on. -/
def glaS (x : (⟨3, ![128, 4, 1024]⟩ : Shape).Idx → EReal) (st : (⟨5, ![1, 128, 4, 128, 256]⟩ : Shape).Idx → EReal)
    (w : (⟨3, ![1, 1024, 3088]⟩ : Shape).Idx → EReal) (wg : (⟨3, ![1, 16, 512]⟩ : Shape).Idx → EReal)
    (bg : (⟨2, ![1, 512]⟩ : Shape).Idx → EReal) (s : Fin 128) (h : Fin 4) (d : Fin 128) (v : Fin 256) : EReal :=
  snext (sP x w s) (sZ x w wg bg s) (sS st s) h d v

end Cert.Reads

end
-- ==== Proof.SampleBody.lean ====
/- The sample's body, read on the rows of one sequence's tokens: the projections, the gates and their sums. -/
module

public import proofs.«01_k».proof.Proof.SampleMask
public import proofs.«01_k».proof.Proof.SampleSpec

@[expose] public section

set_option maxRecDepth 16384

noncomputable section

namespace Cert.SampleIdeal.Hand

open Cert.SampleIdeal Cert.SampleIdeal.Gen Idealize.ShloMosaic Idealize.ShloMosaic.TcCoe Cert.Reads

variable (c : Dev nD) (a1 : Memref sig .tc .vmem S128x1024 .f32) (h1 : a1.IsWhole)
  (a3 : Memref sig .tc .vmem S1024x3088 .bf16) (h3 : a3.IsWhole)
  (a4 : Memref sig .tc .vmem S1024x128 .bf16) (h4 : a4.IsWhole) (a5 : Memref sig .tc .vmem S128x512 .bf16) (h5 : a5.IsWhole)
  (a6 : Memref sig .tc .vmem S1x512 .f32) (h6 : a6.IsWhole)
  (x0 : Vec Ideal S128x1024 .f32) (x2 : Vec Ideal S1024x3088 .bf16)
  (x3 : Vec Ideal S1024x128 .bf16) (x4 : Vec Ideal S128x512 .bf16) (x5 : Vec Ideal S1x512 .f32)

/-- A row's projections. -/
def bR (i : Fin 128) (j : Fin 3088) : EReal := ∑ k : Fin 1024, x0 (ix2 i k) * x2 (ix2 k j)

/-- A row's gate arguments. -/
def bZ (i : Fin 128) (e : Fin 512) : EReal :=
  ∑ y : Fin 128, (∑ k : Fin 1024, x0 (ix2 i k) * x3 (ix2 k y)) * x4 (ix2 y e) + x5 (ix2 0 e)

/-- The same of the tokens of sequence `n` of the block. -/
def bP (n : Fin 16) (t : Fin 4) : Fin 3088 → EReal := bR x0 x2 ⟨8 * n.val + t.val, by omega⟩
def bGz (n : Fin 16) (t : Fin 4) : Fin 512 → EReal := bZ x0 x3 x4 x5 ⟨8 * n.val + t.val, by omega⟩

theorem q_apply (i : Fin 128) (e : Fin 512) : kernelRun0_A.sl.r_1 (F := Ideal) c a1 h1 a3 h3 x0 x2 (ix2 i e)
    = bR x0 x2 i ⟨e.val, by omega⟩ * Ideal.ofBits .f32 0x3DB504F3#32 := by
  unfold kernelRun0_A.sl.r_1 bR
  rw [View.readAt_eq_ld, View.readAt_eq_ld, h1.read_unread, h3.read_unread]
  pointwise [k0_pay4, k0_pay3, k0_pay2]

theorem k_apply (i : Fin 128) (e : Fin 512) : kernelRun0_A.sl.r_2 (F := Ideal) c a1 h1 a3 h3 x0 x2 (ix2 i e)
    = bR x0 x2 i ⟨512 + e.val, by omega⟩ := by
  unfold kernelRun0_A.sl.r_2 bR
  rw [View.readAt_eq_ld, View.readAt_eq_ld, h1.read_unread, h3.read_unread]
  pointwise [k0_pay5, k0_pay3, k0_pay2]

theorem v_apply (i : Fin 128) (e : Fin 1024) : kernelRun0_A.sl.r_3 (F := Ideal) c a1 h1 a3 h3 x0 x2 (ix2 i e)
    = bR x0 x2 i ⟨1024 + e.val, by omega⟩ := by
  unfold kernelRun0_A.sl.r_3 bR
  rw [View.readAt_eq_ld, View.readAt_eq_ld, h1.read_unread, h3.read_unread]
  pointwise [k0_pay6, k0_pay3, k0_pay2]

theorem r_apply (i : Fin 128) (e : Fin 1024) : kernelRun0_A.sl.r_4 (F := Ideal) c a1 h1 a3 h3 x0 x2 (ix2 i e)
    = bR x0 x2 i ⟨2048 + e.val, by omega⟩ := by
  unfold kernelRun0_A.sl.r_4 bR
  rw [View.readAt_eq_ld, View.readAt_eq_ld, h1.read_unread, h3.read_unread]
  pointwise [k0_pay7, k0_pay3, k0_pay2]

theorem g_apply (i : Fin 128) (e : Fin 512) : kernelRun0_A.sl.r_7 (F := Ideal) c a1 h1 a4 h4 a5 h5 a6 h6 x0 x3 x4 x5 (ix2 i e)
    = lgate (bZ x0 x3 x4 x5 i e) := by
  unfold kernelRun0_A.sl.r_7 kernelRun0_A.sl.r_5 kernelRun0_A.sl.r_6 kernelRun0_A.sl.cst_20 lgate bZ
  simp only [View.readAt_eq_ld, h1.read_unread, h4.read_unread, h5.read_unread, h6.read_unread]
  pointwise [k0_pay11, k0_pay9, k0_pay10, k0_pay8, k0_pay3, k0_pay2]
  simp only [zero_sub]

theorem word_one : (FloatOps.sitofp (F := Ideal) .f32 (BitVec.setWidth 32 (1#1 : BitVec 1)) : EReal) = 1 := by
  have h : (BitVec.setWidth 32 (1#1 : BitVec 1)).toInt = 1 := by decide
  show (((BitVec.setWidth 32 (1#1 : BitVec 1)).toInt : ℝ) : EReal) = 1
  rw [h]
  simp
theorem word_zero : (FloatOps.sitofp (F := Ideal) .f32 (BitVec.setWidth 32 (0#1 : BitVec 1)) : EReal) = 0 := by
  have h : (BitVec.setWidth 32 (0#1 : BitVec 1)).toInt = 0 := by decide
  show (((BitVec.setWidth 32 (0#1 : BitVec 1)).toInt : ℝ) : EReal) = 0
  rw [h]
  simp

theorem and_word {p q : Prop} [Decidable p] [Decidable q] : IntOp.andi (if p then 1#1 else 0#1) (if q then 1#1 else 0#1)
    = if p ∧ q then 1#1 else 0#1 := by
  by_cases h : p <;> by_cases h' : q <;> simp [h, h'] <;> rfl

theorem mask_mul {p : Prop} [Decidable p] (x : EReal) :
    (FloatOps.sitofp (F := Ideal) .f32 (BitVec.setWidth 32 (if p then 1#1 else 0#1 : BitVec 1)) : EReal) * x = if p then x else 0 := by
  by_cases h : p
  · rw [if_pos h, if_pos h, word_one, one_mul]
  · rw [if_neg h, if_neg h, word_zero, zero_mul]

/-- The log decay from the sequence's start, on a token's row. -/
theorem b_apply (n : Fin 16) (t : Fin 4) (e : Fin 512) :
    kernelRun0_A.sl.r_9 (F := Ideal) c a1 h1 a4 h4 a5 h5 a6 h6 x0 x3 x4 x5 (ix2 ⟨8 * n.val + t.val, by omega⟩ e)
      = cum (bGz x0 x3 x4 x5 n) t e := by
  have h : ∀ i : Fin 128, kernelRun0_A.sl.r_9 (F := Ideal) c a1 h1 a4 h4 a5 h5 a6 h6 x0 x3 x4 x5 (ix2 i e)
      = ∑ y : Fin 128, if i.val / 8 = y.val / 8 ∧ y.val ≤ i.val then lgate (bZ x0 x3 x4 x5 y e) else 0 := by
    intro i
    pointwise [kernelRun0_A.sl.r_9, k0_pay16, same_apply', v44_apply, v45_apply, ge_word, g_apply]
    simp only [and_word, mask_mul]
  rw [h, sum128 _ n]
  · unfold cum bGz
    refine Finset.sum_congr rfl fun j _ => ?_
    refine if_congr ?_ rfl rfl
    dsimp only
    omega
  · intro y hy
    refine if_neg fun hh => hy ?_
    dsimp only at hh
    omega

/-- The log decay over the sequence, on each of its rows. -/
theorem bl_apply (n : Fin 16) (i : Fin 128) (hi : i.val / 8 = n.val) (e : Fin 512) :
    kernelRun0_A.sl.r_10 (F := Ideal) c a1 h1 a4 h4 a5 h5 a6 h6 x0 x3 x4 x5 (ix2 i e) = tot (bGz x0 x3 x4 x5 n) e := by
  have h : kernelRun0_A.sl.r_10 (F := Ideal) c a1 h1 a4 h4 a5 h5 a6 h6 x0 x3 x4 x5 (ix2 i e)
      = ∑ y : Fin 128, if i.val / 8 = y.val / 8 ∧ y.val % 8 < 4 then lgate (bZ x0 x3 x4 x5 y e) else 0 := by
    pointwise [kernelRun0_A.sl.r_10, k0_pay17, same_apply', v45_apply, g_apply]
    have hw : Scalar.select (Scalar.cmpi .eq 8#32 0#32) 1#32 8#32 = 8#32 := by decide
    simp only [hw, rem8, and_word, mask_mul]
  rw [h, sum128 _ n]
  · unfold tot bGz
    refine Finset.sum_congr rfl fun j _ => if_pos ?_
    dsimp only
    omega
  · intro y hy
    refine if_neg fun hh => hy ?_
    omega

theorem sel_if {p : Prop} [Decidable p] (a b : EReal) : Scalar.select (if p then 1#1 else 0#1) a b = if p then a else b := by
  by_cases h : p <;> simp [h, Scalar.select]

theorem qd_row (i : Fin 128) (e : Fin 512) :
    kernelRun0_A.sl.r_11 (F := Ideal) c a1 h1 a3 h3 a4 h4 a5 h5 a6 h6 x0 x2 x3 x4 x5 (ix2 i e)
      = bR x0 x2 i ⟨e.val, by omega⟩ * Ideal.ofBits .f32 0x3DB504F3#32
        * Ideal.exp (kernelRun0_A.sl.r_9 (F := Ideal) c a1 h1 a4 h4 a5 h5 a6 h6 x0 x3 x4 x5 (ix2 i e)) := by
  pointwise [kernelRun0_A.sl.r_11, k0_pay19, q_apply]

theorem kd_row (i : Fin 128) (e : Fin 512) :
    kernelRun0_A.sl.r_12 (F := Ideal) c a1 h1 a3 h3 a4 h4 a5 h5 a6 h6 x0 x2 x3 x4 x5 (ix2 i e)
      = if i.val % 8 < 4 then bR x0 x2 i ⟨512 + e.val, by omega⟩
          * Ideal.exp (-(kernelRun0_A.sl.r_9 (F := Ideal) c a1 h1 a4 h4 a5 h5 a6 h6 x0 x3 x4 x5 (ix2 i e))) else 0 := by
  pointwise [kernelRun0_A.sl.r_12, k0_pay20, k_apply, valid_apply]
  simp only [sel_if, zero_sub]

theorem kl_row (i : Fin 128) (e : Fin 512) :
    kernelRun0_A.sl.r_13 (F := Ideal) c a1 h1 a3 h3 a4 h4 a5 h5 a6 h6 x0 x2 x3 x4 x5 (ix2 e i)
      = if i.val % 8 < 4 then bR x0 x2 i ⟨512 + e.val, by omega⟩
          * Ideal.exp (kernelRun0_A.sl.r_10 (F := Ideal) c a1 h1 a4 h4 a5 h5 a6 h6 x0 x3 x4 x5 (ix2 i e)
            - kernelRun0_A.sl.r_9 (F := Ideal) c a1 h1 a4 h4 a5 h5 a6 h6 x0 x3 x4 x5 (ix2 i e)) else 0 := by
  pointwise [kernelRun0_A.sl.r_13, k0_pay21, k_apply, valid_apply]
  simp only [sel_if]

theorem vv_apply (i : Fin 128) (e : Fin 1024) :
    kernelRun0_A.sl.r_14 (F := Ideal) c a1 h1 a3 h3 x0 x2 (ix2 i e) = bR x0 x2 i ⟨1024 + e.val, by omega⟩ := by
  pointwise [kernelRun0_A.sl.r_14, k0_pay22, v_apply]

theorem dec_row (i : Fin 128) (e : Fin 512) :
    kernelRun0_A.sl.r_15 (F := Ideal) c a1 h1 a4 h4 a5 h5 a6 h6 x0 x3 x4 x5 (ix2 e i)
      = Ideal.exp (kernelRun0_A.sl.r_10 (F := Ideal) c a1 h1 a4 h4 a5 h5 a6 h6 x0 x3 x4 x5 (ix2 i e)) := by
  pointwise [kernelRun0_A.sl.r_15, k0_pay23]

/-- On a token's row: the decayed query, the keys, the sequence's decay. -/
theorem qd_apply (n : Fin 16) (t : Fin 4) (e : Fin 512) :
    kernelRun0_A.sl.r_11 (F := Ideal) c a1 h1 a3 h3 a4 h4 a5 h5 a6 h6 x0 x2 x3 x4 x5 (ix2 ⟨8 * n.val + t.val, by omega⟩ e)
      = qd (bP x0 x2 n) (bGz x0 x3 x4 x5 n) t e := by
  rw [qd_row, b_apply]
  rfl

theorem kd_apply (n : Fin 16) (t : Fin 4) (e : Fin 512) :
    kernelRun0_A.sl.r_12 (F := Ideal) c a1 h1 a3 h3 a4 h4 a5 h5 a6 h6 x0 x2 x3 x4 x5 (ix2 ⟨8 * n.val + t.val, by omega⟩ e)
      = kd (bP x0 x2 n) (bGz x0 x3 x4 x5 n) t e := by
  rw [kd_row, b_apply, if_pos (show (8 * n.val + t.val) % 8 < 4 by omega)]
  rfl

theorem kl_apply (n : Fin 16) (t : Fin 4) (e : Fin 512) :
    kernelRun0_A.sl.r_13 (F := Ideal) c a1 h1 a3 h3 a4 h4 a5 h5 a6 h6 x0 x2 x3 x4 x5 (ix2 e ⟨8 * n.val + t.val, by omega⟩)
      = kl (bP x0 x2 n) (bGz x0 x3 x4 x5 n) t e := by
  rw [kl_row, b_apply, bl_apply _ _ _ _ _ _ _ _ _ _ _ _ _ n _ (show (8 * n.val + t.val) / 8 = n.val by omega), if_pos (show (8 * n.val + t.val) % 8 < 4 by omega)]
  rfl

theorem sel_mul {p : Prop} [Decidable p] (a b : EReal) :
    Scalar.select (if p then 1#1 else 0#1) (a * b) 0 = (if p then a else 0) * b := by
  rw [sel_if]
  by_cases h : p
  · rw [if_pos h, if_pos h]
  · rw [if_neg h, if_neg h, zero_mul]

/-- What the tokens of a row's sequence up to the row hold, in column `v` of head `h`. -/
def intra (h : Fin 4) (i : Fin 128) (v : Fin 256) : EReal :=
  ∑ y : Fin 128, (if i.val / 8 = y.val / 8 ∧ y.val ≤ i.val then
      ∑ d : Fin 128, kernelRun0_A.sl.r_11 (F := Ideal) c a1 h1 a3 h3 a4 h4 a5 h5 a6 h6 x0 x2 x3 x4 x5 (ix2 i ⟨h.val * 128 + d.val, by omega⟩)
        * kernelRun0_A.sl.r_12 (F := Ideal) c a1 h1 a3 h3 a4 h4 a5 h5 a6 h6 x0 x2 x3 x4 x5 (ix2 y ⟨h.val * 128 + d.val, by omega⟩)
    else 0) * kernelRun0_A.sl.r_14 (F := Ideal) c a1 h1 a3 h3 x0 x2 (ix2 y ⟨h.val * 256 + v.val, by omega⟩)

theorem intra0 (i : Fin 128) (v : Fin 256) :
    k0_pay26 (kernelRun0_A.sl.r_16 (F := Ideal) c a1 h1 a3 h3 a4 h4 a5 h5 a6 h6 x0 x2 x3 x4 x5) (ix2 i v)
      = intra c a1 h1 a3 h3 a4 h4 a5 h5 a6 h6 x0 x2 x3 x4 x5 0 i v := by
  unfold intra
  pointwise [k0_pay26, kernelRun0_A.sl.r_16, k0_pay25, below_apply]
  simp only [sel_mul]
  rfl

theorem intra1 (i : Fin 128) (v : Fin 256) :
    k0_pay27 (kernelRun0_A.sl.r_11 (F := Ideal) c a1 h1 a3 h3 a4 h4 a5 h5 a6 h6 x0 x2 x3 x4 x5)
      (kernelRun0_A.sl.r_12 (F := Ideal) c a1 h1 a3 h3 a4 h4 a5 h5 a6 h6 x0 x2 x3 x4 x5)
      (kernelRun0_A.sl.r_14 (F := Ideal) c a1 h1 a3 h3 x0 x2) (k0_pay24 kernelRun0_A.sl.v44 kernelRun0_A.sl.v45 kernelRun0_A.sl.r_8) (ix2 i v)
      = intra c a1 h1 a3 h3 a4 h4 a5 h5 a6 h6 x0 x2 x3 x4 x5 1 i v := by
  unfold intra
  pointwise [k0_pay27, below_apply]
  simp only [sel_mul]

theorem intra2 (i : Fin 128) (v : Fin 256) :
    k0_pay28 (kernelRun0_A.sl.r_11 (F := Ideal) c a1 h1 a3 h3 a4 h4 a5 h5 a6 h6 x0 x2 x3 x4 x5)
      (kernelRun0_A.sl.r_12 (F := Ideal) c a1 h1 a3 h3 a4 h4 a5 h5 a6 h6 x0 x2 x3 x4 x5)
      (kernelRun0_A.sl.r_14 (F := Ideal) c a1 h1 a3 h3 x0 x2) (k0_pay24 kernelRun0_A.sl.v44 kernelRun0_A.sl.v45 kernelRun0_A.sl.r_8) (ix2 i v)
      = intra c a1 h1 a3 h3 a4 h4 a5 h5 a6 h6 x0 x2 x3 x4 x5 2 i v := by
  unfold intra
  pointwise [k0_pay28, below_apply]
  simp only [sel_mul]

theorem intra3 (i : Fin 128) (v : Fin 256) :
    k0_pay29 (kernelRun0_A.sl.r_11 (F := Ideal) c a1 h1 a3 h3 a4 h4 a5 h5 a6 h6 x0 x2 x3 x4 x5)
      (kernelRun0_A.sl.r_12 (F := Ideal) c a1 h1 a3 h3 a4 h4 a5 h5 a6 h6 x0 x2 x3 x4 x5)
      (kernelRun0_A.sl.r_14 (F := Ideal) c a1 h1 a3 h3 x0 x2) (k0_pay24 kernelRun0_A.sl.v44 kernelRun0_A.sl.v45 kernelRun0_A.sl.r_8) (ix2 i v)
      = intra c a1 h1 a3 h3 a4 h4 a5 h5 a6 h6 x0 x2 x3 x4 x5 3 i v := by
  unfold intra
  pointwise [k0_pay29, below_apply]
  simp only [sel_mul]

/-- The scratch rows before the reads of the states. -/
theorem base_apply (h : Fin 4) (i : Fin 128) (v : Fin 256) :
    View.canon (kernelRun0_A.sl.HS0_4 (F := Ideal) c a1 h1 a3 h3 a4 h4 a5 h5 a6 h6 x0 x2 x3 x4 x5) (ix2 i (⟨h.val * 256 + v.val, by omega⟩ : Fin 1024))
      = intra c a1 h1 a3 h3 a4 h4 a5 h5 a6 h6 x0 x2 x3 x4 x5 h i v := by
  have e : ∀ (o : ℕ) (ho : o + v.val - o < 256) (hi : i.val - 0 < 128),
      (ix2 (⟨i.val - 0, hi⟩ : Fin 128) (⟨o + v.val - o, ho⟩ : Fin 256) : S128x256.Idx) = ix2 i v := fun o ho hi => by
    have h2 : (⟨o + v.val - o, ho⟩ : Fin 256) = v := Fin.ext (by dsimp only; omega)
    rw [h2]
    rfl
  unfold kernelRun0_A.sl.HS0_4
  fin_cases h <;> simp (disch := first | omega | (dsimp only; omega)) only [hit2, miss2_0, miss2_1]
  · exact (congrArg _ (e (0 * 256) _ _)).trans (intra0 c a1 h1 a3 h3 a4 h4 a5 h5 a6 h6 x0 x2 x3 x4 x5 i v)
  · exact (congrArg _ (e (1 * 256) _ _)).trans (intra1 c a1 h1 a3 h3 a4 h4 a5 h5 a6 h6 x0 x2 x3 x4 x5 i v)
  · exact (congrArg _ (e (2 * 256) _ _)).trans (intra2 c a1 h1 a3 h3 a4 h4 a5 h5 a6 h6 x0 x2 x3 x4 x5 i v)
  · exact (congrArg _ (e (3 * 256) _ _)).trans (intra3 c a1 h1 a3 h3 a4 h4 a5 h5 a6 h6 x0 x2 x3 x4 x5 i v)

/-- On a token's row they hold what the sequence's tokens so far hold. -/
theorem intra_token (n : Fin 16) (t h : Fin 4) (v : Fin 256) :
    intra c a1 h1 a3 h3 a4 h4 a5 h5 a6 h6 x0 x2 x3 x4 x5 h ⟨8 * n.val + t.val, by omega⟩ v
      = ∑ j : Fin 4, (if j.val ≤ t.val then ∑ d : Fin 128, qd (bP x0 x2 n) (bGz x0 x3 x4 x5 n) t ⟨h.val * 128 + d.val, by omega⟩
          * kd (bP x0 x2 n) (bGz x0 x3 x4 x5 n) j ⟨h.val * 128 + d.val, by omega⟩ else 0)
        * bP x0 x2 n j ⟨1024 + (h.val * 256 + v.val), by omega⟩ := by
  unfold intra
  rw [sum128 _ n]
  · refine Finset.sum_congr rfl fun j _ => ?_
    simp only [qd_apply, kd_apply, vv_apply]
    congr 1
    refine if_congr ?_ rfl rfl
    omega
  · intro y hy
    rw [if_neg, zero_mul]
    intro hh
    apply hy
    dsimp only at hh
    omega

end Cert.SampleIdeal.Hand
end
-- ==== Proof.SampleScr.lean ====
/- The scratch rows and the states of the sample's attention: sixty-four updates, one for each of sixteen sequences and
   four heads, each adding a sequence's read of its state to eight rows of one head's columns, or storing one state. -/
module

public import proofs.«01_k».proof.Proof.Gen.SampleIdeal.Frame.RunA
public import proofs.«01_k».proof.Proof.Spec

@[expose] public section

set_option maxRecDepth 16384

noncomputable section

namespace Cert.SampleIdeal.Hand

open Cert.SampleIdeal Cert.SampleIdeal.Gen Idealize.ShloMosaic Idealize.ShloMosaic.TcCoe Cert.Reads

/-- A row's read of its sequence's state, in one column of a head. -/
def inter (QD : FVec Ideal S128x512 .bf16) (x1 : Vec Ideal S16x4x128x256 .f32) (r : Fin 128) (g : Fin 1024) : EReal :=
  ∑ d : Fin 128, QD (ix2 r ⟨128 * (g.val / 256) + d.val, by omega⟩)
    * x1 (ix4 ⟨r.val / 8, by omega⟩ ⟨g.val / 256, by omega⟩ d ⟨g.val % 256, by omega⟩)

/-- The scratch rows after the first `m` updates: the updated ones have their read of the state added. -/
def St (QD : FVec Ideal S128x512 .bf16) (x1 : Vec Ideal S16x4x128x256 .f32) (A : Fin 128 → Fin 1024 → EReal) (m : ℕ)
    (L : List (View.Piece (Elt Ideal) S128x1024 .f32)) : Prop :=
  ∀ (r : Fin 128) (g : Fin 1024), View.canon L (ix2 r g)
    = if 4 * (r.val / 8) + g.val / 256 < m then A r g + inter QD x1 r g else A r g

variable {QD : FVec Ideal S128x512 .bf16} {x1 : Vec Ideal S16x4x128x256 .f32} {A : Fin 128 → Fin 1024 → EReal}

theorem mul8 (a : FVec Ideal S8x128 .bf16) (b : FVec Ideal S128x256 .bf16) (r : Fin 8) (g : Fin 256) :
    matmul (F := Ideal) dot_S8x128_S128x256_S8x256_1_0_0_1_n_n none a b (constant S8x256 .f32 0x00000000#32) (ix2 r g)
      = ∑ d : Fin 128, a (ix2 r d) * b (ix2 d g) := by
  pointwise

theorem mul128 (a : FVec Ideal S128x128 .bf16) (b : FVec Ideal S128x256 .bf16) (r : Fin 128) (g : Fin 256) :
    matmul (F := Ideal) dot_S128x128_S128x256_S128x256_1_0_0_1_n_n none a b (constant S128x256 .f32 0x00000000#32) (ix2 r g)
      = ∑ d : Fin 128, a (ix2 r d) * b (ix2 d g) := by
  pointwise

theorem slice2 {α : Type} {N0 N1 n0 n1 o0 o1 : ℕ} (x : (⟨2, ![N0, N1]⟩ : Shape).Idx → α)
    (hs : (⟨2, ![N0, N1]⟩ : Shape).Slices ![o0, o1] ⟨2, ![n0, n1]⟩) (a : Fin n0) (b : Fin n1) (h0 : o0 + a.val < N0) (h1 : o1 + b.val < N1) :
    extractStridedSlice (⟨2, ![n0, n1]⟩ : Shape) ![o0, o1] x hs (ix2 a b) = x (ix2 ⟨o0 + a.val, h0⟩ ⟨o1 + b.val, h1⟩) :=
  extractStridedSlice_apply _ x hs _ _ fun k => match k with
    | ⟨0, _⟩ => rfl
    | ⟨1, _⟩ => rfl

theorem cast4 (w : Vec Ideal S1x1x128x256 .f32) (d : Fin 128) (v : Fin 256) :
    shapeCast S128x256 w shapeCasts_S1x1x128x256_S128x256 (ix2 d v) = w (ix4 0 0 d v) := by
  pointwise

theorem cast4' (w : FVec Ideal S128x256 .f32) (d : Fin 128) (v : Fin 256) :
    shapeCast S1x1x128x256 w shapeCasts_S128x256_S1x1x128x256 (ix4 0 0 d v) = w (ix2 d v) := by
  pointwise

theorem cast8 (w : FVec Ideal S8x256 .f32) (d : Fin 8) (v : Fin 256) :
    shapeCast S8x256 w shapeCasts_S8x256_S8x256 (ix2 d v) = w (ix2 d v) := by
  pointwise

theorem state_apply {n h : ℕ} {inb : ∀ a, (![n, h, 0, 0] : Fin 4 → ℕ) a + S1x1x128x256.size a ≤ S16x4x128x256.size a}
    {a2 : Memref sig .tc .vmem S16x4x128x256 .f32} {h2 : a2.IsWhole} (hn : n < 16) (hh : h < 4) (d : Fin 128) (v : Fin 256) :
    View.readAt (Elt Ideal) a2.view (Rect.unit (s := S16x4x128x256) ![n, h, 0, 0] S1x1x128x256.size inb).toLoadRect (h2.unread x1)
      (ix4 0 0 d v) = x1 (ix4 ⟨n, hn⟩ ⟨h, hh⟩ d v) := by
  rw [View.readAt_eq_ld, h2.read_unread]
  show x1 _ = x1 _
  congr 1
  funext a
  apply Fin.ext
  match a with
  | ⟨0, _⟩ => show n + 1 * 0 = n; omega
  | ⟨1, _⟩ => show h + 1 * 0 = h; omega
  | ⟨2, _⟩ => show 0 + 1 * d.val = d.val; omega
  | ⟨3, _⟩ => show 0 + 1 * v.val = v.val; omega

theorem inter_apply {o0 p o1 n h : ℕ} {hs : S128x512.Slices ![o0, p] S8x128}
    {inb : ∀ a, (![n, h, 0, 0] : Fin 4 → ℕ) a + S1x1x128x256.size a ≤ S16x4x128x256.size a}
    {a2 : Memref sig .tc .vmem S16x4x128x256 .f32} {h2 : a2.IsWhole}
    (h0 : o0 = 8 * n) (hp : p = 128 * h) (h1 : o1 = 256 * h) (hn : n < 16) (hh : h < 4) (r : Fin 8) (g : Fin 256)
    (hr : o0 + r.val < 128) (hg : o1 + g.val < 1024) :
    matmul (F := Ideal) dot_S8x128_S128x256_S8x256_1_0_0_1_n_n none (extractStridedSlice S8x128 ![o0, p] QD hs)
        (truncf .bf16 (shapeCast S128x256 (View.readAt (Elt Ideal) a2.view
          (Rect.unit (s := S16x4x128x256) ![n, h, 0, 0] S1x1x128x256.size inb).toLoadRect (h2.unread x1)) shapeCasts_S1x1x128x256_S128x256) bitsLt_bf16_f32)
        (constant S8x256 .f32 0x00000000#32) (ix2 r g)
      = inter QD x1 ⟨o0 + r.val, hr⟩ ⟨o1 + g.val, hg⟩ := by
  subst h0 hp h1
  rw [mul8]
  unfold inter
  refine Finset.sum_congr rfl fun d _ => ?_
  refine congrArg₂ (· * ·) ?_ ?_
  · refine (slice2 QD hs r d (by omega) (by omega)).trans ?_
    congr 2
    apply Fin.ext; show 128 * h + d.val = 128 * ((256 * h + g.val) / 256) + d.val; omega
  · refine (cast4 _ d g).trans ((state_apply hn hh d g).trans ?_)
    congr 2 <;> apply Fin.ext
    · show n = (8 * n + r.val) / 8; omega
    · show h = (256 * h + g.val) / 256; omega
    · show g.val = (256 * h + g.val) % 256; omega

/-- One more update of the scratch rows. -/
theorem St.step {m : ℕ} {L : List (View.Piece (Elt Ideal) S128x1024 .f32)} {o0 p o1 n h : ℕ} {hs : S128x512.Slices ![o0, p] S8x128}
    {inb : ∀ a, (![n, h, 0, 0] : Fin 4 → ℕ) a + S1x1x128x256.size a ≤ S16x4x128x256.size a}
    {inb' : ∀ a, (![o0, o1] : Fin 2 → ℕ) a + S8x256.size a ≤ S128x1024.size a}
    {a2 : Memref sig .tc .vmem S16x4x128x256 .f32} {h2 : a2.IsWhole} {a13 : Memref sig .tc .vmem S128x1024 .f32}
    (h0 : o0 = 8 * n) (hp : p = 128 * h) (h1 : o1 = 256 * h) (hh : h < 4) (hm : m = 4 * n + h) (hn : m < 64) (hL : St QD x1 A m L) :
    St QD x1 A (m + 1) (⟨Rect.unit (s := S128x1024) ![o0, o1] S8x256.size inb',
      shapeCast S8x256 (addf (View.readCov a13.view L (Rect.unit (s := S128x1024) ![o0, o1] S8x256.size inb').toLoadRect)
        (matmul (F := Ideal) dot_S8x128_S128x256_S8x256_1_0_0_1_n_n none (extractStridedSlice S8x128 ![o0, p] QD hs)
          (truncf .bf16 (shapeCast S128x256 (View.readAt (Elt Ideal) a2.view
            (Rect.unit (s := S16x4x128x256) ![n, h, 0, 0] S1x1x128x256.size inb).toLoadRect (h2.unread x1))
            shapeCasts_S1x1x128x256_S128x256) bitsLt_bf16_f32)
          (constant S8x256 .f32 0x00000000#32))) shapeCasts_S8x256_S8x256⟩ :: L) := by
  intro r g
  by_cases hr : o0 ≤ r.val ∧ r.val < o0 + 8
  · by_cases hg : o1 ≤ g.val ∧ g.val < o1 + 256
    · refine (hit2 _ L r g hr hg).trans ?_
      have hi : 4 * (r.val / 8) + g.val / 256 < m + 1 := by omega
      have hi' : ¬ 4 * (r.val / 8) + g.val / 256 < m := by omega
      rw [if_pos hi]
      refine (cast8 _ _ _).trans ?_
      refine congrArg₂ (· + ·) ?_ ((inter_apply h0 hp h1 (by omega) hh _ _ (by dsimp only; omega) (by dsimp only; omega)).trans ?_)
      · rw [View.readCov_eq_canon']
        refine Eq.trans ?_ ((hL r g).trans (if_neg hi'))
        show View.canon L _ = View.canon L _
        congr 1
        funext a
        apply Fin.ext
        match a with
        | ⟨0, _⟩ => show o0 + 1 * (r.val - o0) = r.val; omega
        | ⟨1, _⟩ => show o1 + 1 * (g.val - o1) = g.val; omega
      · congr 1 <;> apply Fin.ext
        · show o0 + (r.val - o0) = r.val; omega
        · show o1 + (g.val - o1) = g.val; omega
    · refine (miss2_1 _ L r g (by show g.val < o1 ∨ o1 + 256 ≤ g.val; omega)).trans ((hL r g).trans ?_)
      have : (4 * (r.val / 8) + g.val / 256 < m + 1) ↔ (4 * (r.val / 8) + g.val / 256 < m) := by omega
      simp only [this]
  · refine (miss2_0 _ L r g (by show r.val < o0 ∨ o0 + 8 ≤ r.val; omega)).trans ((hL r g).trans ?_)
    have : (4 * (r.val / 8) + g.val / 256 < m + 1) ↔ (4 * (r.val / 8) + g.val / 256 < m) := by omega
    simp only [this]

/-- A sequence's new state, at one entry. -/
def upd (DEC : FVec Ideal S512x128 .f32) (KK : FVec Ideal S512x128 .bf16) (VB : FVec Ideal S128x1024 .bf16) (IDX : IVec S128x128 32)
    (x1 : Vec Ideal S16x4x128x256 .f32) (n : Fin 16) (h : Fin 4) (d : Fin 128) (v : Fin 256) : EReal :=
  DEC (ix2 ⟨128 * h.val + d.val, by omega⟩ ⟨8 * n.val, by omega⟩) * x1 (ix4 n h d v)
    + ∑ c : Fin 128, Scalar.select (IntOp.cmpi .eq (IDX (ix2 d c)) (BitVec.ofNat 32 n.val)) (KK (ix2 ⟨128 * h.val + d.val, by omega⟩ c))
        (Ideal.ofBits .bf16 0x0000#16) * VB (ix2 c ⟨256 * h.val + v.val, by omega⟩)

/-- The stored states after the first `m` stores. -/
def Sto (DEC : FVec Ideal S512x128 .f32) (KK : FVec Ideal S512x128 .bf16) (VB : FVec Ideal S128x1024 .bf16) (IDX : IVec S128x128 32)
    (x1 : Vec Ideal S16x4x128x256 .f32) (m : ℕ) (L : List (View.Piece (Elt Ideal) S16x4x128x256 .f32)) : Prop :=
  ∀ (n : Fin 16) (h : Fin 4) (d : Fin 128) (v : Fin 256), 4 * n.val + h.val < m →
    View.canon L (ix4 n h d v) = upd DEC KK VB IDX x1 n h d v

variable {DEC : FVec Ideal S512x128 .f32} {KK : FVec Ideal S512x128 .bf16} {VB : FVec Ideal S128x1024 .bf16} {IDX : IVec S128x128 32}

theorem bcast_apply (w : FVec Ideal S128x1 .f32) (d : Fin 128) (v : Fin 256) :
    broadcastTo S128x256 w broadcasts_S128x1_S128x256 (ix2 d v) = w (ix2 d 0) := by
  pointwise

theorem dec_apply {p q : ℕ} {hs : S512x128.Slices ![p, q] S128x1} (d : Fin 128) (v : Fin 256) (hp : p + d.val < 512) (hq : q < 128) :
    broadcastTo S128x256 (extractStridedSlice S128x1 ![p, q] DEC hs) broadcasts_S128x1_S128x256 (ix2 d v) = DEC (ix2 ⟨p + d.val, hp⟩ ⟨q, hq⟩) :=
  (bcast_apply _ d v).trans (slice2 DEC hs d 0 hp hq)

/-- One more stored state. -/
theorem Sto.step {m : ℕ} {L : List (View.Piece (Elt Ideal) S16x4x128x256 .f32)} {p p' q q' n n' h : ℕ} {hs : S512x128.Slices ![p, q] S128x1}
    {hs' : S512x128.Slices ![p', 0] S128x128} {hs'' : S128x1024.Slices ![0, q'] S128x256}
    {inb : ∀ a, (![n, h, 0, 0] : Fin 4 → ℕ) a + S1x1x128x256.size a ≤ S16x4x128x256.size a}
    {a2 : Memref sig .tc .vmem S16x4x128x256 .f32} {h2 : a2.IsWhole}
    (hp : p = 128 * h) (hp' : p' = 128 * h) (hq : q = 8 * n) (hq' : q' = 256 * h) (hn' : n = n') (hh : h < 4) (hm : m = 4 * n + h) (hn : m < 64)
    (hL : Sto DEC KK VB IDX x1 m L) :
    Sto DEC KK VB IDX x1 (m + 1) (⟨Rect.unit (s := S16x4x128x256) ![n, h, 0, 0] S1x1x128x256.size inb,
      shapeCast S1x1x128x256 (addf (mulf (broadcastTo S128x256 (extractStridedSlice S128x1 ![p, q] DEC hs) broadcasts_S128x1_S128x256)
          (shapeCast S128x256 (View.readAt (Elt Ideal) a2.view
            (Rect.unit (s := S16x4x128x256) ![n, h, 0, 0] S1x1x128x256.size inb).toLoadRect (h2.unread x1))
            shapeCasts_S1x1x128x256_S128x256))
        (matmul (F := Ideal) dot_S128x128_S128x256_S128x256_1_0_0_1_n_n none
          (select (cmpi .eq IDX (broadcast S128x128 (BitVec.ofNat 32 n'))) (extractStridedSlice S128x128 ![p', 0] KK hs')
            (broadcast S128x128 (Scalar.ofBits (F := Ideal) .bf16 0x0000#16)))
          (extractStridedSlice S128x256 ![0, q'] VB hs'')
          (constant S128x256 .f32 0x00000000#32))) shapeCasts_S128x256_S1x1x128x256⟩ :: L) := by
  subst hn'
  intro n0 g d v hi
  by_cases hr : n ≤ n0.val ∧ n0.val < n + 1
  · by_cases hg : h ≤ g.val ∧ g.val < h + 1
    · obtain rfl : n0.val = n := by omega
      obtain rfl : g.val = h := by omega
      refine (hit (s := S16x4x128x256) _ L (ix4 n0 g d v) (ix4 (n0 := 1) (n1 := 1) 0 0 d v) fun k => ?_).trans ?_
      · match k with
        | ⟨0, _⟩ => rfl
        | ⟨1, _⟩ => rfl
        | ⟨2, _⟩ => show d.val = 0 + d.val; omega
        | ⟨3, _⟩ => show v.val = 0 + v.val; omega
      refine (cast4' _ d v).trans ?_
      refine congrArg₂ (· + ·) (congrArg₂ (· * ·) ((dec_apply d v (by omega) (by omega)).trans ?_)
        ((cast4 _ d v).trans (state_apply n0.isLt g.isLt d v))) ((mul128 _ _ d v).trans (Finset.sum_congr rfl fun c _ => ?_))
      · simp only [hp, hq]
      · refine congrArg₂ (· * ·) (congrArg₂ (Scalar.select _) ((slice2 KK hs' d c (by omega) (by omega)).trans ?_) rfl)
          ((slice2 VB hs'' c v (by omega) (by omega)).trans ?_)
        · simp only [hp', Nat.zero_add]
        · simp only [hq', Nat.zero_add]
    · exact (miss (s := S16x4x128x256) _ L (ix4 n0 g d v) 1 (by show g.val < h ∨ h + 1 ≤ g.val; omega)).trans (hL _ _ _ _ (by omega))
  · exact (miss (s := S16x4x128x256) _ L (ix4 n0 g d v) 0 (by show n0.val < n ∨ n + 1 ≤ n0.val; omega)).trans (hL _ _ _ _ (by omega))

variable (c : Dev nD) (a1 : Memref sig .tc .vmem S128x1024 .f32) (h1 : a1.IsWhole)
  (a2 : Memref sig .tc .vmem S16x4x128x256 .f32) (h2 : a2.IsWhole) (a3 : Memref sig .tc .vmem S1024x3088 .bf16) (h3 : a3.IsWhole)
  (a4 : Memref sig .tc .vmem S1024x128 .bf16) (h4 : a4.IsWhole) (a5 : Memref sig .tc .vmem S128x512 .bf16) (h5 : a5.IsWhole)
  (a6 : Memref sig .tc .vmem S1x512 .f32) (h6 : a6.IsWhole) (a13 : Memref sig .tc .vmem S128x1024 .f32)
  (x0 : Vec Ideal S128x1024 .f32) (x1 : Vec Ideal S16x4x128x256 .f32) (x2 : Vec Ideal S1024x3088 .bf16)
  (x3 : Vec Ideal S1024x128 .bf16) (x4 : Vec Ideal S128x512 .bf16) (x5 : Vec Ideal S1x512 .f32)

/-- The scratch rows before the updates. -/
def base (r : Fin 128) (g : Fin 1024) : EReal :=
  View.canon (kernelRun0_A.sl.HS0_4 (F := Ideal) c a1 h1 a3 h3 a4 h4 a5 h5 a6 h6 x0 x2 x3 x4 x5) (ix2 r g)

theorem St.zero : St (kernelRun0_A.sl.r_11 (F := Ideal) c a1 h1 a3 h3 a4 h4 a5 h5 a6 h6 x0 x2 x3 x4 x5) x1
    (base c a1 h1 a3 h3 a4 h4 a5 h5 a6 h6 x0 x2 x3 x4 x5) 0
    (kernelRun0_A.sl.HS0_4 (F := Ideal) c a1 h1 a3 h3 a4 h4 a5 h5 a6 h6 x0 x2 x3 x4 x5) :=
  fun r g => (if_neg (by omega)).symm

set_option maxHeartbeats 4000000 in
/-- The scratch rows after all the updates. -/
theorem St.all : St (kernelRun0_A.sl.r_11 (F := Ideal) c a1 h1 a3 h3 a4 h4 a5 h5 a6 h6 x0 x2 x3 x4 x5) x1
    (base c a1 h1 a3 h3 a4 h4 a5 h5 a6 h6 x0 x2 x3 x4 x5) 64
    (kernelRun0_A.sl.HS0_68 (F := Ideal) c a1 h1 a2 h2 a3 h3 a4 h4 a5 h5 a6 h6 a13 x0 x1 x2 x3 x4 x5) := by
  iterate 64 refine St.step (a13 := a13) (a2 := a2) (h2 := h2) (by decide) (by decide) (by decide) (by decide) (by decide) (by decide) ?_
  exact St.zero c a1 h1 a3 h3 a4 h4 a5 h5 a6 h6 x0 x1 x2 x3 x4 x5

theorem Sto.zero {L : List (View.Piece (Elt Ideal) S16x4x128x256 .f32)} : Sto DEC KK VB IDX x1 0 L := fun _ _ _ _ h => absurd h (by omega)

set_option maxHeartbeats 4000000 in
/-- The stored states after all the stores. -/
theorem Sto.all (i : grid0.Coords) (a7 : Memref sig .tc .vmem S1x1024 .f32) (h7 : a7.IsWhole) (a8 : Memref sig .tc .vmem S1024x1024 .bf16) (h8 : a8.IsWhole)
    (a9 : Memref sig .tc .vmem S1x1024 .f32) (h9 : a9.IsWhole) (a10 : Memref sig .tc .vmem S1x1024 .f32) (h10 : a10.IsWhole)
    (a11 : Memref sig .tc .vmem S128x1024 .f32) (h11 : a11.IsWhole) (a12 : Memref sig .tc .vmem S16x4x128x256 .f32) (h12 : a12.IsWhole)
    (h13 : a13.IsWhole) (x6 : Vec Ideal S1x1024 .f32) (x7 : Vec Ideal S1024x1024 .bf16) (x8 x9 : Vec Ideal S1x1024 .f32) :
    Sto (kernelRun0_A.sl.r_15 (F := Ideal) c a1 h1 a4 h4 a5 h5 a6 h6 x0 x3 x4 x5)
      (kernelRun0_A.sl.r_13 (F := Ideal) c a1 h1 a3 h3 a4 h4 a5 h5 a6 h6 x0 x2 x3 x4 x5)
      (kernelRun0_A.sl.r_14 (F := Ideal) c a1 h1 a3 h3 x0 x2) kernelRun0_A.sl.r_18 x1 64
      (kernelRun0_A (F := Ideal) c i a1 h1 a2 h2 a3 h3 a4 h4 a5 h5 a6 h6 a7 h7 a8 h8 a9 h9 a10 h10 a11 h11 a12 h12 a13 h13
        x0 x1 x2 x3 x4 x5 x6 x7 x8 x9).2.1 := by
  unfold kernelRun0_A
  dsimp only
  iterate 64 refine Sto.step (hs := by decide) (hs' := by decide) (hs'' := by decide) (a2 := a2) (h2 := h2) (by decide) (by decide) (by decide) (by decide) (by decide) (by decide) (by decide) (by decide) ?_
  exact Sto.zero x1

end Cert.SampleIdeal.Hand
end
-- ==== Proof.SampleOut.lean ====
/- What one grid point of the sample's kernel leaves: the layer's rows on the rows of the tokens, and the next states. -/
module

public import proofs.«01_k».proof.Proof.SampleBody
public import proofs.«01_k».proof.Proof.SampleScr
public import proofs.«01_k».proof.Proof.Gen.SampleIdeal.Value

@[expose] public section

set_option maxRecDepth 16384

noncomputable section

namespace Cert.SampleIdeal.Hand

open Cert.SampleIdeal Cert.SampleIdeal.Gen Idealize.ShloMosaic Idealize.ShloMosaic.TcCoe Cert.Reads

variable (c : Dev nD) (i : grid0.Coords) (a1 : Memref sig .tc .vmem S128x1024 .f32) (h1 : a1.IsWhole)
  (a2 : Memref sig .tc .vmem S16x4x128x256 .f32) (h2 : a2.IsWhole) (a3 : Memref sig .tc .vmem S1024x3088 .bf16) (h3 : a3.IsWhole)
  (a4 : Memref sig .tc .vmem S1024x128 .bf16) (h4 : a4.IsWhole) (a5 : Memref sig .tc .vmem S128x512 .bf16) (h5 : a5.IsWhole)
  (a6 : Memref sig .tc .vmem S1x512 .f32) (h6 : a6.IsWhole)
  (a7 : Memref sig .tc .vmem S1x1024 .f32) (h7 : a7.IsWhole) (a8 : Memref sig .tc .vmem S1024x1024 .bf16) (h8 : a8.IsWhole)
  (a9 : Memref sig .tc .vmem S1x1024 .f32) (h9 : a9.IsWhole) (a10 : Memref sig .tc .vmem S1x1024 .f32) (h10 : a10.IsWhole)
  (a11 : Memref sig .tc .vmem S128x1024 .f32) (h11 : a11.IsWhole) (a12 : Memref sig .tc .vmem S16x4x128x256 .f32) (h12 : a12.IsWhole)
  (a13 : Memref sig .tc .vmem S128x1024 .f32) (h13 : a13.IsWhole)
  (x0 : Vec Ideal S128x1024 .f32) (x1 : Vec Ideal S16x4x128x256 .f32) (x2 : Vec Ideal S1024x3088 .bf16)
  (x3 : Vec Ideal S1024x128 .bf16) (x4 : Vec Ideal S128x512 .bf16) (x5 : Vec Ideal S1x512 .f32)
  (x6 : Vec Ideal S1x1024 .f32) (x7 : Vec Ideal S1024x1024 .bf16) (x8 x9 : Vec Ideal S1x1024 .f32)

/-- The state of sequence `n` of the block. -/
def bS (n : Fin 16) : Fin 4 → Fin 128 → Fin 256 → EReal := fun h d v => x1 (ix4 n h d v)

/-- The scratch rows after the reads of the states hold the attended rows. -/
theorem scr_apply (n : Fin 16) (t h : Fin 4) (v : Fin 256) :
    View.canon (kernelRun0_A.sl.HS0_68 (F := Ideal) c a1 h1 a2 h2 a3 h3 a4 h4 a5 h5 a6 h6 a13 x0 x1 x2 x3 x4 x5)
        (ix2 (⟨8 * n.val + t.val, by omega⟩ : Fin 128) (⟨h.val * 256 + v.val, by omega⟩ : Fin 1024))
      = attn (bP x0 x2 n) (bGz x0 x3 x4 x5 n) (bS x1 n) t h v := by
  rw [St.all c a1 h1 a2 h2 a3 h3 a4 h4 a5 h5 a6 h6 a13 x0 x1 x2 x3 x4 x5, if_pos (by dsimp only; omega)]
  unfold base
  rw [base_apply, intra_token]
  unfold attn inter bS
  have e1 : (8 * n.val + t.val) / 8 = n.val := by omega
  have e2 : (h.val * 256 + v.val) / 256 = h.val := by omega
  have e3 : (h.val * 256 + v.val) % 256 = v.val := by omega
  simp only [e1, e2, e3, qd_apply, Fin.eta, Nat.mul_comm 128]

/-- One grid point's next states. -/
theorem out11_apply (n : Fin 16) (h : Fin 4) (d : Fin 128) (v : Fin 256) :
    out0_A_11 (F := Ideal) c i a1 h1 a2 h2 a3 h3 a4 h4 a5 h5 a6 h6 a7 h7 a8 h8 a9 h9 a10 h10 a11 h11 a12 h12 a13 h13
        x0 x1 x2 x3 x4 x5 x6 x7 x8 x9 (ix4 n h d v)
      = snext (bP x0 x2 n) (bGz x0 x3 x4 x5 n) (bS x1 n) h d v := by
  unfold out0_A_11
  rw [View.read_writes_junk_eq_canon,
    Sto.all c a1 h1 a2 h2 a3 h3 a4 h4 a5 h5 a6 h6 a13 x0 x1 x2 x3 x4 x5 i a7 h7 a8 h8 a9 h9 a10 h10 a11 h11 a12 h12 h13 x6 x7 x8 x9 n h d v
      (by omega)]
  unfold upd snext
  simp only [col_apply, Nat.mul_comm 128, Nat.mul_comm 256]
  rw [dec_row, bl_apply _ _ _ _ _ _ _ _ _ _ _ _ _ n _ (show 8 * n.val / 8 = n.val by omega), sum128 _ n]
  · congr 1
    refine Finset.sum_congr rfl fun j _ => ?_
    rw [kl_apply, vv_apply, eq_word _ _ (by dsimp only; omega) (by omega), if_pos (show (8 * n.val + j.val) / 8 = n.val by omega)]
    rfl
  · intro y hy
    rw [eq_word _ _ (by omega) (by omega), sel_if, kl_row]
    have hz : Ideal.ofBits .bf16 0x0000#16 = 0 := by simp [Ideal.ofBits, Ideal.ieee]
    by_cases hn : y.val / 8 = n.val
    · rw [if_pos hn, if_neg (fun hh => hy ⟨hn, hh⟩), zero_mul]
    · rw [if_neg hn, hz, zero_mul]

/-- The four heads' normalized rows side by side: in column `u`, the row of head `u / 256`. -/
theorem heads (sc : Vec Ideal S128x1024 .f32) (ng : Vec Ideal S1x1024 .f32) (r : Fin 128) (u : Fin 1024) :
    (if h : u.val < 256 then sc (ix2 r u)
        * Ideal.rsqrt (Ideal.div (∑ x : Fin 256, sc (ix2 r ⟨x.val, by omega⟩) * sc (ix2 r ⟨x.val, by omega⟩)) (Ideal.ofBits .f32 0x43800000#32)
          + Ideal.ofBits .f32 0x358637BD#32) * ng (ix2 0 u)
      else if h : u.val - 256 < 256 then sc (ix2 r ⟨256 + (u.val - 256), by omega⟩)
        * Ideal.rsqrt (Ideal.div (∑ x : Fin 256, sc (ix2 r ⟨256 + x.val, by omega⟩) * sc (ix2 r ⟨256 + x.val, by omega⟩)) (Ideal.ofBits .f32 0x43800000#32)
          + Ideal.ofBits .f32 0x358637BD#32) * ng (ix2 0 ⟨256 + (u.val - 256), by omega⟩)
      else if h : u.val - 256 - 256 < 256 then sc (ix2 r ⟨512 + (u.val - 256 - 256), by omega⟩)
        * Ideal.rsqrt (Ideal.div (∑ x : Fin 256, sc (ix2 r ⟨512 + x.val, by omega⟩) * sc (ix2 r ⟨512 + x.val, by omega⟩)) (Ideal.ofBits .f32 0x43800000#32)
          + Ideal.ofBits .f32 0x358637BD#32) * ng (ix2 0 ⟨512 + (u.val - 256 - 256), by omega⟩)
      else sc (ix2 r ⟨768 + (u.val - 256 - 256 - 256), by omega⟩)
        * Ideal.rsqrt (Ideal.div (∑ x : Fin 256, sc (ix2 r ⟨768 + x.val, by omega⟩) * sc (ix2 r ⟨768 + x.val, by omega⟩)) (Ideal.ofBits .f32 0x43800000#32)
          + Ideal.ofBits .f32 0x358637BD#32) * ng (ix2 0 ⟨768 + (u.val - 256 - 256 - 256), by omega⟩))
      = rms (fun v => sc (ix2 r ⟨u.val / 256 * 256 + v.val, by omega⟩)) (ng (ix2 0 u)) ⟨u.val % 256, by omega⟩ := by
  have e (w : ℕ) (hw : w < 1024) (h : w = u.val) : (⟨w, hw⟩ : Fin 1024) = u := Fin.ext h
  have e' (o : ℕ) (ho : o = u.val / 256 * 256) (x : Fin 256) (h : o + x.val < 1024) :
      (⟨o + x.val, h⟩ : Fin 1024) = ⟨u.val / 256 * 256 + x.val, by omega⟩ := Fin.ext (by dsimp only; omega)
  have e0 (hh : u.val < 256) (x : Fin 256) (h : x.val < 1024) :
      (⟨x.val, h⟩ : Fin 1024) = ⟨u.val / 256 * 256 + x.val, by omega⟩ := Fin.ext (by dsimp only; omega)
  have e2 := e (u.val / 256 * 256 + u.val % 256) (by omega) (by omega)
  unfold rms
  by_cases h1 : u.val < 256
  · rw [dif_pos h1]
    simp only [e0 h1, e2]
  · rw [dif_neg h1]
    by_cases h2 : u.val - 256 < 256
    · rw [dif_pos h2]
      simp only [e (256 + (u.val - 256)) (by omega) (by omega), e' 256 (by omega), e2]
    · rw [dif_neg h2]
      by_cases h3 : u.val - 256 - 256 < 256
      · rw [dif_pos h3]
        simp only [e (512 + (u.val - 256 - 256)) (by omega) (by omega), e' 512 (by omega), e2]
      · rw [dif_neg h3]
        simp only [e (768 + (u.val - 256 - 256 - 256)) (by omega) (by omega), e' 768 (by omega), e2]

/-- The residual sum of a row, of its scratch row. -/
def pre (v1 v16 : FVec Ideal S128x1024 .f32) (sc : Vec Ideal S128x1024 .f32) (ng : Vec Ideal S1x1024 .f32)
    (wo : Vec Ideal S1024x1024 .bf16) (r : Fin 128) : Fin 1024 → EReal :=
  resid (fun k => v1 (ix2 r k)) fun j => ∑ u : Fin 1024, rms (fun v => sc (ix2 r ⟨u.val / 256 * 256 + v.val, by omega⟩)) (ng (ix2 0 u)) ⟨u.val % 256, by omega⟩
    * swish (v16 (ix2 r u)) * wo (ix2 u j)

theorem centred (v1 v16 : FVec Ideal S128x1024 .f32) (sc : Vec Ideal S128x1024 .f32) (ng : Vec Ideal S1x1024 .f32)
    (wo : Vec Ideal S1024x1024 .bf16) (r : Fin 128) (j : Fin 1024) :
    k0_pay395 v1 v16 sc (k0_pay390 ng) (k0_pay393 sc ng) (k0_pay394 sc) wo (ix2 r j) = pre v1 v16 sc ng wo r j - mean (pre v1 v16 sc ng wo r) := by
  unfold pre mean resid swish
  pointwise [k0_pay395, k0_pay390, k0_pay393, k0_pay394]
  refine congrArg₂ (fun a b : EReal => a - b) ?_ (congrArg (fun w : EReal => Ideal.div w _) (Finset.sum_congr rfl fun k _ => ?_))
  all_goals
    refine congrArg (fun w : EReal => _ + w) (Finset.sum_congr rfl fun u _ => ?_)
    exact congrArg (fun w : EReal => w * (v16 (ix2 r u) * Ideal.logistic (v16 (ix2 r u))) * wo (ix2 u _)) (heads sc ng r u)

theorem normed (lg lb : Vec Ideal S1x1024 .f32) (w : FVec Ideal S128x1024 .f32) (r : Fin 128) (j : Fin 1024) :
    k0_pay1 (k0_pay391 lg) (k0_pay392 lb) w (k0_pay396 w) (Scalar.ofBits (F := Ideal) .f32 0x3727C5AC#32) (ix2 r j)
      = w (ix2 r j) * Ideal.rsqrt (Ideal.div (∑ k, w (ix2 r k) * w (ix2 r k)) (Ideal.ofBits .f32 0x44800000#32)
          + Ideal.ofBits .f32 0x3727C5AC#32) * lg (ix2 0 j) + lb (ix2 0 j) := by
  pointwise [k0_pay1, k0_pay391, k0_pay392, k0_pay396]

theorem x0_row (r : Fin 128) (k : Fin 1024) : kernelRun0_A.sl.r (F := Ideal) c a1 h1 x0 (ix2 r k) = x0 (ix2 r k) := by
  pointwise [kernelRun0_A.sl.r, k0_pay2, View.readAt_eq_ld, h1.read_unread]

/-- What the body reads of the scratch rows at the end. -/
theorem scr_read (r : Fin 128) (k : Fin 1024) :
    kernelRun0_A.sl.v1768 (F := Ideal) c a1 h1 a2 h2 a3 h3 a4 h4 a5 h5 a6 h6 a13 x0 x1 x2 x3 x4 x5 (ix2 r k)
      = View.canon (kernelRun0_A.sl.HS0_68 (F := Ideal) c a1 h1 a2 h2 a3 h3 a4 h4 a5 h5 a6 h6 a13 x0 x1 x2 x3 x4 x5) (ix2 r k) := by
  unfold kernelRun0_A.sl.v1768
  rw [View.readCov_eq_canon']
  pointwise

theorem row_read (a : Memref sig .tc .vmem S1x1024 .f32) (h : a.IsWhole) (x : Vec Ideal S1x1024 .f32) (k : Fin 1024) :
    View.readAt (Elt Ideal) a.view (Rect.unit (s := S1x1024) ![0, 0] S1x1024.size inb_S1x1024_S1x1024_0_0).toLoadRect (h.unread x) (ix2 0 k) = x (ix2 0 k) := by
  pointwise [View.readAt_eq_ld, h.read_unread]

theorem mat_read (x : Vec Ideal S1024x1024 .bf16) (k j : Fin 1024) :
    View.readAt (Elt Ideal) a8.view (Rect.unit (s := S1024x1024) ![0, 0] S1024x1024.size inb_S1024x1024_S1024x1024_0_0).toLoadRect (h8.unread x) (ix2 k j)
      = x (ix2 k j) := by
  pointwise [View.readAt_eq_ld, h8.read_unread]

/-- One grid point's rows of the layer, on the rows of the tokens. -/
theorem out10_apply (n : Fin 16) (t : Fin 4) (j : Fin 1024) :
    out0_A_10 (F := Ideal) c i a1 h1 a2 h2 a3 h3 a4 h4 a5 h5 a6 h6 a7 h7 a8 h8 a9 h9 a10 h10 a11 h11 a12 h12 a13 h13
        x0 x1 x2 x3 x4 x5 x6 x7 x8 x9 (ix2 ⟨8 * n.val + t.val, by omega⟩ j)
      = glaRow (bP x0 x2 n) (bGz x0 x3 x4 x5 n) (bS x1 n) (fun k => x0 (ix2 ⟨8 * n.val + t.val, by omega⟩ k))
          (fun u => x6 (ix2 0 u)) (fun u j => x7 (ix2 u j)) (fun j => x8 (ix2 0 j)) (fun j => x9 (ix2 0 j)) t j := by
  have hc : ∀ k : Fin 1024, kernelRun0_A.sl.r_247 (F := Ideal) c a1 h1 a2 h2 a3 h3 a4 h4 a5 h5 a6 h6 a7 h7 a8 h8 a13 x0 x1 x2 x3 x4 x5 x6 x7
      (ix2 ⟨8 * n.val + t.val, by omega⟩ k) = _ := fun k => centred _ _ _ _ _ _ k
  have hp : pre (kernelRun0_A.sl.r (F := Ideal) c a1 h1 x0) (kernelRun0_A.sl.r_4 (F := Ideal) c a1 h1 a3 h3 x0 x2)
      (kernelRun0_A.sl.v1768 (F := Ideal) c a1 h1 a2 h2 a3 h3 a4 h4 a5 h5 a6 h6 a13 x0 x1 x2 x3 x4 x5)
      (View.readAt (Elt Ideal) a7.view (Rect.unit (s := S1x1024) ![0, 0] S1x1024.size inb_S1x1024_S1x1024_0_0).toLoadRect (h7.unread x6))
      (View.readAt (Elt Ideal) a8.view (Rect.unit (s := S1024x1024) ![0, 0] S1024x1024.size inb_S1024x1024_S1024x1024_0_0).toLoadRect (h8.unread x7))
      ⟨8 * n.val + t.val, by omega⟩
      = resid (fun k => x0 (ix2 ⟨8 * n.val + t.val, by omega⟩ k)) fun j => ∑ u : Fin 1024,
          rms (attn (bP x0 x2 n) (bGz x0 x3 x4 x5 n) (bS x1 n) t ⟨u.val / 256, by omega⟩) (x6 (ix2 0 u)) ⟨u.val % 256, by omega⟩
            * swish (bP x0 x2 n t ⟨2048 + u.val, by omega⟩) * x7 (ix2 u j) := by
    unfold pre
    funext k
    unfold resid
    refine congrArg₂ (fun a b : EReal => _ * a + b) (x0_row c a1 h1 x0 _ k) (Finset.sum_congr rfl fun u _ => ?_)
    refine congrArg₂ (fun a b : EReal => a * b) (congrArg₂ (fun a b : EReal => a * b) ?_ ?_) (mat_read a8 h8 x7 u k)
    · refine congrArg₂ (fun (o : Fin 256 → EReal) (g : EReal) => rms o g ⟨u.val % 256, by omega⟩) (funext fun v => ?_) (row_read a7 h7 x6 u)
      exact (scr_read c a1 h1 a2 h2 a3 h3 a4 h4 a5 h5 a6 h6 a13 x0 x1 x2 x3 x4 x5 _ _).trans
        (scr_apply c a1 h1 a2 h2 a3 h3 a4 h4 a5 h5 a6 h6 a13 x0 x1 x2 x3 x4 x5 n t ⟨u.val / 256, by omega⟩ v)
    · exact congrArg swish (r_apply c a1 h1 a3 h3 x0 x2 _ u)
  unfold out0_A_10
  rw [View.read_writes_junk_eq_canon]
  unfold kernelRun0_A
  dsimp only
  simp (disch := first | omega | (simp; omega)) only [hit2]
  refine (normed _ _ _ _ _).trans ?_
  have e1 : (⟨8 * n.val + t.val - 0, by omega⟩ : Fin 128) = ⟨8 * n.val + t.val, by omega⟩ := rfl
  have e2 : (⟨j.val - 0, by omega⟩ : Fin 1024) = j := rfl
  rw [e1, e2]
  simp only [hc, hp]
  unfold glaRow lnorm
  exact congrArg₂ (fun a b : EReal => _ * a + b) (row_read a9 h9 x8 j) (row_read a10 h10 x9 j)

end Cert.SampleIdeal.Hand
end
-- ==== Proof.SampleRef.lean ====
/- The sample's reference, read row by row. -/
module

public import proofs.«01_k».proof.Proof.Gen.SampleRefIdeal.Run
public import proofs.«01_k».proof.Proof.SampleSpec
public import Idealize.ShloMosaic.Lib.KernelVsHost

@[expose] public section

set_option maxRecDepth 16384

noncomputable section

namespace Cert.SampleRefIdeal.Hand

open Cert.SampleRefIdeal Cert.SampleRefIdeal.Gen Cert.SampleRefIdeal.Value Idealize.ShloMosaic Idealize.ShloMosaic.TcCoe Cert.Reads

/-- The window of the running sum, at its position `n`. -/
theorem window_pos : ∀ (n : Fin (⟨4, ![1, 1, 4, 1]⟩ : Shape).numel) (a : Fin 4),
    (((⟨4, ![1, 1, 4, 1]⟩ : Shape).rowMajor.symm n) a).val = if a = 2 then n.val else 0 := by
  decide +kernel

theorem foldl_sum {N : ℕ} (g : Fin N → EReal) : (List.finRange N).foldl (fun r n => r + g n) 0 = ∑ n, g n := by
  have h : ∀ (l : List (Fin N)) (a : EReal), l.foldl (fun r n => r + g n) a = a + (l.map g).sum := by
    intro l
    induction l with
    | nil => intro a; simp
    | cons b l ih => intro a; simp [ih, add_assoc]
  rw [h, zero_add, ← List.ofFn_eq_map, List.sum_ofFn]

/-- The running sum over the tokens, at token `t`. -/
theorem cumsum_apply (x : FVec Ideal S128x4x4x128 .f32) (init : FVec Ideal S_ .f32) (hi : ∀ i, init i = 0)
    (h : (S128x4x4x128).ReduceWindows ![1, 1, 4, 1] ![1, 1, 1, 1] ![0, 0, 3, 0] ![0, 0, 0, 0] S128x4x4x128) (hu : 0 < S_.numel)
    (s : Fin 128) (k t : Fin 4) (d : Fin 128) :
    Host.reduceWindowAdd (F := Ideal) ![1, 1, 4, 1] ![1, 1, 1, 1] ![0, 0, 3, 0] ![0, 0, 0, 0] x init h hu (ix4 s k t d)
      = ∑ j : Fin 4, if j.val ≤ t.val then x (ix4 s k j d) else 0 := by
  unfold Host.reduceWindowAdd
  rw [hi]
  show Host.reduceWindow (s := S128x4x4x128) (t := S128x4x4x128) (fun a b : EReal => a + b) ![1, 1, 4, 1] ![1, 1, 1, 1] ![0, 0, 3, 0] ![0, 0, 0, 0] x
    (fun _ : (⟨0, ![]⟩ : Shape).Idx => (0 : EReal)) h (by decide) (ix4 s k t d) = _
  unfold Host.reduceWindow
  refine (foldl_sum _).trans ?_
  have hn : (⟨4, ![1, 1, 4, 1]⟩ : Shape).numel = 4 := by decide
  refine (Fintype.sum_equiv (finCongr hn) _ (fun n : Fin 4 => if hh : 3 ≤ t.val + n.val then x (ix4 s k ⟨t.val + n.val - 3, by omega⟩ d) else 0) ?_).trans ?_
  · intro n
    have hnn : n.val < 4 := lt_of_lt_of_eq n.isLt hn
    by_cases hh : 3 ≤ t.val + n.val
    · rw [dif_pos (show 3 ≤ t.val + (finCongr hn n).val from hh), dif_pos]
      · congr 1
        funext a
        apply Fin.ext
        match a with
        | ⟨0, _⟩ => show s.val * 1 + _ - 0 = s.val; rw [window_pos]; simp
        | ⟨1, _⟩ => show k.val * 1 + _ - 0 = k.val; rw [window_pos]; simp
        | ⟨2, _⟩ => show t.val * 1 + _ - 3 = t.val + n.val - 3; rw [window_pos]; simp
        | ⟨3, _⟩ => show d.val * 1 + _ - 0 = d.val; rw [window_pos]; simp
      · intro a
        match a with
        | ⟨0, _⟩ => show 0 ≤ s.val * 1 + _ ∧ s.val * 1 + _ - 0 < 128; rw [window_pos]; simp
        | ⟨1, _⟩ => show 0 ≤ k.val * 1 + _ ∧ k.val * 1 + _ - 0 < 4; rw [window_pos]; simp
        | ⟨2, _⟩ => show 3 ≤ t.val * 1 + _ ∧ t.val * 1 + _ - 3 < 4; rw [window_pos]; simp; omega
        | ⟨3, _⟩ => show 0 ≤ d.val * 1 + _ ∧ d.val * 1 + _ - 0 < 128; rw [window_pos]; simp
    · rw [dif_neg (show ¬ 3 ≤ t.val + (finCongr hn n).val from hh), dif_neg]
      intro hc
      have := (hc ⟨2, by decide⟩).1
      have h2 : 3 ≤ t.val * 1 + (((⟨4, ![1, 1, 4, 1]⟩ : Shape).rowMajor.symm n) 2).val := this
      rw [window_pos] at h2
      simp at h2
      omega
  · fin_cases t <;> simp [Fin.sum_univ_four] <;> rfl

theorem ge_word : ∀ t j : Fin 4, Scalar.select (IntOp.cmpi .sge (IntOp.addi (BitVec.ofNat 32 t.val) 0#32) (BitVec.ofNat 32 j.val)) 1#1 0#1
    = if j.val ≤ t.val then 1#1 else 0#1 := by
  decide +kernel

theorem sel_if {c : Prop} [Decidable c] (a b : EReal) : Scalar.select (if c then 1#1 else 0#1) a b = if c then a else b := by
  by_cases h : c <;> simp [h, Scalar.select]

theorem ne_self (x : EReal) : FloatOps.cmpf (F := Ideal) (φ := .f32) .une x x = 0#1 := by
  simp [FloatOps.cmpf, Ideal.cmp]

theorem abs_neg' (x : EReal) : FloatOps.absf (F := Ideal) (φ := .f32) (-x) = FloatOps.absf (F := Ideal) (φ := .f32) x := by
  show max (-x) (- -x) = max x (-x)
  rw [neg_neg, max_comm]

variable (V0 : Valuation τ sig (Elt Ideal))

/-- The projected rows, the gates' arguments and the states of sequence `s`, of the arguments. -/
abbrev vP (s : Fin 128) := sP (V0 (Proc.tc.devRef main_arg0)) (V0 (Proc.tc.devRef main_arg2)) s
abbrev vZ (s : Fin 128) :=
  sZ (V0 (Proc.tc.devRef main_arg0)) (V0 (Proc.tc.devRef main_arg2)) (V0 (Proc.tc.devRef main_arg3)) (V0 (Proc.tc.devRef main_arg4)) s
abbrev vS (s : Fin 128) := sS (V0 (Proc.tc.devRef main_arg1)) s

theorem v6_apply (s : Fin 128) (t : Fin 4) (j : Fin 3088) : res_main_v6 (F := Ideal) V0 (ix3 s t j) = vP V0 s t j := by
  unfold vP sP proj
  pointwise [res_main_v6]

theorem z_apply (s : Fin 128) (t : Fin 4) (e : Fin 512) : res_main_call0_v0 (F := Ideal) V0 (ix3 s t e) = -(vZ V0 s t e) := by
  unfold vZ sZ gatez
  pointwise [res_main_call0_v0, v6_apply]

theorem k_apply (s : Fin 128) (t h : Fin 4) (d : Fin 128) :
    res_main_v26 (F := Ideal) V0 (ix4 s h t d) = vP V0 s t ⟨512 + (h.val * 128 + d.val), by omega⟩ := by
  pointwise [res_main_v26, v6_apply]

theorem v_apply (s : Fin 128) (t h : Fin 4) (d : Fin 256) :
    res_main_v27 (F := Ideal) V0 (ix4 s h t d) = vP V0 s t ⟨1024 + (h.val * 256 + d.val), by omega⟩ := by
  pointwise [res_main_v27, v6_apply]

theorem b_apply (s : Fin 128) (t h : Fin 4) (d : Fin 128) :
    res_main_v29 (F := Ideal) V0 (ix4 s h t d) = cum (vZ V0 s) t ⟨h.val * 128 + d.val, by omega⟩ := by
  unfold res_main_v29
  refine (cumsum_apply _ _ (fun i => by pointwise) _ _ s h t d).trans ?_
  unfold cum lgate
  refine Finset.sum_congr rfl fun j _ => ?_
  congr 1
  pointwise [res_main_call0_call0_v3, res_main_call0_call0_cst, z_apply]
  rw [if_neg fun hh => hh rfl, abs_neg']
  rfl

theorem cum_last (z : Fin 4 → Fin 512 → EReal) (e : Fin 512) : cum z 3 e = tot z e := by
  unfold cum tot
  refine Finset.sum_congr rfl fun j _ => if_pos ?_
  show j.val ≤ 3
  omega

theorem q_apply (s : Fin 128) (t h : Fin 4) (d : Fin 128) :
    res_main_v32 (F := Ideal) V0 (ix4 s h t d) = qd (vP V0 s) (vZ V0 s) t ⟨h.val * 128 + d.val, by omega⟩ := by
  unfold qd
  pointwise [res_main_v32, v6_apply, b_apply]

theorem o_apply (s : Fin 128) (t h : Fin 4) (d : Fin 256) :
    res_main_v54 (F := Ideal) V0 (ix4 s t h d) = attn (vP V0 s) (vZ V0 s) (vS V0 s) t h d := by
  unfold attn kd vS sS
  pointwise [res_main_v54, res_main_v0, v_apply, k_apply, q_apply, b_apply, ge_word]
  have hz : (id (constant (F := Ideal) S_ .f32 0#32) ix0 : EReal) = 0 := Ideal.ofBits_zero_f32
  simp only [hz, sel_if]

theorem r_apply (s : Fin 128) (t : Fin 4) (j : Fin 1024) :
    res_main_v74 (F := Ideal) V0 (ix3 s t j)
      = resid (fun k => (V0 (Proc.tc.devRef main_arg0) : FVec Ideal S128x4x1024 .f32) (ix3 s t k))
        (fun j => ∑ u : Fin 1024, rms (attn (vP V0 s) (vZ V0 s) (vS V0 s) t ⟨u.val / 256, by omega⟩)
            ((V0 (Proc.tc.devRef main_arg5) : FVec Ideal S1x4x256 .f32) (ix3 0 ⟨u.val / 256, by omega⟩ ⟨u.val % 256, by omega⟩)) ⟨u.val % 256, by omega⟩
          * swish (vP V0 s t ⟨2048 + u.val, by omega⟩) * (V0 (Proc.tc.devRef main_arg6) : FVec Ideal S1x1024x1024 .f32) (ix3 0 u j)) j := by
  unfold resid rms swish
  pointwise [res_main_v74, res_main_v10, v6_apply, o_apply]

/-- The reference's rows of four tokens, padded to eight and joined: the rows of the tokens. -/
theorem padded (y : FVec Ideal S128x4x1024 .f32) (v : FVec Ideal S_ .f32) (s : Fin 128) (t : Fin 4) (j : Fin 1024) :
    (shapeCast S1024x1024 (pad S128x8x1024 ![0, 0, 0] ![0, 4, 0] ![0, 0, 0] y v pads_S128x4x1024_S128x8x1024_000_040_000 h_S_)
      shapeCasts_S128x8x1024_S1024x1024 : FVec Ideal S1024x1024 .f32) (ix2 ⟨8 * s.val + t.val, by omega⟩ j) = y (ix3 s t j) := by
  have h1 : ∀ (q : FVec Ideal S128x8x1024 .f32) (R : Fin 1024), (shapeCast S1024x1024 q shapeCasts_S128x8x1024_S1024x1024 : FVec Ideal S1024x1024 .f32) (ix2 R j)
      = q (ix3 ⟨R.val / 8, by omega⟩ ⟨R.val % 8, by omega⟩ j) := by
    intro q R
    pointwise
  rw [h1]
  refine pad_apply_of_inside _ _ _ y v _ _ _ (ix3 s t j) fun a => ?_
  match a with
  | ⟨0, _⟩ => show (8 * s.val + t.val) / 8 = 0 + s.val * 1; omega
  | ⟨1, _⟩ => show (8 * s.val + t.val) % 8 = 0 + t.val * 1; omega
  | ⟨2, _⟩ => show j.val = 0 + j.val * 1; omega

variable (m : (ℓ : Loc nD τ sig) → Buf (Elt Ideal) ℓ) (ρ : Dev nD → PrngReg) (c : Dev nD)

/-- The layer's functions of the reference's arguments. -/
abbrev mY := glaY (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
abbrev mS := glaS (m ((c : Thread nD τ).loc main_arg0)) (m ((c : Thread nD τ).loc main_arg1)) (m ((c : Thread nD τ).loc main_arg2))
    (m ((c : Thread nD τ).loc main_arg3)) (m ((c : Thread nD τ).loc main_arg4))

/-- What the reference leaves: the layer's rows on the rows of the tokens, the next states, and its arguments. -/
theorem run_rows : θ_run defs (onTc (τ := τ) (main (F := Ideal))) ⟨m, fun _ => 0, ρ⟩ fun r => ∀ c : Dev nD,
    (∀ (s : Fin 128) (t : Fin 4) (j : Fin 1024),
      r.2.mem ((c.tc : Thread nD τ).loc main_v104) (ix2 ⟨8 * s.val + t.val, by omega⟩ j : S1024x1024.Idx) = mY m c s t j)
    ∧ (∀ (s : Fin 128) (h : Fin 4) (d : Fin 128) (v : Fin 256),
      r.2.mem ((c.tc : Thread nD τ).loc main_v51) (ix4 s h d v : S128x4x128x256.Idx) = mS m c s h d v)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  refine (θ_run defs _ _).mono (fun r hr => fun c => ?_) (Cert.SampleRefIdeal.Value.run (F := Ideal) m ρ)
  obtain ⟨e0, e1, er⟩ := hr c
  refine ⟨?_, ?_, er⟩
  · intro s t j
    rw [e0]
    refine (padded _ _ s t j).trans ?_
    unfold mY glaY glaRow lnorm mean
    pointwise [r_apply, res_main_v82, res_main_v84]
  · intro s h d v
    rw [e1]
    unfold mS glaS snext kl
    pointwise [res_main_v30, b_apply, v_apply, k_apply, res_main_v0]
    simp only [cum_last]
    rfl

end Cert.SampleRefIdeal.Hand
-- ==== Proof.SampleValue.lean ====
/- The sample's gated linear attention: what the run of the kernel leaves on the rows of the tokens and in the next states,
   and that its reference leaves the same. -/
module

public import proofs.«01_k».proof.Proof.SampleOut
public import proofs.«01_k».proof.Proof.SampleRef
public import proofs.«01_k».proof.Proof.Gen.On_token_rows
public import proofs.«01_k».proof.Defs

@[expose] public section

set_option maxRecDepth 16384

noncomputable section

open Idealize.ShloMosaic Idealize.ShloMosaic.TcCoe Idealize.SL.Sem
open Idealize.ShloMosaic.Pipeline (Dat)

namespace Cert.SampleIdeal.Hand

open Cert.SampleIdeal Cert.SampleIdeal.Gen Cert.Reads

variable (m : (ℓ : Loc nD τ sig) → Buf (Elt Ideal) ℓ) (ρ : Dev nD → PrngReg) (c : Dev nD)

/-- The zero that fills the arrays. -/
def fill : FVec Ideal S_ .f32 := sitofp .f32 (constantI S_ 32 0#32)

theorem fill_zero (i : S_.Idx) : fill i = 0 := by
  show ((BitVec.toInt 0#32 : ℝ) : EReal) = 0
  simp

/-- What the run's host makes of each argument. -/
def rowsOf (y : FVec Ideal S128x4x1024 .f32) : FVec Ideal S1024x1024 .f32 :=
  shapeCast S1024x1024 (pad S128x8x1024 ![0, 0, 0] ![0, 4, 0] ![0, 0, 0] y fill pads_S128x4x1024_S128x8x1024_000_040_000 h_S_ :
    FVec Ideal S128x8x1024 .f32) shapeCasts_S128x8x1024_S1024x1024
def statesOf (y : FVec Ideal S1x128x4x128x256 .f32) : FVec Ideal S128x4x128x256 .f32 :=
  shapeCast S128x4x128x256 y shapeCasts_S1x128x4x128x256_S128x4x128x256
def castOf (y : FVec Ideal S1x1024x3088 .f32) : FVec Ideal S1024x3088 .f32 := shapeCast S1024x3088 y shapeCasts_S1x1024x3088_S1024x3088
def wOf (y : FVec Ideal S1x1024x3088 .f32) : FVec Ideal S1024x3088 .bf16 := truncf .bf16 (castOf y) bitsLt_bf16_f32
def gOf (y : FVec Ideal S1x1024x3088 .f32) : FVec Ideal S1024x128 .bf16 :=
  truncf .bf16 (pad S1024x128 ![0, 0] ![0, 112] ![0, 0] (extractStridedSlice S1024x16 ![0, 3072] (castOf y) slices_S1024x3088_S1024x16_0_3072)
    fill pads_S1024x16_S1024x128_000_01120 h_S_ : FVec Ideal S1024x128 .f32) bitsLt_bf16_f32
def wgOf (y : FVec Ideal S1x16x512 .f32) : FVec Ideal S128x512 .bf16 :=
  truncf .bf16 (pad S128x512 ![0, 0] ![112, 0] ![0, 0] (shapeCast S16x512 y shapeCasts_S1x16x512_S16x512 : FVec Ideal S16x512 .f32)
    fill pads_S16x512_S128x512_01120_000 h_S_ : FVec Ideal S128x512 .f32) bitsLt_bf16_f32
def bgOf (y : FVec Ideal S1x512 .f32) : FVec Ideal S1x512 .f32 :=
  shapeCast S1x512 (shapeCast S512 y shapeCasts_S1x512_S512 : FVec Ideal S512 .f32) shapeCasts_S512_S1x512
def ngOf (y : FVec Ideal S1x4x256 .f32) : FVec Ideal S1x1024 .f32 :=
  shapeCast S1x1024 (shapeCast S4x256 y shapeCasts_S1x4x256_S4x256 : FVec Ideal S4x256 .f32) shapeCasts_S4x256_S1x1024
def woOf (y : FVec Ideal S1x1024x1024 .f32) : FVec Ideal S1024x1024 .bf16 :=
  truncf .bf16 (shapeCast S1024x1024 y shapeCasts_S1x1024x1024_S1024x1024 : FVec Ideal S1024x1024 .f32) bitsLt_bf16_f32
def lnOf (y : FVec Ideal S2x1024 .f32) : FVec Ideal S1x1024 .f32 :=
  shapeCast S1x1024 (shapeCast S1024 (extractStridedSlice S1x1024 ![0, 0] y slices_S2x1024_S1x1024_0_0 : FVec Ideal S1x1024 .f32)
    shapeCasts_S1x1024_S1024 : FVec Ideal S1024 .f32) shapeCasts_S1024_S1x1024

theorem castOf_apply (y : FVec Ideal S1x1024x3088 .f32) (k : Fin 1024) (j : Fin 3088) : castOf y (ix2 k j) = y (ix3 0 k j) := by
  unfold castOf
  pointwise

theorem statesOf_apply (y : FVec Ideal S1x128x4x128x256 .f32) (s : Fin 128) (h : Fin 4) (d : Fin 128) (v : Fin 256) :
    statesOf y (ix4 s h d v) = y (ix5 0 s h d v) := by
  unfold statesOf
  pointwise

theorem bgOf_apply (y : FVec Ideal S1x512 .f32) (e : Fin 512) : bgOf y (ix2 0 e) = y (ix2 0 e) := by
  unfold bgOf
  pointwise

theorem ngOf_apply (y : FVec Ideal S1x4x256 .f32) (u : Fin 1024) :
    ngOf y (ix2 0 u) = y (ix3 0 ⟨u.val / 256, by omega⟩ ⟨u.val % 256, by omega⟩) := by
  unfold ngOf
  pointwise

theorem woOf_apply (y : FVec Ideal S1x1024x1024 .f32) (u j : Fin 1024) : woOf y (ix2 u j) = y (ix3 0 u j) := by
  unfold woOf
  pointwise

theorem lnOf_apply (y : FVec Ideal S2x1024 .f32) (j : Fin 1024) : lnOf y (ix2 0 j) = y (ix2 0 j) := by
  unfold lnOf
  pointwise

/-- Rows of four tokens, filled up to eight and joined: the rows of the tokens. -/
theorem rowsOf_apply (y : FVec Ideal S128x4x1024 .f32) (s : Fin 128) (t : Fin 4) (j : Fin 1024) :
    rowsOf y (ix2 ⟨8 * s.val + t.val, by omega⟩ j) = y (ix3 s t j) :=
  Cert.SampleRefIdeal.Hand.padded y fill s t j

/-- The gate's columns, filled up to 128: the first sixteen. -/
theorem gOf_apply (y : FVec Ideal S1x1024x3088 .f32) (k : Fin 1024) (e : Fin 16) :
    gOf y (ix2 k (⟨e.val, by omega⟩ : Fin 128)) = y (ix3 0 k ⟨3072 + e.val, by omega⟩) := by
  have h : ∀ z : FVec Ideal S1024x3088 .f32, extractStridedSlice S1024x16 ![0, 3072] z slices_S1024x3088_S1024x16_0_3072 (ix2 k e)
      = z (ix2 k ⟨3072 + e.val, by omega⟩) := by
    intro z
    pointwise
  refine (pad_apply_of_inside ![0, 0] ![0, 112] ![0, 0] _ fill pads_S1024x16_S1024x128_000_01120 h_S_ _ (ix2 k e) fun a => ?_).trans
    ((h _).trans (castOf_apply _ _ _))
  match a with
  | ⟨0, _⟩ => show k.val = 0 + k.val * 1; omega
  | ⟨1, _⟩ => show e.val = 0 + e.val * 1; omega

/-- The gate's rows, filled up to 128: the first sixteen, and zeros. -/
theorem wgOf_apply (y : FVec Ideal S1x16x512 .f32) (k : Fin 16) (e : Fin 512) :
    wgOf y (ix2 (⟨k.val, by omega⟩ : Fin 128) e) = y (ix3 0 k e) := by
  have h : ∀ z : FVec Ideal S1x16x512 .f32, (shapeCast S16x512 z shapeCasts_S1x16x512_S16x512 : FVec Ideal S16x512 .f32) (ix2 k e)
      = z (ix3 0 k e) := by
    intro z
    pointwise
  refine (pad_apply_of_inside ![0, 0] ![112, 0] ![0, 0] _ fill pads_S16x512_S128x512_01120_000 h_S_ _ (ix2 k e) fun a => ?_).trans (h _)
  match a with
  | ⟨0, _⟩ => show k.val = 0 + k.val * 1; omega
  | ⟨1, _⟩ => show e.val = 0 + e.val * 1; omega

theorem wgOf_rest (y : FVec Ideal S1x16x512 .f32) (k : Fin 128) (e : Fin 512) (h : 16 ≤ k.val) : wgOf y (ix2 k e) = 0 := by
  refine (pad_apply_of_not_inside (s := S16x512) ![0, 0] ![112, 0] ![0, 0] _ fill pads_S16x512_S128x512_01120_000 h_S_ _ (0 : Fin 2) fun hh => ?_).trans (fill_zero _)
  have h2 : (k.val - 0) / 1 < 16 := hh.2.2
  omega

theorem V_v15 : V m c main_v15 = rowsOf (m ((c : Thread nD τ).loc main_arg0)) := by
  unfold V hostOps0 hostOps0_1 hostOps0_2 hostOps0_3 hostOps0_4 hostOps0_5 hostOps0_6
  simp only [List.flatten_cons, List.flatten_nil, List.append_nil, List.cons_append, List.nil_append]
  after_results_simp
  rfl

theorem V_v16 : V m c main_v16 = statesOf (m ((c : Thread nD τ).loc main_arg1)) := by
  unfold V hostOps0 hostOps0_1 hostOps0_2 hostOps0_3 hostOps0_4 hostOps0_5 hostOps0_6
  simp only [List.flatten_cons, List.flatten_nil, List.append_nil, List.cons_append, List.nil_append]
  after_results_simp
  rfl

theorem V_v1 : V m c main_v1 = wOf (m ((c : Thread nD τ).loc main_arg2)) := by
  unfold V hostOps0 hostOps0_1 hostOps0_2 hostOps0_3 hostOps0_4 hostOps0_5 hostOps0_6
  simp only [List.flatten_cons, List.flatten_nil, List.append_nil, List.cons_append, List.nil_append]
  after_results_simp
  rfl

theorem V_v4 : V m c main_v4 = gOf (m ((c : Thread nD τ).loc main_arg2)) := by
  unfold V hostOps0 hostOps0_1 hostOps0_2 hostOps0_3 hostOps0_4 hostOps0_5 hostOps0_6
  simp only [List.flatten_cons, List.flatten_nil, List.append_nil, List.cons_append, List.nil_append]
  after_results_simp
  rfl

theorem V_v7 : V m c main_v7 = wgOf (m ((c : Thread nD τ).loc main_arg3)) := by
  unfold V hostOps0 hostOps0_1 hostOps0_2 hostOps0_3 hostOps0_4 hostOps0_5 hostOps0_6
  simp only [List.flatten_cons, List.flatten_nil, List.append_nil, List.cons_append, List.nil_append]
  after_results_simp
  rfl

theorem V_v9 : V m c main_v9 = bgOf (m ((c : Thread nD τ).loc main_arg4)) := by
  unfold V hostOps0 hostOps0_1 hostOps0_2 hostOps0_3 hostOps0_4 hostOps0_5 hostOps0_6
  simp only [List.flatten_cons, List.flatten_nil, List.append_nil, List.cons_append, List.nil_append]
  after_results_simp
  rfl

theorem V_v11 : V m c main_v11 = ngOf (m ((c : Thread nD τ).loc main_arg5)) := by
  unfold V hostOps0 hostOps0_1 hostOps0_2 hostOps0_3 hostOps0_4 hostOps0_5 hostOps0_6
  simp only [List.flatten_cons, List.flatten_nil, List.append_nil, List.cons_append, List.nil_append]
  after_results_simp
  rfl

theorem V_v13 : V m c main_v13 = woOf (m ((c : Thread nD τ).loc main_arg6)) := by
  unfold V hostOps0 hostOps0_1 hostOps0_2 hostOps0_3 hostOps0_4 hostOps0_5 hostOps0_6
  simp only [List.flatten_cons, List.flatten_nil, List.append_nil, List.cons_append, List.nil_append]
  after_results_simp
  rfl

theorem V_v19 : V m c main_v19 = lnOf (m ((c : Thread nD τ).loc main_arg7)) := by
  unfold V hostOps0 hostOps0_1 hostOps0_2 hostOps0_3 hostOps0_4 hostOps0_5 hostOps0_6
  simp only [List.flatten_cons, List.flatten_nil, List.append_nil, List.cons_append, List.nil_append]
  after_results_simp
  rfl

theorem V_v22 : V m c main_v22 = lnOf (m ((c : Thread nD τ).loc main_arg8)) := by
  unfold V hostOps0 hostOps0_1 hostOps0_2 hostOps0_3 hostOps0_4 hostOps0_5 hostOps0_6
  simp only [List.flatten_cons, List.flatten_nil, List.append_nil, List.cons_append, List.nil_append]
  after_results_simp
  rfl

theorem geom0 : ∀ t : Fin grid0.N, win0_0.index t 0 = t.val ∧ win0_0.index t 1 = 0 := by decide +kernel
theorem geom1 : ∀ t : Fin grid0.N, win0_1.index t 0 = t.val ∧ win0_1.index t 1 = 0 ∧ win0_1.index t 2 = 0 ∧ win0_1.index t 3 = 0 := by decide +kernel
theorem geom2 : ∀ t : Fin grid0.N, win0_2.index t 0 = 0 ∧ win0_2.index t 1 = 0 := by decide +kernel
theorem geom3 : ∀ t : Fin grid0.N, win0_3.index t 0 = 0 ∧ win0_3.index t 1 = 0 := by decide +kernel
theorem geom4 : ∀ t : Fin grid0.N, win0_4.index t 0 = 0 ∧ win0_4.index t 1 = 0 := by decide +kernel
theorem geom5 : ∀ t : Fin grid0.N, win0_5.index t 0 = 0 ∧ win0_5.index t 1 = 0 := by decide +kernel
theorem geom6 : ∀ t : Fin grid0.N, win0_6.index t 0 = 0 ∧ win0_6.index t 1 = 0 := by decide +kernel
theorem geom7 : ∀ t : Fin grid0.N, win0_7.index t 0 = 0 ∧ win0_7.index t 1 = 0 := by decide +kernel
theorem geom8 : ∀ t : Fin grid0.N, win0_8.index t 0 = 0 ∧ win0_8.index t 1 = 0 := by decide +kernel
theorem geom9 : ∀ t : Fin grid0.N, win0_9.index t 0 = 0 ∧ win0_9.index t 1 = 0 := by decide +kernel
theorem geom10 : ∀ t : Fin grid0.N, win0_10.index t 0 = t.val ∧ win0_10.index t 1 = 0 := by decide +kernel
theorem geom11 : ∀ t : Fin grid0.N, win0_11.index t 0 = t.val ∧ win0_11.index t 1 = 0 ∧ win0_11.index t 2 = 0 ∧ win0_11.index t 3 = 0 := by decide +kernel

theorem iblk0 (t : Fin cfg0.N) (n : Fin 16) (u : Fin 4) (k : Fin 1024) (hs : 16 * t.val + n.val < 128) :
    (iblk m c 0 t : Vec Ideal S128x1024 .f32) (ix2 ⟨8 * n.val + u.val, by omega⟩ k) = (m ((c : Thread nD τ).loc main_arg0) : FVec Ideal S128x4x1024 .f32)
      (ix3 ⟨16 * t.val + n.val, hs⟩ u k) := by
  obtain ⟨h0, h1⟩ := geom0 t
  unfold iblk
  rw [View.read_apply]
  refine Eq.trans ?_ ((congrFun (V_v15 m c) (ix2 ⟨8 * (16 * t.val + n.val) + u.val, by omega⟩ k)).trans (rowsOf_apply _ ⟨16 * t.val + n.val, hs⟩ u k))
  show V m c main_v15 _ = V m c main_v15 _
  congr 1
  funext a
  apply Fin.ext
  match a with
  | ⟨0, _⟩ => show win0_0.index t 0 * 128 + 1 * (8 * n.val + u.val) = 8 * (16 * t.val + n.val) + u.val; rw [h0]; omega
  | ⟨1, _⟩ => show win0_0.index t 1 * 1024 + 1 * (k.val) = k.val; rw [h1]; omega

theorem iblk1 (t : Fin cfg0.N) (n : Fin 16) (h : Fin 4) (d : Fin 128) (v : Fin 256) (hs : 16 * t.val + n.val < 128) :
    (iblk m c 1 t : Vec Ideal S16x4x128x256 .f32) (ix4 n h d v) = (m ((c : Thread nD τ).loc main_arg1) : FVec Ideal S1x128x4x128x256 .f32)
      (ix5 0 ⟨16 * t.val + n.val, hs⟩ h d v) := by
  obtain ⟨h0, h1, h2, h3⟩ := geom1 t
  unfold iblk
  rw [View.read_apply]
  refine Eq.trans ?_ ((congrFun (V_v16 m c) (ix4 ⟨16 * t.val + n.val, hs⟩ h d v)).trans (statesOf_apply _ _ _ _ _))
  show V m c main_v16 _ = V m c main_v16 _
  congr 1
  funext a
  apply Fin.ext
  match a with
  | ⟨0, _⟩ => show win0_1.index t 0 * 16 + 1 * (n.val) = 16 * t.val + n.val; rw [h0]; omega
  | ⟨1, _⟩ => show win0_1.index t 1 * 4 + 1 * (h.val) = h.val; rw [h1]; omega
  | ⟨2, _⟩ => show win0_1.index t 2 * 128 + 1 * (d.val) = d.val; rw [h2]; omega
  | ⟨3, _⟩ => show win0_1.index t 3 * 256 + 1 * (v.val) = v.val; rw [h3]; omega

theorem iblk2 (t : Fin cfg0.N) (k : Fin 1024) (j : Fin 3088) :
    (iblk m c 2 t : Vec Ideal S1024x3088 .bf16) (ix2 k j) = (m ((c : Thread nD τ).loc main_arg2) : FVec Ideal S1x1024x3088 .f32) (ix3 0 k j) := by
  obtain ⟨h0, h1⟩ := geom2 t
  unfold iblk
  rw [View.read_apply]
  refine Eq.trans ?_ ((congrFun (V_v1 m c) (ix2 k j)).trans (castOf_apply _ k j))
  show V m c main_v1 _ = V m c main_v1 _
  congr 1
  funext a
  apply Fin.ext
  match a with
  | ⟨0, _⟩ => show win0_2.index t 0 * 1024 + 1 * (k.val) = k.val; rw [h0]; omega
  | ⟨1, _⟩ => show win0_2.index t 1 * 3088 + 1 * (j.val) = j.val; rw [h1]; omega

theorem iblk3 (t : Fin cfg0.N) (k : Fin 1024) (e : Fin 16) :
    (iblk m c 3 t : Vec Ideal S1024x128 .bf16) (ix2 k ⟨e.val, by omega⟩) = (m ((c : Thread nD τ).loc main_arg2) : FVec Ideal S1x1024x3088 .f32) (ix3 0 k ⟨3072 + e.val, by omega⟩) := by
  obtain ⟨h0, h1⟩ := geom3 t
  unfold iblk
  rw [View.read_apply]
  refine Eq.trans ?_ ((congrFun (V_v4 m c) (ix2 k ⟨e.val, by omega⟩)).trans (gOf_apply _ k e))
  show V m c main_v4 _ = V m c main_v4 _
  congr 1
  funext a
  apply Fin.ext
  match a with
  | ⟨0, _⟩ => show win0_3.index t 0 * 1024 + 1 * (k.val) = k.val; rw [h0]; omega
  | ⟨1, _⟩ => show win0_3.index t 1 * 128 + 1 * (e.val) = e.val; rw [h1]; omega

theorem iblk4 (t : Fin cfg0.N) (k : Fin 16) (e : Fin 512) :
    (iblk m c 4 t : Vec Ideal S128x512 .bf16) (ix2 ⟨k.val, by omega⟩ e) = (m ((c : Thread nD τ).loc main_arg3) : FVec Ideal S1x16x512 .f32) (ix3 0 k e) := by
  obtain ⟨h0, h1⟩ := geom4 t
  unfold iblk
  rw [View.read_apply]
  refine Eq.trans ?_ ((congrFun (V_v7 m c) (ix2 ⟨k.val, by omega⟩ e)).trans (wgOf_apply _ k e))
  show V m c main_v7 _ = V m c main_v7 _
  congr 1
  funext a
  apply Fin.ext
  match a with
  | ⟨0, _⟩ => show win0_4.index t 0 * 128 + 1 * (k.val) = k.val; rw [h0]; omega
  | ⟨1, _⟩ => show win0_4.index t 1 * 512 + 1 * (e.val) = e.val; rw [h1]; omega

theorem iblk4_rest (t : Fin cfg0.N) (k : Fin 128) (e : Fin 512) (hk : 16 ≤ k.val) :
    (iblk m c 4 t : Vec Ideal S128x512 .bf16) (ix2 k e) = (0 : EReal) := by
  obtain ⟨h0, h1⟩ := geom4 t
  unfold iblk
  rw [View.read_apply]
  refine Eq.trans ?_ ((congrFun (V_v7 m c) (ix2 k e)).trans (wgOf_rest _ k e hk))
  show V m c main_v7 _ = V m c main_v7 _
  congr 1
  funext a
  apply Fin.ext
  match a with
  | ⟨0, _⟩ => show win0_4.index t 0 * 128 + 1 * (k.val) = k.val; rw [h0]; omega
  | ⟨1, _⟩ => show win0_4.index t 1 * 512 + 1 * (e.val) = e.val; rw [h1]; omega

theorem iblk5 (t : Fin cfg0.N) (e : Fin 512) :
    (iblk m c 5 t : Vec Ideal S1x512 .f32) (ix2 0 e) = (m ((c : Thread nD τ).loc main_arg4) : FVec Ideal S1x512 .f32) (ix2 0 e) := by
  obtain ⟨h0, h1⟩ := geom5 t
  unfold iblk
  rw [View.read_apply]
  refine Eq.trans ?_ ((congrFun (V_v9 m c) (ix2 0 e)).trans (bgOf_apply _ e))
  show V m c main_v9 _ = V m c main_v9 _
  congr 1
  funext a
  apply Fin.ext
  match a with
  | ⟨0, _⟩ => show win0_5.index t 0 * 1 + 1 * (0) = 0; rw [h0]
  | ⟨1, _⟩ => show win0_5.index t 1 * 512 + 1 * (e.val) = e.val; rw [h1]; omega

theorem iblk6 (t : Fin cfg0.N) (u : Fin 1024) :
    (iblk m c 6 t : Vec Ideal S1x1024 .f32) (ix2 0 u) = (m ((c : Thread nD τ).loc main_arg5) : FVec Ideal S1x4x256 .f32) (ix3 0 ⟨u.val / 256, by omega⟩ ⟨u.val % 256, by omega⟩) := by
  obtain ⟨h0, h1⟩ := geom6 t
  unfold iblk
  rw [View.read_apply]
  refine Eq.trans ?_ ((congrFun (V_v11 m c) (ix2 0 u)).trans (ngOf_apply _ u))
  show V m c main_v11 _ = V m c main_v11 _
  congr 1
  funext a
  apply Fin.ext
  match a with
  | ⟨0, _⟩ => show win0_6.index t 0 * 1 + 1 * (0) = 0; rw [h0]
  | ⟨1, _⟩ => show win0_6.index t 1 * 1024 + 1 * (u.val) = u.val; rw [h1]; omega

theorem iblk7 (t : Fin cfg0.N) (u j : Fin 1024) :
    (iblk m c 7 t : Vec Ideal S1024x1024 .bf16) (ix2 u j) = (m ((c : Thread nD τ).loc main_arg6) : FVec Ideal S1x1024x1024 .f32) (ix3 0 u j) := by
  obtain ⟨h0, h1⟩ := geom7 t
  unfold iblk
  rw [View.read_apply]
  refine Eq.trans ?_ ((congrFun (V_v13 m c) (ix2 u j)).trans (woOf_apply _ u j))
  show V m c main_v13 _ = V m c main_v13 _
  congr 1
  funext a
  apply Fin.ext
  match a with
  | ⟨0, _⟩ => show win0_7.index t 0 * 1024 + 1 * (u.val) = u.val; rw [h0]; omega
  | ⟨1, _⟩ => show win0_7.index t 1 * 1024 + 1 * (j.val) = j.val; rw [h1]; omega

theorem iblk8 (t : Fin cfg0.N) (j : Fin 1024) :
    (iblk m c 8 t : Vec Ideal S1x1024 .f32) (ix2 0 j) = (m ((c : Thread nD τ).loc main_arg7) : FVec Ideal S2x1024 .f32) (ix2 0 j) := by
  obtain ⟨h0, h1⟩ := geom8 t
  unfold iblk
  rw [View.read_apply]
  refine Eq.trans ?_ ((congrFun (V_v19 m c) (ix2 0 j)).trans (lnOf_apply _ j))
  show V m c main_v19 _ = V m c main_v19 _
  congr 1
  funext a
  apply Fin.ext
  match a with
  | ⟨0, _⟩ => show win0_8.index t 0 * 1 + 1 * (0) = 0; rw [h0]
  | ⟨1, _⟩ => show win0_8.index t 1 * 1024 + 1 * (j.val) = j.val; rw [h1]; omega

theorem iblk9 (t : Fin cfg0.N) (j : Fin 1024) :
    (iblk m c 9 t : Vec Ideal S1x1024 .f32) (ix2 0 j) = (m ((c : Thread nD τ).loc main_arg8) : FVec Ideal S2x1024 .f32) (ix2 0 j) := by
  obtain ⟨h0, h1⟩ := geom9 t
  unfold iblk
  rw [View.read_apply]
  refine Eq.trans ?_ ((congrFun (V_v22 m c) (ix2 0 j)).trans (lnOf_apply _ j))
  show V m c main_v22 _ = V m c main_v22 _
  congr 1
  funext a
  apply Fin.ext
  match a with
  | ⟨0, _⟩ => show win0_9.index t 0 * 1 + 1 * (0) = 0; rw [h0]
  | ⟨1, _⟩ => show win0_9.index t 1 * 1024 + 1 * (j.val) = j.val; rw [h1]; omega

/-- The block's projected rows, gates' arguments and states are those of its sequences. -/
theorem bP_eq (t : Fin cfg0.N) (n : Fin 16) (hs : 16 * t.val + n.val < 128) :
    bP (iblk m c 0 t) (iblk m c 2 t) n = sP (m ((c : Thread nD τ).loc main_arg0)) (m ((c : Thread nD τ).loc main_arg2)) ⟨16 * t.val + n.val, hs⟩ := by
  funext u j
  unfold bP bR sP proj
  exact Finset.sum_congr rfl fun k _ => congrArg₂ (fun a b : EReal => a * b) (iblk0 m c t n u k hs) (iblk2 m c t k j)

theorem bGz_eq (t : Fin cfg0.N) (n : Fin 16) (hs : 16 * t.val + n.val < 128) :
    bGz (iblk m c 0 t) (iblk m c 3 t) (iblk m c 4 t) (iblk m c 5 t) n
      = sZ (m ((c : Thread nD τ).loc main_arg0)) (m ((c : Thread nD τ).loc main_arg2)) (m ((c : Thread nD τ).loc main_arg3))
          (m ((c : Thread nD τ).loc main_arg4)) ⟨16 * t.val + n.val, hs⟩ := by
  funext u e
  unfold bGz bZ sZ gatez
  refine congrArg₂ (fun a b : EReal => a + b) (Eq.symm ?_) (iblk5 m c t e)
  refine Fintype.sum_of_injective (fun y : Fin 16 => (⟨y.val, by omega⟩ : Fin 128)) (fun a b h => Fin.ext (Fin.mk.inj h)) _ _ ?_ ?_
  · intro y hy
    have h16 : 16 ≤ y.val := by
      by_contra hlt
      exact hy ⟨⟨y.val, by omega⟩, rfl⟩
    exact (congrArg (fun b : EReal => _ * b) (iblk4_rest m c t y e h16)).trans (mul_zero _)
  · intro y
    refine congrArg₂ (fun a b : EReal => a * b) ?_ (iblk4 m c t y e).symm
    unfold sP proj
    exact Finset.sum_congr rfl fun k _ => congrArg₂ (fun a b : EReal => a * b) (iblk0 m c t n u k hs).symm (iblk3 m c t k y).symm

theorem bS_eq (t : Fin cfg0.N) (n : Fin 16) (hs : 16 * t.val + n.val < 128) :
    bS (iblk m c 1 t) n = sS (m ((c : Thread nD τ).loc main_arg1)) ⟨16 * t.val + n.val, hs⟩ := by
  funext h d v
  exact iblk1 m c t n h d v hs

/-- The layer's functions of the kernel's arguments. -/
abbrev kY := glaY (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
abbrev kS := glaS (m ((c : Thread nD τ).loc main_arg0)) (m ((c : Thread nD τ).loc main_arg1)) (m ((c : Thread nD τ).loc main_arg2))
    (m ((c : Thread nD τ).loc main_arg3)) (m ((c : Thread nD τ).loc main_arg4))

/-- The rows of the tokens, after the run. -/
theorem y_final (s : Fin 128) (u : Fin 4) (j : Fin 1024) :
    ((dats m 0 c).arrAt 10 cfg0.N : FVec Ideal S1024x1024 .f32) (ix2 ⟨8 * s.val + u.val, by omega⟩ j) = kY m c s u j := by
  have ht : s.val / 16 < grid0.N := by rw [N_0]; omega
  obtain ⟨t, htv⟩ : ∃ t : Fin cfg0.N, t.val = s.val / 16 := ⟨⟨s.val / 16, ht⟩, rfl⟩
  obtain ⟨n, hn⟩ : ∃ n : Fin 16, n.val = s.val % 16 := ⟨⟨s.val % 16, by omega⟩, rfl⟩
  have hs : 16 * t.val + n.val < 128 := by omega
  obtain rfl : s = ⟨16 * t.val + n.val, hs⟩ := Fin.ext (by dsimp only; omega)
  obtain ⟨h0, h1⟩ := geom10 t
  have hb := congrFun (Cert.SampleIdeal.Value.blocks10 m c t (flush0_10 t)) (ix2 (⟨8 * n.val + u.val, by omega⟩ : Fin 128) j)
  rw [View.read_apply, Cert.SampleIdeal.Value.flushed10_A] at hb
  have he : ((cfg0.win 10).blk t).view.emb (ix2 (⟨8 * n.val + u.val, by omega⟩ : Fin 128) j)
      = (ix2 ⟨8 * (16 * t.val + n.val) + u.val, by omega⟩ j : S1024x1024.Idx) := by
    funext a
    apply Fin.ext
    match a with
    | ⟨0, _⟩ => show win0_10.index t 0 * 128 + 1 * (8 * n.val + u.val) = 8 * (16 * t.val + n.val) + u.val; rw [h0]; omega
    | ⟨1, _⟩ => show win0_10.index t 1 * 1024 + 1 * j.val = j.val; rw [h1]; omega
  refine Eq.trans (congrArg ((dats m 0 c).arrAt 10 cfg0.N : FVec Ideal S1024x1024 .f32) he).symm (hb.trans ?_)
  refine (out10_apply c _ _ _ _ _ _ _ _ _ _ _ _ _ _ _ _ _ _ _ _ _ _ _ _ _ _ _ _ _ _ _ _ _ _ _ _ _ n u j).trans ?_
  rw [bP_eq m c t n hs, bGz_eq m c t n hs, bS_eq m c t n hs, funext fun k => iblk0 m c t n u k hs, funext (iblk6 m c t),
    funext fun u => funext (iblk7 m c t u), funext (iblk8 m c t), funext (iblk9 m c t)]
  rfl

/-- The next states, after the run. -/
theorem s_final (s : Fin 128) (h : Fin 4) (d : Fin 128) (v : Fin 256) :
    ((dats m 0 c).arrAt 11 cfg0.N : FVec Ideal S128x4x128x256 .f32) (ix4 s h d v) = kS m c s h d v := by
  have ht : s.val / 16 < grid0.N := by rw [N_0]; omega
  obtain ⟨t, htv⟩ : ∃ t : Fin cfg0.N, t.val = s.val / 16 := ⟨⟨s.val / 16, ht⟩, rfl⟩
  obtain ⟨n, hn⟩ : ∃ n : Fin 16, n.val = s.val % 16 := ⟨⟨s.val % 16, by omega⟩, rfl⟩
  have hs : 16 * t.val + n.val < 128 := by omega
  obtain rfl : s = ⟨16 * t.val + n.val, hs⟩ := Fin.ext (by dsimp only; omega)
  obtain ⟨h0, h1, h2, h3⟩ := geom11 t
  have hb := congrFun (Cert.SampleIdeal.Value.blocks11 m c t (flush0_11 t)) (ix4 n h d v)
  rw [View.read_apply, Cert.SampleIdeal.Value.flushed11_A] at hb
  have he : ((cfg0.win 11).blk t).view.emb (ix4 n h d v) = (ix4 ⟨16 * t.val + n.val, hs⟩ h d v : S128x4x128x256.Idx) := by
    funext a
    apply Fin.ext
    match a with
    | ⟨0, _⟩ => show win0_11.index t 0 * 16 + 1 * n.val = 16 * t.val + n.val; rw [h0]; omega
    | ⟨1, _⟩ => show win0_11.index t 1 * 4 + 1 * h.val = h.val; rw [h1]; omega
    | ⟨2, _⟩ => show win0_11.index t 2 * 128 + 1 * d.val = d.val; rw [h2]; omega
    | ⟨3, _⟩ => show win0_11.index t 3 * 256 + 1 * v.val = v.val; rw [h3]; omega
  refine Eq.trans (congrArg ((dats m 0 c).arrAt 11 cfg0.N : FVec Ideal S128x4x128x256 .f32) he).symm (hb.trans ?_)
  refine (out11_apply c _ _ _ _ _ _ _ _ _ _ _ _ _ _ _ _ _ _ _ _ _ _ _ _ _ _ _ _ _ _ _ _ _ _ _ _ _ n h d v).trans ?_
  rw [bP_eq m c t n hs, bGz_eq m c t n hs, bS_eq m c t n hs]
  rfl

end Cert.SampleIdeal.Hand

namespace Cert.SampleValue

open Cert.Reads

/-- The mask's rows are the rows of the tokens. -/
theorem mask_word : ∀ R : Fin 1024, IntOp.cmpi .slt (IntOp.remsi .host (BitVec.ofNat 32 R.val) 8#32) 4#32 = 1#1 → R.val % 8 < 4 := by
  decide +kernel

/-- An index of the masked rows names a sequence, a token of it, and a column. -/
theorem row_split (i : (⟨2, ![1024, 1024]⟩ : Shape).Idx)
    (h : IntOp.cmpi .slt (IntOp.remsi .host (BitVec.ofNat 32 (i 0).val) 8#32) 4#32 = 1#1) :
    ∃ (s : Fin 128) (u : Fin 4) (j : Fin 1024), i = ix2 ⟨8 * s.val + u.val, by omega⟩ j := by
  have hR : (i 0).val < 1024 := (i 0).isLt
  have h4 := mask_word ⟨(i 0).val, hR⟩ h
  dsimp only at h4
  refine ⟨⟨(i 0).val / 8, by omega⟩, ⟨(i 0).val % 8, h4⟩, i 1, (eq_ix2 i).trans ?_⟩
  congr 1
  exact Fin.ext (by dsimp only; omega)

/-- The layer's row of a row index: of token `i 0 % 8` of sequence `i 0 / 8`, told here for any row. -/
def rowsV (f : Fin 128 → Fin 4 → Fin 1024 → EReal) (i : (⟨2, ![1024, 1024]⟩ : Shape).Idx) : EReal :=
  f ⟨(i 0).val / 8, by have : (i 0).val < 1024 := (i 0).isLt; omega⟩ ⟨(i 0).val % 4, by omega⟩ (i 1)

theorem rowsV_apply (f : Fin 128 → Fin 4 → Fin 1024 → EReal) (s : Fin 128) (u : Fin 4) (j : Fin 1024) :
    rowsV f (ix2 ⟨8 * s.val + u.val, by omega⟩ j) = f s u j := by
  have e1 : (⟨(8 * s.val + u.val) / 8, by omega⟩ : Fin 128) = s := Fin.ext (by dsimp only; omega)
  have e2 : (⟨(8 * s.val + u.val) % 4, by omega⟩ : Fin 4) = u := Fin.ext (by dsimp only; omega)
  show f ⟨(8 * s.val + u.val) / 8, _⟩ ⟨(8 * s.val + u.val) % 4, _⟩ j = f s u j
  rw [e1, e2]

theorem algebraic : Cert.algebraic_SampleIdeal_SampleRefIdeal_on_token_rows := fun m ρ m' ρ' _ hag =>
  ⟨fun c => rowsV (Cert.SampleIdeal.Hand.kY m c), fun c i => Cert.SampleIdeal.Hand.kS m c (i 0) (i 1) (i 2) (i 3),
    (θ_run _ _ _).mono (fun r h c => ⟨fun i hi => by
        obtain ⟨s, u, j, rfl⟩ := row_split i hi
        rw [(h c).1]
        exact (Cert.SampleIdeal.Hand.y_final m c s u j).trans (rowsV_apply _ s u j).symm,
      fun i _ => by
        obtain ⟨s, x, d, v, rfl⟩ : ∃ (s : Fin 128) (x : Fin 4) (d : Fin 128) (v : Fin 256), i = ix4 s x d v := ⟨i 0, i 1, i 2, i 3, eq_ix4 i⟩
        rw [(h c).2.1]
        exact Cert.SampleIdeal.Hand.s_final m c s x d v,
      (h c).2.2⟩) (Cert.SampleIdeal.Value.run_blocks m ρ),
    (θ_run _ _ _).mono (fun r h c => by
      obtain ⟨a0, a1, a2, a3, a4, a5, a6, a7, a8⟩ := hag c
      have ey : Cert.SampleRefIdeal.Hand.mY m' c = Cert.SampleIdeal.Hand.kY m c := by
        unfold Cert.SampleRefIdeal.Hand.mY Cert.SampleIdeal.Hand.kY
        rw [a0, a1, a2, a3, a4, a5, a6, a7, a8]
      have es : Cert.SampleRefIdeal.Hand.mS m' c = Cert.SampleIdeal.Hand.kS m c := by
        unfold Cert.SampleRefIdeal.Hand.mS Cert.SampleIdeal.Hand.kS
        rw [a0, a1, a2, a3, a4]
      refine ⟨fun i hi => ?_, fun i _ => ?_, (h c).2.2⟩
      · obtain ⟨s, u, j, rfl⟩ := row_split i hi
        exact ((h c).1 s u j).trans ((congrFun (congrFun (congrFun ey s) u) j).trans (rowsV_apply _ s u j).symm)
      · obtain ⟨s, x, d, v, rfl⟩ : ∃ (s : Fin 128) (x : Fin 4) (d : Fin 128) (v : Fin 256), i = ix4 s x d v := ⟨i 0, i 1, i 2, i 3, eq_ix4 i⟩
        exact ((h c).2.1 s x d v).trans (congrFun (congrFun (congrFun (congrFun es s) x) d) v))
      (Cert.SampleRefIdeal.Hand.run_rows m' ρ')⟩

end Cert.SampleValue

end
-- ==== Proof.StreamBody.lean ====
/- What one grid point of the streamed perceptron leaves in its two scratch arrays and, at the last point, in the output. -/
module

public import proofs.«01_k».proof.Proof.Gen.StreamIdeal.Frame
public import proofs.«01_k».proof.Proof.Spec

@[expose] public section

set_option maxRecDepth 16384

noncomputable section

namespace Cert.StreamIdeal.Hand

open Cert.StreamIdeal Cert.StreamIdeal.Gen Idealize.ShloMosaic Idealize.ShloMosaic.TcCoe Cert.Reads

/-- What 1024 hidden units add to an entry of the perceptron's row. -/
def part (x : Fin 1024 → EReal) (w d : Fin 1024 → Fin 1024 → EReal) (j : Fin 1024) : EReal :=
  ∑ f, max (∑ k, x k * w k f) 0 * max (∑ k, x k * w k f) 0 * d f j

variable (c : Dev nD) (i : grid0.Coords) (a1 : Memref sig .tc .vmem S512x1024 .f32) (h1 : a1.IsWhole)
  (a2 : Memref sig .tc .vmem S1x1024x1024 .bf16) (h2 : a2.IsWhole) (a3 : Memref sig .tc .vmem S1x1024x1024 .bf16) (h3 : a3.IsWhole)
  (a4 : Memref sig .tc .vmem S1x1x1024 .f32) (h4 : a4.IsWhole) (a5 : Memref sig .tc .vmem S1x1x1024 .f32) (h5 : a5.IsWhole)
  (a6 : Memref sig .tc .vmem S512x1024 .f32) (h6 : a6.IsWhole) (a7 : Memref sig .tc .vmem S512x1024 .bf16) (h7 : a7.IsWhole)
  (a8 : Memref sig .tc .vmem S512x1024 .f32) (h8 : a8.IsWhole)
  (x0 : Vec Ideal S512x1024 .f32) (x1 x2 : Vec Ideal S1x1024x1024 .bf16) (x3 x4 : Vec Ideal S1x1x1024 .f32)
  (xs0 : Vec Ideal S512x1024 .bf16) (xs1 : Vec Ideal S512x1024 .f32) (r : Fin 512) (j : Fin 1024)

/-- The first point copies the rows. -/
theorem rows_first (q0 : cond0_0 i) (q1 : cond0_1 i) (q2 : ¬cond0_2 i) (q3 : ¬cond0_3 i) :
    sout0_A_0 (F := Ideal) c i a1 h1 a2 h2 a3 h3 a4 h4 a5 h5 a6 h6 a7 h7 a8 h8 q0 q1 q2 q3 x0 x1 x2 x3 x4 (ix2 r j)
      = x0 (ix2 r j) := by
  unfold sout0_A_0
  rw [View.read_writes_junk_eq_canon]
  unfold kernelRun0_A kernelRun0_A.sl.HS0_1
  dsimp only
  simp (disch := omega) only [hit2]
  pointwise [k0_pay1, View.readAt_eq_ld, h1.read_unread]

/-- The rows that the first point reads back. -/
theorem rows_back : kernelRun0_A.sl.v3 (F := Ideal) c a1 h1 a7 x0 (ix2 r j) = x0 (ix2 r j) := by
  unfold kernelRun0_A.sl.v3
  rw [View.readCov_eq_canon']
  unfold kernelRun0_A.sl.HS0_1
  pointwise
  simp (disch := omega) only [hit2]
  pointwise [k0_pay1, View.readAt_eq_ld, h1.read_unread]

/-- The first point's sum is its own part. -/
theorem acc_first (q0 : cond0_0 i) (q1 : cond0_1 i) (q2 : ¬cond0_2 i) (q3 : ¬cond0_3 i) :
    sout0_A_1 (F := Ideal) c i a1 h1 a2 h2 a3 h3 a4 h4 a5 h5 a6 h6 a7 h7 a8 h8 q0 q1 q2 q3 x0 x1 x2 x3 x4 (ix2 r j)
      = part (fun k => x0 (ix2 r k)) (fun k f => x1 (ix3 0 k f)) (fun f j => x2 (ix3 0 f j)) j := by
  unfold sout0_A_1
  rw [View.read_writes_junk_eq_canon]
  unfold kernelRun0_A
  dsimp only
  simp (disch := omega) only [hit2]
  pointwise [k0_pay3, k0_pay2, rows_back, View.readAt_eq_ld, h2.read_unread, h3.read_unread]
  rfl

/-- A later point adds its part to the sum. -/
theorem acc_mid (q0 : ¬cond0_0 i) (q1 : ¬cond0_1 i) (q2 : cond0_2 i) (q3 : ¬cond0_3 i) :
    sout0_B_1 (F := Ideal) c i a1 h1 a2 h2 a3 h3 a4 h4 a5 h5 a6 h6 a7 h7 a8 h8 q0 q1 q2 q3 x0 x1 x2 x3 x4 xs0 xs1 (ix2 r j)
      = xs1 (ix2 r j) + part (fun k => xs0 (ix2 r k)) (fun k f => x1 (ix3 0 k f)) (fun f j => x2 (ix3 0 f j)) j := by
  unfold sout0_B_1
  rw [View.read_writes_junk_eq_canon]
  unfold kernelRun0_B
  dsimp only
  simp (disch := omega) only [hit2]
  pointwise [k0_pay4, k0_pay2, View.readAt_eq_ld, h2.read_unread, h3.read_unread, h7.read_unread, h8.read_unread]
  rfl

/-- The sum that the last point reads back. -/
theorem acc_last :
    kernelRun0_C.sl.v27 (F := Ideal) c a2 h2 a3 h3 a7 h7 a8 h8 x1 x2 xs0 xs1 (ix2 r j)
      = xs1 (ix2 r j) + part (fun k => xs0 (ix2 r k)) (fun k f => x1 (ix3 0 k f)) (fun f j => x2 (ix3 0 f j)) j := by
  unfold kernelRun0_C.sl.v27
  rw [View.readCov_eq_canon']
  unfold kernelRun0_C.sl.HS1_1
  pointwise
  simp (disch := omega) only [hit2]
  pointwise [k0_pay4, k0_pay2, View.readAt_eq_ld, h2.read_unread, h3.read_unread, h7.read_unread, h8.read_unread]
  rfl

/-- The last point adds its part, and stores the layer norm of the rows with the sum. -/
theorem out_last (q0 : ¬cond0_0 i) (q1 : ¬cond0_1 i) (q2 : cond0_2 i) (q3 : cond0_3 i) :
    out0_C_5 (F := Ideal) c i a1 h1 a2 h2 a3 h3 a4 h4 a5 h5 a6 h6 a7 h7 a8 h8 q0 q1 q2 q3 x0 x1 x2 x3 x4 xs0 xs1 (ix2 r j)
      = lnorm (resid (fun k => x0 (ix2 r k)) fun j => xs1 (ix2 r j)
            + part (fun k => xs0 (ix2 r k)) (fun k f => x1 (ix3 0 k f)) (fun f j => x2 (ix3 0 f j)) j)
          (fun j => x3 (ix3 0 0 j)) (fun j => x4 (ix3 0 0 j)) j := by
  unfold out0_C_5
  rw [View.read_writes_junk_eq_canon]
  unfold kernelRun0_C
  dsimp only
  simp (disch := omega) only [hit2]
  pointwise [k0_pay5, acc_last, View.readAt_eq_ld, h1.read_unread, h4.read_unread, h5.read_unread]
  rfl

end Cert.StreamIdeal.Hand
end
-- ==== Proof.StreamValue.lean ====
/- The streamed perceptron of the sample: its four grid points add up to the whole row, and the reference computes the same. -/
module

public import proofs.«01_k».proof.Proof.StreamBody
public import proofs.«01_k».proof.Proof.Gen.StreamIdeal.Value
public import proofs.«01_k».proof.Proof.Gen.StreamRefIdeal.Run
public import proofs.«01_k».proof.Defs

@[expose] public section

set_option maxRecDepth 16384

noncomputable section

open Idealize.ShloMosaic Idealize.ShloMosaic.TcCoe Idealize.SL.Sem
open Idealize.ShloMosaic.Pipeline (Dat)

namespace Cert.StreamIdeal.Hand

open Cert.StreamIdeal Cert.StreamIdeal.Gen Cert.Reads

/-- The layer's function of the five arguments: row `R` of the result is token `R % 4` of sequence `R / 4`. -/
def fn (x : FVec Ideal S128x4x1024 .f32) (wu : FVec Ideal S2x1024x4096 .f32) (wd : FVec Ideal S2x4096x1024 .f32)
    (g b : FVec Ideal S2x1024 .f32) : FVec Ideal S512x1024 .f32 := fun i =>
  mlpRow (fun k => x (ix3 ⟨(i 0).val / 4, by have : (i 0).val < 512 := (i 0).isLt; omega⟩ ⟨(i 0).val % 4, by omega⟩ k))
    (fun k f => wu (ix3 1 k f)) (fun f j => wd (ix3 1 f j)) (fun j => g (ix2 1 j)) (fun j => b (ix2 1 j)) (i 1)

/-- A sum over the hidden units is the sum of its four quarters. -/
theorem quarters (g : Fin 4096 → EReal) :
    ∑ f, g f = ∑ q : Fin 4, ∑ f : Fin 1024, g ⟨f.val + 1024 * q.val, by omega⟩ := by
  rw [← Fintype.sum_prod_type']
  exact (Equiv.sum_comp (finProdFinEquiv (m := 4) (n := 1024)) (g : Fin (4 * 1024) → EReal)).symm

/-- The perceptron's sum, quarter by quarter. -/
theorem parts (x : Fin 1024 → EReal) (w : Fin 1024 → Fin 4096 → EReal) (d : Fin 4096 → Fin 1024 → EReal) (j : Fin 1024) :
    ∑ f, hid x w f * d f j = ∑ q : Fin 4, part x (fun k f => w k ⟨f.val + 1024 * q.val, by omega⟩)
      (fun f j => d ⟨f.val + 1024 * q.val, by omega⟩ j) j :=
  quarters fun f => hid x w f * d f j

variable (m : (ℓ : Loc nD τ sig) → Buf (Elt Ideal) ℓ) (ρ : Dev nD → PrngReg) (c : Dev nD)

theorem V_rows : V m c main_v4 = shapeCast S512x1024 (m ((c : Thread nD τ).loc main_arg0)) shapeCasts_S128x4x1024_S512x1024 := by
  unfold V hostOps0
  after_results_simp
  rfl

theorem V_up : V m c main_v0 = truncf (F := Ideal) .bf16 (m ((c : Thread nD τ).loc main_arg1) : FVec Ideal S2x1024x4096 .f32) bitsLt_bf16_f32 := by
  unfold V hostOps0
  after_results_simp

theorem V_down : V m c main_v1 = truncf (F := Ideal) .bf16 (m ((c : Thread nD τ).loc main_arg2) : FVec Ideal S2x4096x1024 .f32) bitsLt_bf16_f32 := by
  unfold V hostOps0
  after_results_simp

theorem V_scale : V m c main_v2 = shapeCast S2x1x1024 (m ((c : Thread nD τ).loc main_arg3)) shapeCasts_S2x1024_S2x1x1024 := by
  unfold V hostOps0
  after_results_simp
  rfl

theorem V_shift : V m c main_v3 = shapeCast S2x1x1024 (m ((c : Thread nD τ).loc main_arg4)) shapeCasts_S2x1024_S2x1x1024 := by
  unfold V hostOps0
  after_results_simp
  rfl

theorem geom : ∀ t : Fin grid0.N, win0_0.index t 0 = 0 ∧ win0_0.index t 1 = 0
    ∧ win0_1.index t 0 = 1 ∧ win0_1.index t 1 = 0 ∧ win0_1.index t 2 = t.val
    ∧ win0_2.index t 0 = 1 ∧ win0_2.index t 1 = t.val ∧ win0_2.index t 2 = 0
    ∧ win0_3.index t 0 = 1 ∧ win0_3.index t 1 = 0 ∧ win0_3.index t 2 = 0
    ∧ win0_4.index t 0 = 1 ∧ win0_4.index t 1 = 0 ∧ win0_4.index t 2 = 0
    ∧ win0_5.index t 0 = 0 ∧ win0_5.index t 1 = 0 := by decide +kernel

theorem flat_apply (x : FVec Ideal S128x4x1024 .f32) (R : Fin 512) (k : Fin 1024) :
    (shapeCast S512x1024 x shapeCasts_S128x4x1024_S512x1024 : FVec Ideal S512x1024 .f32) (ix2 R k)
      = x (ix3 ⟨R.val / 4, by omega⟩ ⟨R.val % 4, by omega⟩ k) := by
  pointwise

/-- A token's row of the argument. -/
abbrev row (r : Fin 512) (k : Fin 1024) : EReal :=
  (m ((c : Thread nD τ).loc main_arg0) : FVec Ideal S128x4x1024 .f32) (ix3 ⟨r.val / 4, by omega⟩ ⟨r.val % 4, by omega⟩ k)

theorem iblk_rows (t : Fin cfg0.N) (r : Fin 512) (k : Fin 1024) :
    (iblk m c 0 t : Vec Ideal S512x1024 .f32) (ix2 r k) = row m c r k := by
  obtain ⟨h0, h1, -⟩ := geom t
  unfold iblk
  rw [View.read_apply]
  refine Eq.trans ?_ ((congrFun (V_rows m c) (ix2 r k)).trans (flat_apply _ _ _))
  show V m c main_v4 _ = V m c main_v4 _
  congr 1
  funext a
  apply Fin.ext
  match a with
  | ⟨0, _⟩ => show win0_0.index t 0 * 512 + 1 * r.val = r.val; rw [h0]; omega
  | ⟨1, _⟩ => show win0_0.index t 1 * 1024 + 1 * k.val = k.val; rw [h1]; omega

theorem iblk_up (t : Fin cfg0.N) (q : Fin 4) (hq : q.val = t.val) (k f : Fin 1024) :
    (iblk m c 1 t : Vec Ideal S1x1024x1024 .bf16) (ix3 0 k f)
      = (m ((c : Thread nD τ).loc main_arg1) : FVec Ideal S2x1024x4096 .f32) (ix3 1 k ⟨f.val + 1024 * q.val, by omega⟩) := by
  obtain ⟨-, -, h0, h1, h2, -⟩ := geom t
  unfold iblk
  rw [View.read_apply]
  refine Eq.trans ?_ ((congrFun (V_up m c) (ix3 1 k ⟨f.val + 1024 * q.val, by omega⟩)).trans (by pointwise))
  show V m c main_v0 _ = V m c main_v0 _
  congr 1
  funext a
  apply Fin.ext
  match a with
  | ⟨0, _⟩ => show win0_1.index t 0 * 1 + 1 * 0 = 1; rw [h0]
  | ⟨1, _⟩ => show win0_1.index t 1 * 1024 + 1 * k.val = k.val; rw [h1]; omega
  | ⟨2, _⟩ => show win0_1.index t 2 * 1024 + 1 * f.val = f.val + 1024 * q.val; rw [h2]; omega

theorem iblk_down (t : Fin cfg0.N) (q : Fin 4) (hq : q.val = t.val) (f j : Fin 1024) :
    (iblk m c 2 t : Vec Ideal S1x1024x1024 .bf16) (ix3 0 f j)
      = (m ((c : Thread nD τ).loc main_arg2) : FVec Ideal S2x4096x1024 .f32) (ix3 1 ⟨f.val + 1024 * q.val, by omega⟩ j) := by
  obtain ⟨-, -, -, -, -, h0, h1, h2, -⟩ := geom t
  unfold iblk
  rw [View.read_apply]
  refine Eq.trans ?_ ((congrFun (V_down m c) (ix3 1 ⟨f.val + 1024 * q.val, by omega⟩ j)).trans (by pointwise))
  show V m c main_v1 _ = V m c main_v1 _
  congr 1
  funext a
  apply Fin.ext
  match a with
  | ⟨0, _⟩ => show win0_2.index t 0 * 1 + 1 * 0 = 1; rw [h0]
  | ⟨1, _⟩ => show win0_2.index t 1 * 1024 + 1 * f.val = f.val + 1024 * q.val; rw [h1]; omega
  | ⟨2, _⟩ => show win0_2.index t 2 * 1024 + 1 * j.val = j.val; rw [h2]; omega

theorem iblk_scale (t : Fin cfg0.N) (j : Fin 1024) :
    (iblk m c 3 t : Vec Ideal S1x1x1024 .f32) (ix3 0 0 j) = (m ((c : Thread nD τ).loc main_arg3) : FVec Ideal S2x1024 .f32) (ix2 1 j) := by
  obtain ⟨-, -, -, -, -, -, -, -, h0, h1, h2, -⟩ := geom t
  unfold iblk
  rw [View.read_apply]
  refine Eq.trans ?_ ((congrFun (V_scale m c) (ix3 1 0 j)).trans (by pointwise))
  show V m c main_v2 _ = V m c main_v2 _
  congr 1
  funext a
  apply Fin.ext
  match a with
  | ⟨0, _⟩ => show win0_3.index t 0 * 1 + 1 * 0 = 1; rw [h0]
  | ⟨1, _⟩ => show win0_3.index t 1 * 1 + 1 * 0 = 0; rw [h1]
  | ⟨2, _⟩ => show win0_3.index t 2 * 1024 + 1 * j.val = j.val; rw [h2]; omega

theorem iblk_shift (t : Fin cfg0.N) (j : Fin 1024) :
    (iblk m c 4 t : Vec Ideal S1x1x1024 .f32) (ix3 0 0 j) = (m ((c : Thread nD τ).loc main_arg4) : FVec Ideal S2x1024 .f32) (ix2 1 j) := by
  obtain ⟨-, -, -, -, -, -, -, -, -, -, -, h0, h1, h2, -⟩ := geom t
  unfold iblk
  rw [View.read_apply]
  refine Eq.trans ?_ ((congrFun (V_shift m c) (ix3 1 0 j)).trans (by pointwise))
  show V m c main_v3 _ = V m c main_v3 _
  congr 1
  funext a
  apply Fin.ext
  match a with
  | ⟨0, _⟩ => show win0_4.index t 0 * 1 + 1 * 0 = 1; rw [h0]
  | ⟨1, _⟩ => show win0_4.index t 1 * 1 + 1 * 0 = 0; rw [h1]
  | ⟨2, _⟩ => show win0_4.index t 2 * 1024 + 1 * j.val = j.val; rw [h2]; omega

/-- What grid point `q` adds to entry `j` of row `r`. -/
abbrev piece (q : Fin 4) (r : Fin 512) (j : Fin 1024) : EReal :=
  part (row m c r) (fun k f => (m ((c : Thread nD τ).loc main_arg1) : FVec Ideal S2x1024x4096 .f32) (ix3 1 k ⟨f.val + 1024 * q.val, by omega⟩))
    (fun f j => (m ((c : Thread nD τ).loc main_arg2) : FVec Ideal S2x4096x1024 .f32) (ix3 1 ⟨f.val + 1024 * q.val, by omega⟩ j)) j

/-- The four parts make up the perceptron's sum. -/
theorem whole (r : Fin 512) (j : Fin 1024) :
    piece m c 0 r j + piece m c 1 r j + piece m c 2 r j + piece m c 3 r j
      = ∑ f, hid (row m c r) (fun k f => (m ((c : Thread nD τ).loc main_arg1) : FVec Ideal S2x1024x4096 .f32) (ix3 1 k f)) f
          * (m ((c : Thread nD τ).loc main_arg2) : FVec Ideal S2x4096x1024 .f32) (ix3 1 f j) := by
  refine ((parts (row m c r) _ (fun f j => (m ((c : Thread nD τ).loc main_arg2) : FVec Ideal S2x4096x1024 .f32) (ix3 1 f j)) j).trans ?_).symm
  exact Fin.sum_univ_four _

/-- The state after the first point. -/
theorem first (t : Fin cfg0.N) (h : t.val = 0) (r : Fin 512) (j : Fin 1024) :
    (outsAt0 m c t.val t.isLt).2.1 (ix2 r j) = row m c r j ∧ (outsAt0 m c t.val t.isLt).2.2 (ix2 r j) = piece m c 0 r j := by
  rw [outsAt0_A m c t (by omega) (by omega) (by omega) (by omega)]
  dsimp only
  constructor
  · exact (rows_first ..).trans (iblk_rows ..)
  · refine (acc_first ..).trans ?_
    simp only [iblk_rows, iblk_up m c t 0 h.symm, iblk_down m c t 0 h.symm]

/-- The two points after it keep the rows and add their parts. -/
theorem next (t : Fin cfg0.N) (q : Fin 4) (hq : q.val = t.val) (h0 : 1 ≤ t.val) (h3 : t.val ≤ 2) (r : Fin 512) (j : Fin 1024)
    (hr : ∀ k, (outsAt0 m c (t.val - 1) (by omega)).2.1 (ix2 r k) = row m c r k) :
    (outsAt0 m c t.val t.isLt).2.1 (ix2 r j) = row m c r j
      ∧ (outsAt0 m c t.val t.isLt).2.2 (ix2 r j) = (outsAt0 m c (t.val - 1) (by omega)).2.2 (ix2 r j) + piece m c q r j := by
  rw [outsAt0_B m c t (by omega) (by omega) (by omega) (by omega)]
  dsimp only
  constructor
  · exact hr j
  · refine (acc_mid ..).trans ?_
    simp only [hr, iblk_up m c t q hq, iblk_down m c t q hq]

/-- The rows and the sum the last point finds. -/
theorem carried (t : Fin cfg0.N) (h : t.val = 2) (r : Fin 512) (j : Fin 1024) :
    (outsAt0 m c t.val t.isLt).2.1 (ix2 r j) = row m c r j
      ∧ (outsAt0 m c t.val t.isLt).2.2 (ix2 r j) = piece m c 0 r j + piece m c 1 r j + piece m c 2 r j := by
  have l1 : t.val - 1 < cfg0.N := by omega
  have l0 : t.val - 1 - 1 < cfg0.N := by omega
  have e0 := fun k => first m c ⟨t.val - 1 - 1, l0⟩ (by dsimp only; omega) r k
  have e1 := fun k => next m c ⟨t.val - 1, l1⟩ 1 (by simp; omega) (by dsimp only; omega) (by dsimp only; omega) r k fun k => (e0 k).1
  have e2 := next m c t 2 (by simp; omega) (by omega) (by omega) r j fun k => (e1 k).1
  exact ⟨e2.1, e2.2.trans (congrArg (· + piece m c 2 r j) ((e1 j).2.trans (congrArg (· + piece m c 1 r j) (e0 j).2)))⟩

/-- What the result array is shown to hold. -/
abbrev val : Buf (Elt Ideal) ((c : Thread nD τ).loc main_v5) :=
  fn (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (t : Fin cfg0.N) (hf : (cfg0.win 5).flush t = true) :
    (dats m 0 c).flushed 5 t = ((cfg0.win 5).blk t).view.read (Elt Ideal) (val m c) := by
  have hN : t.val < 4 := lt_of_lt_of_eq t.isLt N_0
  have h3 : t.val % 4 = 3 := (flush0_5 t).mp hf
  have l2 : t.val - 1 < cfg0.N := by omega
  obtain ⟨-, -, -, -, -, -, -, -, -, -, -, -, -, -, h0, h1⟩ := geom t
  rw [Cert.StreamIdeal.Value.flushed5_C m c t (by omega) (by omega) (by omega) h3]
  funext y
  obtain ⟨r, j, rfl⟩ : ∃ (r : Fin 512) (j : Fin 1024), y = ix2 r j := ⟨y 0, y 1, eq_ix2 y⟩
  refine (out_last c _ _ _ _ _ _ _ _ _ _ _ _ _ _ _ _ _ _ _ _ _ _ _ _ r j _ _ _ _).trans ?_
  rw [View.read_apply]
  have he : ((cfg0.win 5).blk t).view.emb (ix2 r j) = (ix2 r j : S512x1024.Idx) := by
    funext a
    apply Fin.ext
    match a with
    | ⟨0, _⟩ => show win0_5.index t 0 * 512 + 1 * r.val = r.val; rw [h0]; omega
    | ⟨1, _⟩ => show win0_5.index t 1 * 1024 + 1 * j.val = j.val; rw [h1]; omega
  show _ = val m c (((cfg0.win 5).blk t).view.emb (ix2 r j))
  rw [he]
  have s := fun j => carried m c ⟨t.val - 1, l2⟩ (by dsimp only; omega) r j
  dsimp only at s
  have hq : (3 : Fin 4).val = t.val := by simp; omega
  simp only [(s _).1, (s _).2, iblk_rows, iblk_scale, iblk_shift, iblk_up m c t 3 hq, iblk_down m c t 3 hq]
  exact congrArg (fun s => lnorm (resid (row m c r) s) (fun j => (m ((c : Thread nD τ).loc main_arg3) : FVec Ideal S2x1024 .f32) (ix2 1 j))
    (fun j => (m ((c : Thread nD τ).loc main_arg4) : FVec Ideal S2x1024 .f32) (ix2 1 j)) j) (funext (whole m c r))

theorem cover (i : S512x1024.Idx) : ∃ t : Fin cfg0.N, (cfg0.win 5).flush t = true ∧ i ∈ ((cfg0.win 5).blk t).view.set := by
  have hi : (i 0).val < 512 := (i 0).isLt
  have hj : (i 1).val < 1024 := (i 1).isLt
  have ht : 3 < grid0.N := by rw [N_0]; omega
  obtain ⟨-, -, -, -, -, -, -, -, -, -, -, -, -, -, h0, h1⟩ := geom ⟨3, ht⟩
  refine ⟨⟨3, ht⟩, (flush0_5 _).mpr rfl, ?_⟩
  show i ∈ ((View.whole main_v5).slice (win0_5.rect ⟨3, ht⟩)).set
  rw [View.set_slice_whole, Rect.mem_set_unit]
  intro a
  match a with
  | ⟨0, _⟩ =>
    show win0_5.index ⟨3, ht⟩ 0 * 512 ≤ (i 0).val ∧ (i 0).val < win0_5.index ⟨3, ht⟩ 0 * 512 + 512
    rw [h0]; omega
  | ⟨1, _⟩ =>
    show win0_5.index ⟨3, ht⟩ 1 * 1024 ≤ (i 1).val ∧ (i 1).val < win0_5.index ⟨3, ht⟩ 1 * 1024 + 1024
    rw [h1]; omega

theorem final : (dats m 0 c).arrAt 5 cfg0.N = val m c :=
  (dats m 0 c).arrAt_eq_of_cover 5 (val m c) (flushed_eq m c) cover

end Cert.StreamIdeal.Hand

namespace Cert.StreamRefIdeal.Hand

open Cert.StreamRefIdeal Cert.StreamRefIdeal.Gen Cert.Reads

variable (m : (ℓ : Loc nD τ sig) → Buf (Elt Ideal) ℓ) (c : Dev nD)

/-- The reference computes the same function of its arguments. -/
theorem res_eq : Cert.StreamRefIdeal.Value.res_main_v39 m c
    = Cert.StreamIdeal.Hand.fn (m ((c : Thread nD τ).loc main_arg0)) (m ((c : Thread nD τ).loc main_arg1))
        (m ((c : Thread nD τ).loc main_arg2)) (m ((c : Thread nD τ).loc main_arg3)) (m ((c : Thread nD τ).loc main_arg4)) := by
  funext y
  obtain ⟨r, j, rfl⟩ : ∃ (r : Fin 512) (j : Fin 1024), y = ix2 r j := ⟨y 0, y 1, eq_ix2 y⟩
  unfold Cert.StreamRefIdeal.Value.res_main_v39 Cert.StreamIdeal.Hand.fn
  pointwise [mlpRow, lnorm, mean, resid, hid]

end Cert.StreamRefIdeal.Hand

namespace Cert.StreamValue

theorem algebraic : Cert.algebraic_StreamIdeal_StreamRefIdeal := fun m ρ m' ρ' _ hag =>
  ⟨fun c => Cert.StreamIdeal.Hand.val m c,
    (θ_run _ _ _).mono (fun _ h c => ⟨(h c).1.trans (Cert.StreamIdeal.Hand.final m c), (h c).2⟩)
      (Cert.StreamIdeal.Value.run_blocks m ρ),
    (θ_run _ _ _).mono (fun _ h c => ⟨(h c).1.trans (by
        rw [Cert.StreamRefIdeal.Hand.res_eq, (hag c).1, (hag c).2.1, (hag c).2.2.1, (hag c).2.2.2.1, (hag c).2.2.2.2]), (h c).2⟩)
      (Cert.StreamRefIdeal.Value.run m' ρ')⟩

end Cert.StreamValue
end
-- ==== Proof.TailRun.lean ====
/- The sample's convolution call: one grid point's run in each of its three cases: the first, which also fills the scratch of
   the input rows, the next ones, which store a product each, and the last, which computes the layer. -/
module

public import proofs.«01_k».proof.Proof.Gen.TailIdeal.Frame
public import proofs.«01_k».proof.Proof.Gen.TailIdeal.Skeleton
public import Idealize.ShloMosaic.Lib.VecWindow
public import proofs.«01_k».proof.Proof.Reads

@[expose] public section

set_option maxRecDepth 16384

noncomputable section

namespace Cert.TailIdeal.Hand

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What the stores leave -/

/-- The three products with slice `k` replaced by `w`. -/
def putAt (k : ℕ) (w : Vec F S1x512x1024 .f32) (e : Vec F S3x512x1024 .f32) : Vec F S3x512x1024 .f32 := fun y =>
  if (y 0).val = k then w (ix3 0 (y 1) (y 2)) else e y

/-- Slice `k` of the three products. -/
def sliceOf (k : Fin 3) (p : Vec F S3x512x1024 .f32) : Vec F S1x512x1024 .f32 := fun y => p (ix3 k (y 1) (y 2))

/-- A row of the convolution's weight. -/
def rowOf (k : Fin 3) (w : Vec F S3x1024 .f32) : Vec F S1x1024 .f32 := fun y => w (ix2 k (y 1))

/-- What the last point stores as the layer's result. -/
def outY (x0 x1 x2 : Vec F S512x1024 .f32) (x4 : Vec F S3x1024 .f32) (x5 : Vec F S1024x1024 .bf16) (x6 x7 : Vec F S1x1024 .f32)
    (p : Vec F S3x512x1024 .f32) : Vec F S512x1024 .f32 :=
  k0_pay3 (k0_pay9 x6) (k0_pay10 x7)
    (k0_pay11 (k0_pay4 x0) (k0_pay5 (sliceOf 1 p) (sliceOf 2 p)) (k0_pay7 (sliceOf 1 p) (sliceOf 2 p) x1)
      (k0_pay8 (sliceOf 1 p) (sliceOf 2 p) x2) (rowOf 0 x4) (rowOf 1 x4) (rowOf 2 x4) (sliceOf 0 p) x5)
    (k0_pay12 (k0_pay4 x0) (k0_pay5 (sliceOf 1 p) (sliceOf 2 p)) (k0_pay7 (sliceOf 1 p) (sliceOf 2 p) x1)
      (k0_pay8 (sliceOf 1 p) (sliceOf 2 p) x2) (rowOf 0 x4) (rowOf 1 x4) (rowOf 2 x4) (sliceOf 0 p) x5)
    (k0_pay13 (F := F))

/-- What it stores as the gated inputs. -/
def outU (p : Vec F S3x512x1024 .f32) : Vec F S512x1024 .f32 := k0_pay5 (sliceOf 1 p) (sliceOf 2 p)

/-! ## The branch conditions -/

abbrev first (i : grid0.Coords) : Prop := (Scalar.cmpi .ne (Scalar.extui (Scalar.cmpi .eq (BitVec.ofNat 32 (i 0).val) 0#32)) 0#32) = 1#1

theorem first_iff : ∀ t : Fin cfg0.N, first (grid0.coords t) ↔ t.val = 0 :=
  (by decide +kernel : ∀ t : Fin grid0.N, first (grid0.coords t) ↔ t.val = 0)

theorem cond2_iff : ∀ t : Fin cfg0.N, k0_cond2 (grid0.coords t) = 1#1 ↔ t.val < 3 :=
  (by decide +kernel : ∀ t : Fin grid0.N, k0_cond2 (grid0.coords t) = 1#1 ↔ t.val < 3)

theorem cond3_iff : ∀ t : Fin cfg0.N, k0_cond3 (grid0.coords t) = 1#1 ↔ t.val = 3 :=
  (by decide +kernel : ∀ t : Fin grid0.N, k0_cond3 (grid0.coords t) = 1#1 ↔ t.val = 3)

theorem coord_eq : ∀ t : Fin cfg0.N, (grid0.coords t 0).val = t.val :=
  (by decide +kernel : ∀ t : Fin grid0.N, (grid0.coords t 0).val = t.val)

theorem idle8 : ∀ t : Fin cfg0.N, t.val ≠ 3 → cfg0.idle 8 (grid0.coords t) = true :=
  (by decide +kernel : ∀ t : Fin grid0.N, t.val ≠ 3 → cfg0.idle 8 (grid0.coords t) = true)

theorem idle9 : ∀ t : Fin cfg0.N, t.val ≠ 3 → cfg0.idle 9 (grid0.coords t) = true :=
  (by decide +kernel : ∀ t : Fin grid0.N, t.val ≠ 3 → cfg0.idle 9 (grid0.coords t) = true)

theorem live8 : ∀ t : Fin cfg0.N, t.val = 3 → cfg0.idle 8 (grid0.coords t) = false :=
  (by decide +kernel : ∀ t : Fin grid0.N, t.val = 3 → cfg0.idle 8 (grid0.coords t) = false)

theorem live9 : ∀ t : Fin cfg0.N, t.val = 3 → cfg0.idle 9 (grid0.coords t) = false :=
  (by decide +kernel : ∀ t : Fin grid0.N, t.val = 3 → cfg0.idle 9 (grid0.coords t) = false)

theorem keep8 (t : Fin cfg0.N) (h : t.val ≠ 3) : (cfg0.win 8).flush t = false := by
  have hN : t.val < 4 := lt_of_lt_of_eq t.isLt N_0
  rw [Bool.eq_false_iff]; intro hf; have := (flush0_8 t).mp hf; omega

theorem keep9 (t : Fin cfg0.N) (h : t.val ≠ 3) : (cfg0.win 9).flush t = false := by
  have hN : t.val < 4 := lt_of_lt_of_eq t.isLt N_0
  rw [Bool.eq_false_iff]; intro hf; have := (flush0_9 t).mp hf; omega

/-! ## The runs -/

section Runs

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1024x1024 .bf16) (h4 : a4.IsWhole) (a5 : Memref sig .tc .vmem S3x1024 .f32) (h5 : a5.IsWhole)
  (a6 : Memref sig .tc .vmem S1024x1024 .bf16) (h6 : a6.IsWhole) (a7 : Memref sig .tc .vmem S1x1024 .f32) (h7 : a7.IsWhole)
  (a8 : Memref sig .tc .vmem S1x1024 .f32) (h8 : a8.IsWhole) (a9 : Memref sig .tc .vmem S512x1024 .f32) (h9 : a9.IsWhole)
  (a10 : Memref sig .tc .vmem S512x1024 .f32) (h10 : a10.IsWhole) (a11 : Memref sig .tc .vmem S512x1024 .bf16) (h11 : a11.IsWhole)
  (a12 : Memref sig .tc .vmem S3x512x1024 .f32) (h12 : a12.IsWhole)
  (x0 x1 x2 : Vec F S512x1024 .f32) (x3 : Vec F S1024x1024 .bf16) (x4 : Vec F S3x1024 .f32) (x5 : Vec F S1024x1024 .bf16)
  (x6 x7 : Vec F S1x1024 .f32) (xs : Vec F S512x1024 .bf16) (p : Vec F S3x512x1024 .f32)

/-- A store of one slice puts that slice. -/
theorem put_slice (hc : k0_cond2 i = 1#1) (w : Vec F S1x512x1024 .f32) :
    a12.view.read (Elt F) (a12.view.writes (Elt F) (h12.unread p)
      [(⟨Rect.unit (s := S3x512x1024) (k0_off1 i) S1x512x1024.size (k0_off1_inb i hc), w⟩ : View.Piece (Elt F) S3x512x1024 .f32)])
      = putAt (i 0).val w p := by
  funext y
  obtain ⟨k, r, j, rfl⟩ : ∃ (k : Fin 3) (r : Fin 512) (j : Fin 1024), y = ix3 k r j := ⟨y 0, y 1, y 2, eq_ix3 y⟩
  show _ = if k.val = (i 0).val then w (ix3 0 r j) else p (ix3 k r j)
  by_cases h : k.val = (i 0).val
  · rw [if_pos h]
    refine View.read_writes_cons_unit_of_mem a12.view _ _ w [] _ (ix3 0 r j) (k0_off1_eq i) fun a => ?_
    match a with
    | ⟨0, _⟩ => show k.val = (i 0).val + 0; omega
    | ⟨1, _⟩ => show r.val = 0 + r.val; omega
    | ⟨2, _⟩ => show j.val = 0 + j.val; omega
  · rw [if_neg h]
    refine (View.read_writes_cons_unit_of_not_mem a12.view _ _ w [] _ (k0_off1_eq i) 0 ?_).trans ?_
    · show k.val < (i 0).val ∨ (i 0).val + 1 ≤ k.val; omega
    · rw [View.writes_nil, h12.read_unread]

set_option maxHeartbeats 1000000 in
/-- The first point copies the rows and stores the first product. -/
theorem run_first (q1 : first i) (q2 : k0_cond2 i = 1#1) (q3 : ¬k0_cond3 i = 1#1) (E : Set ℕ) (K : PUnit → sProp 𝕄) :
    iprop(owns (c : Thread nD τ) a1 fullShare x0 ∗ owns (c : Thread nD τ) a4 fullShare x3
        ∗ (∃ d, owns (c : Thread nD τ) a11 fullShare d) ∗ owns (c : Thread nD τ) a12 fullShare p
        ∗ (iprop(owns (c : Thread nD τ) a1 fullShare x0 ∗ owns (c : Thread nD τ) a4 fullShare x3
            ∗ owns (c : Thread nD τ) a11 fullShare (k0_pay1 x0)
            ∗ owns (c : Thread nD τ) a12 fullShare (putAt (i 0).val (k0_pay2 (k0_pay1 x0) x3) p)) -∗ K ⟨⟩))
      ⊢ wp frame (wpE (defs₀ (F := F)) Variants.none c none) E (cc0_conv_sample i a1 h1 a2 h2 a3 h3 a4 h4 a5 h5 a6 h6 a7 h7 a8 h8 a9 h9 a10 h10 a11 h11 a12 h12) K := by
  simp only [cc0_conv_sample_eq_skeleton]; unfold cc0_conv_sample_skel
  unfold owns
  iintro ⟨⟨%f1, %hf1, H1⟩, ⟨%f4, %hf4, H4⟩, ⟨%d11, %f11, -, H11⟩, ⟨%f12, %hf12, H12⟩, Hk⟩
  obtain rfl := h1.eq_unread hf1; obtain rfl := h4.eq_unread hf4; obtain rfl := h12.eq_unread hf12
  sl_exec (disch := first | sl_exact q1 | sl_exact q2 | sl_exact q3)
  sl_step
  iapply Hk
  isplitl [H1]
  · iexists _; isplitr; · ipureintro; exact h1.read_unread _
    iexact H1
  isplitl [H4]
  · iexists _; isplitr; · ipureintro; exact h4.read_unread _
    iexact H4
  isplitl [H11]
  · iexists _; isplitr
    swap; · iexact H11
    ipureintro
    unfold run_first.sl.H11_1
    rw [View.read_writes_full, View.readAt_full, h1.read_unread]
  iexists _; isplitr
  swap; · iexact H12
  ipureintro
  refine (put_slice i a12 h12 p q2 _).trans ?_
  unfold run_first.sl.v9 run_first.sl.H11_1
  rw [View.readCov_full, View.readAt_full, View.readAt_full, h1.read_unread, h4.read_unread]

set_option maxHeartbeats 1000000 in
/-- A later point stores the next product. -/
theorem run_next (q1 : ¬first i) (q2 : k0_cond2 i = 1#1) (q3 : ¬k0_cond3 i = 1#1) (E : Set ℕ) (K : PUnit → sProp 𝕄) :
    iprop(owns (c : Thread nD τ) a4 fullShare x3 ∗ owns (c : Thread nD τ) a11 fullShare xs ∗ owns (c : Thread nD τ) a12 fullShare p
        ∗ (iprop(owns (c : Thread nD τ) a4 fullShare x3 ∗ owns (c : Thread nD τ) a11 fullShare xs
            ∗ owns (c : Thread nD τ) a12 fullShare (putAt (i 0).val (k0_pay2 xs x3) p)) -∗ K ⟨⟩))
      ⊢ wp frame (wpE (defs₀ (F := F)) Variants.none c none) E (cc0_conv_sample i a1 h1 a2 h2 a3 h3 a4 h4 a5 h5 a6 h6 a7 h7 a8 h8 a9 h9 a10 h10 a11 h11 a12 h12) K := by
  simp only [cc0_conv_sample_eq_skeleton]; unfold cc0_conv_sample_skel
  unfold owns
  iintro ⟨⟨%f4, %hf4, H4⟩, ⟨%f11, %hf11, H11⟩, ⟨%f12, %hf12, H12⟩, Hk⟩
  obtain rfl := h4.eq_unread hf4; obtain rfl := h11.eq_unread hf11; obtain rfl := h12.eq_unread hf12
  sl_exec (disch := first | sl_exact q1 | sl_exact q2 | sl_exact q3)
  sl_step
  iapply Hk
  isplitl [H4]
  · iexists _; isplitr; · ipureintro; exact h4.read_unread _
    iexact H4
  isplitl [H11]
  · iexists _; isplitr; · ipureintro; exact h11.read_unread _
    iexact H11
  iexists _; isplitr
  swap; · iexact H12
  ipureintro
  refine (put_slice i a12 h12 p q2 _).trans ?_
  rw [View.readAt_full, View.readAt_full, h11.read_unread, h4.read_unread]

/-- A load of slice `k`. -/
theorem load_slice (k : Fin 3) {o : Fin 3 → ℕ} (ho : o = ![k.val, 0, 0]) (inb : ∀ a, o a + S1x512x1024.size a ≤ S3x512x1024.size a) :
    a12.view.readAt (Elt F) (Rect.unit (s := S3x512x1024) o S1x512x1024.size inb).toLoadRect (h12.unread p) = sliceOf k p := by
  subst ho
  funext y
  obtain ⟨z, r, j, rfl⟩ : ∃ (z : Fin 1) (r : Fin 512) (j : Fin 1024), y = ix3 z r j := ⟨y 0, y 1, y 2, eq_ix3 y⟩
  obtain rfl : z = 0 := Subsingleton.elim _ _
  refine (congrFun (View.readAt_eq_ld a12.view (h12.unread p) _) _).trans ?_
  rw [h12.read_unread]
  refine View.ld_unit_apply_of p _ _ inb _ (ix3 k r j) fun a => ?_
  match a with
  | ⟨0, _⟩ => show k.val = k.val + 0; omega
  | ⟨1, _⟩ => show r.val = 0 + r.val; omega
  | ⟨2, _⟩ => show j.val = 0 + j.val; omega

/-- A load of row `k` of the convolution's weight. -/
theorem load_row (k : Fin 3) {o : Fin 2 → ℕ} (ho : o = ![k.val, 0]) (inb : ∀ a, o a + S1x1024.size a ≤ S3x1024.size a) :
    a5.view.readAt (Elt F) (Rect.unit (s := S3x1024) o S1x1024.size inb).toLoadRect (h5.unread x4) = rowOf k x4 := by
  subst ho
  funext y
  obtain ⟨z, j, rfl⟩ : ∃ (z : Fin 1) (j : Fin 1024), y = ix2 z j := ⟨y 0, y 1, eq_ix2 y⟩
  obtain rfl : z = 0 := Subsingleton.elim _ _
  refine (congrFun (View.readAt_eq_ld a5.view (h5.unread x4) _) _).trans ?_
  rw [h5.read_unread]
  refine View.ld_unit_apply_of x4 _ _ inb _ (ix2 k j) fun a => ?_
  match a with
  | ⟨0, _⟩ => show k.val = k.val + 0; omega
  | ⟨1, _⟩ => show j.val = 0 + j.val; omega

set_option maxHeartbeats 4000000 in
/-- The last point stores both results. -/
theorem run_last (q1 : ¬first i) (q2 : ¬k0_cond2 i = 1#1) (q3 : k0_cond3 i = 1#1) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a5 fullShare x4 ∗ owns (c : Thread nD τ) a6 fullShare x5 ∗ owns (c : Thread nD τ) a7 fullShare x6
        ∗ owns (c : Thread nD τ) a8 fullShare x7 ∗ (∃ d, owns (c : Thread nD τ) a9 fullShare d) ∗ (∃ d, owns (c : Thread nD τ) a10 fullShare d)
        ∗ owns (c : Thread nD τ) a12 fullShare p
        ∗ (iprop(owns (c : Thread nD τ) a1 fullShare x0 ∗ owns (c : Thread nD τ) a2 fullShare x1 ∗ owns (c : Thread nD τ) a3 fullShare x2
            ∗ owns (c : Thread nD τ) a5 fullShare x4 ∗ owns (c : Thread nD τ) a6 fullShare x5 ∗ owns (c : Thread nD τ) a7 fullShare x6
            ∗ owns (c : Thread nD τ) a8 fullShare x7 ∗ owns (c : Thread nD τ) a9 fullShare (outY x0 x1 x2 x4 x5 x6 x7 p)
            ∗ owns (c : Thread nD τ) a10 fullShare (outU p) ∗ owns (c : Thread nD τ) a12 fullShare p) -∗ K ⟨⟩))
      ⊢ wp frame (wpE (defs₀ (F := F)) Variants.none c none) E (cc0_conv_sample i a1 h1 a2 h2 a3 h3 a4 h4 a5 h5 a6 h6 a7 h7 a8 h8 a9 h9 a10 h10 a11 h11 a12 h12) K := by
  simp only [cc0_conv_sample_eq_skeleton]; unfold cc0_conv_sample_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f12, %hf12, H12⟩, Hk⟩
  obtain rfl := h1.eq_unread hf1; obtain rfl := h2.eq_unread hf2; obtain rfl := h3.eq_unread hf3; obtain rfl := h5.eq_unread hf5
  obtain rfl := h6.eq_unread hf6; obtain rfl := h7.eq_unread hf7; obtain rfl := h8.eq_unread hf8; obtain rfl := h12.eq_unread hf12
  sl_exec (disch := first | sl_exact q1 | sl_exact q2 | sl_exact q3)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr
    swap; · iexact H9
    ipureintro
    refine (View.read_writes_full _ _ _ _ _).trans ?_
    rw [View.readAt_full a1.view, View.readAt_full a2.view, View.readAt_full a3.view, View.readAt_full a6.view,
      View.readAt_full a7.view, View.readAt_full a8.view, hf1, hf2, hf3, hf6, hf7, hf8]
    simp only [load_slice a12 h12 p 0 (o := ![0, 0, 0]) rfl, load_slice a12 h12 p 1 (o := ![1, 0, 0]) rfl,
      load_slice a12 h12 p 2 (o := ![2, 0, 0]) rfl, load_row a5 h5 x4 0 (o := ![0, 0]) rfl,
      load_row a5 h5 x4 1 (o := ![1, 0]) rfl, load_row a5 h5 x4 2 (o := ![2, 0]) rfl]
    rfl
  isplitl [H10]
  · iexists _; isplitr
    swap; · iexact H10
    ipureintro
    refine (View.read_writes_full _ _ _ _ _).trans ?_
    simp only [load_slice a12 h12 p 1 (o := ![1, 0, 0]) rfl, load_slice a12 h12 p 2 (o := ![2, 0, 0]) rfl]
    rfl
  iexists _; isplitr; · ipureintro; exact h12.read_unread _
  iexact H12

end Runs

end Cert.TailIdeal.Hand
end
-- ==== Proof.TailFrame.lean ====
/- The convolution layer of the sample tokens, at a generic grid point: the body obligation from the runs, the launch, and the
   frame. Between points the first scratch holds the layer's input rows and the slices of the second filled so far hold their products. -/
module

public import proofs.«01_k».proof.Proof.TailRun

@[expose] public section

set_option maxRecDepth 16384

noncomputable section

namespace Cert.TailIdeal.Hand

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds -/

/-- The layer's input rows, rounded, as the first point stores them. -/
def rows (c : Dev nD) : Vec F S512x1024 .bf16 := k0_pay1 (iblk m c 0 t0_0)

/-- The product that point `n` stores. -/
def prodAt (c : Dev nD) (n : ℕ) (h : n < cfg0.N) : Vec F S1x512x1024 .f32 := k0_pay2 (rows m c) (iblk m c 3 ⟨n, h⟩)

theorem slice_lt (y : S3x512x1024.Idx) : (y 0).val < cfg0.N := by
  have h : (y 0).val < 3 := (y 0).isLt
  have hN : cfg0.N = 4 := N_0
  omega

/-- The three products. -/
def prods (c : Dev nD) : Vec F S3x512x1024 .f32 := fun y => prodAt m c (y 0).val (slice_lt y) (ix3 0 (y 1) (y 2))

/-- Before point `n`: nothing known at first, then the rows and the products of the points before. -/
def PhiS (c : Dev nD) : (n : ℕ) → n ≤ cfg0.N → sProp 𝕄
  | 0, _ => Pipeline.ΦA spec0 c
  | n + 1, _ => iprop(owns (c : Thread nD τ) (Memref.whole cc0_scratch0) fullShare (rows m c)
      ∗ (∃ e, ⌜∀ y : S3x512x1024.Idx, (y 0).val ≤ n → e y = prods m c y⌝ ∗ owns (c : Thread nD τ) (Memref.whole cc0_scratch1) fullShare e)
      ∗ (∃ r, prngReg c r))

theorem PhiS_pos (c : Dev nD) (n : ℕ) (h : n ≤ cfg0.N) (hz : n ≠ 0) :
    PhiS m c n h = iprop(owns (c : Thread nD τ) (Memref.whole cc0_scratch0) fullShare (rows m c)
      ∗ (∃ e, ⌜∀ y : S3x512x1024.Idx, (y 0).val ≤ n - 1 → e y = prods m c y⌝ ∗ owns (c : Thread nD τ) (Memref.whole cc0_scratch1) fullShare e)
      ∗ (∃ r, prngReg c r)) := by
  cases n with
  | zero => exact absurd rfl hz
  | succ n => rfl

theorem start_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

/-- Putting the product of point `n` extends what is known by that slice. -/
theorem put_known (c : Dev nD) (n : ℕ) (h : n < cfg0.N) (e : Vec F S3x512x1024 .f32)
    (he : ∀ y : S3x512x1024.Idx, (y 0).val < n → e y = prods m c y) (y : S3x512x1024.Idx) (hy : (y 0).val ≤ n) :
    putAt n (prodAt m c n h) e y = prods m c y := by
  unfold putAt prods
  by_cases hk : (y 0).val = n
  · subst hk; rw [if_pos rfl]
  · rw [if_neg hk]; exact he y (by omega)

/-! ## The proof data -/

/-- The layer's result and its gated inputs, from the windows' blocks. -/
def resY (c : Dev nD) (t : Fin cfg0.N) : Vec F S512x1024 .f32 :=
  outY (iblk m c 0 t) (iblk m c 1 t) (iblk m c 2 t) (iblk m c 4 t) (iblk m c 5 t) (iblk m c 6 t) (iblk m c 7 t) (prods m c)
def resU (c : Dev nD) : Vec F S512x1024 .f32 := outU (prods m c)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => resY m c t
    | ⟨9, _⟩ => resU m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

section After
variable (c : Dev nD) (t : Fin cfg0.N)
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = resY m c t := by dsimp only [dats]
theorem after0_9 : (dats m 0 c).after 9 t = resU m c := by dsimp only [dats]
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d
theorem before0_7 (d) : (dats m 0 c).before 7 t d = iblk m c 7 t :=
  before0_7_of m (dats m 0 c) (A_eq m c 7) (after0_7 m c) t d
end After

/-- A live window's buffer ends at what the body leaves. -/
theorem leaves_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  have hN : t.val < 4 := lt_of_lt_of_eq t.isLt N_0
  have hco : (grid0.coords t 0).val = t.val := coord_eq t
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_pos m c (t.val + 1) _ (Nat.succ_ne_zero _), PhiS_castSucc m c t]
  rw [leaves_live m c t 0 rfl, after0_0,
    leaves_live m c t 1 rfl, after0_1,
    leaves_live m c t 2 rfl, after0_2,
    leaves_live m c t 3 rfl, after0_3,
    leaves_live m c t 4 rfl, after0_4,
    leaves_live m c t 5 rfl, after0_5,
    leaves_live m c t 6 rfl, after0_6,
    leaves_live m c t 7 rfl, after0_7]
  by_cases h0 : t.val = 0
  · have q1 : first (grid0.coords t) := (first_iff t).mpr h0
    have q2 : k0_cond2 (grid0.coords t) = 1#1 := (cond2_iff t).mpr (by omega)
    have q3 : ¬k0_cond3 (grid0.coords t) = 1#1 := fun h => by have := (cond3_iff t).mp h; omega
    rw [Dat.leavesExact_idle (dats m 0 c) 8 t (idle8 t (by omega)) (keep8 t (by omega)),
      Dat.leavesExact_idle (dats m 0 c) 9 t (idle9 t (by omega)) (keep9 t (by omega))]
    have hz : PhiS m c t.val (Nat.le_of_lt t.isLt) = Pipeline.ΦA spec0 c := by
      obtain ⟨n, hn⟩ := t; dsimp only at h0; subst h0; rfl
    have ht : t = t0_0 := Fin.ext h0
    rw [hz, start_eq]
    iintro ⟨⟨⟨HS0, %e, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (run_first c (grid0.coords t) _ _ _ _ _ _ _ _ _ _ _ _ _ _ _ _ _ _ _ _ _ _ _ _ (iblk m c 0 t) (iblk m c 3 t) e q1 q2 q3 Set.univ _)
    isplitl [H0]; · iexact H0
    isplitl [H3]; · iexact H3
    isplitl [HS0]; · iexact HS0
    isplitl [HS1]; · iexact HS1
    iintro ⟨H0, H3, HS0, HS1⟩
    isplitl [HS0 HS1 Hg]
    · isplitl [HS0]
      · rw [ht]; iexact HS0
      isplitl [HS1]
      · iexists _; isplitr
        swap; · iexact HS1
        ipureintro
        intro y hy
        rw [hco]
        have hr : k0_pay2 (k0_pay1 (iblk m c 0 t)) (iblk m c 3 t) = prodAt m c t.val t.isLt := by
          unfold prodAt rows; rw [ht]
        rw [hr]
        exact put_known m c t.val t.isLt e (fun z hz => by omega) y (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h3 : t.val = 3
    · have q1 : ¬first (grid0.coords t) := fun h => h0 ((first_iff t).mp h)
      have q2 : ¬k0_cond2 (grid0.coords t) = 1#1 := fun h => by have := (cond2_iff t).mp h; omega
      have q3 : k0_cond3 (grid0.coords t) = 1#1 := (cond3_iff t).mpr h3
      rw [leaves_live m c t 8 (live8 t h3), leaves_live m c t 9 (live9 t h3), after0_8, after0_9]
      rw [PhiS_pos m c _ _ h0]
      iintro ⟨⟨HS0, ⟨%e, %he, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hall : e = prods m c := funext fun y => he y (by have h : (y 0).val < 3 := (y 0).isLt; omega)
      subst hall
      iapply (run_last c (grid0.coords t) _ _ _ _ _ _ _ _ _ _ _ _ _ _ _ _ _ _ _ _ _ _ _ _ (iblk m c 0 t) (iblk m c 1 t) (iblk m c 2 t) (iblk m c 4 t) (iblk m c 5 t) (iblk m c 6 t) (iblk m c 7 t) (prods m c) q1 q2 q3 Set.univ _)
      isplitl [H0]; · iexact H0
      isplitl [H1]; · iexact H1
      isplitl [H2]; · iexact H2
      isplitl [H4]; · iexact H4
      isplitl [H5]; · iexact H5
      isplitl [H6]; · iexact H6
      isplitl [H7]; · iexact H7
      isplitl [H8]; · iexists _; iexact H8
      isplitl [H9]; · iexists _; iexact H9
      isplitl [HS1]; · iexact HS1
      iintro ⟨H0, H1, H2, H4, H5, H6, H7, H8, H9, HS1⟩
      isplitl [HS0 HS1 Hg]
      · isplitl [HS0]; · iexact HS0
        isplitl [HS1]
        · iexists _; isplitr
          swap; · iexact HS1
          ipureintro; intro y _; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have q1 : ¬first (grid0.coords t) := fun h => h0 ((first_iff t).mp h)
      have q2 : k0_cond2 (grid0.coords t) = 1#1 := (cond2_iff t).mpr (by omega)
      have q3 : ¬k0_cond3 (grid0.coords t) = 1#1 := fun h => h3 ((cond3_iff t).mp h)
      rw [Dat.leavesExact_idle (dats m 0 c) 8 t (idle8 t h3) (keep8 t h3),
        Dat.leavesExact_idle (dats m 0 c) 9 t (idle9 t h3) (keep9 t h3)]
      rw [PhiS_pos m c _ _ h0]
      iintro ⟨⟨HS0, ⟨%e, %he, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (run_next c (grid0.coords t) _ _ _ _ _ _ _ _ _ _ _ _ _ _ _ _ _ _ _ _ _ _ _ _ (iblk m c 3 t) (rows m c) e q1 q2 q3 Set.univ _)
      isplitl [H3]; · iexact H3
      isplitl [HS0]; · iexact HS0
      isplitl [HS1]; · iexact HS1
      iintro ⟨H3, HS0, HS1⟩
      isplitl [HS0 HS1 Hg]
      · isplitl [HS0]; · iexact HS0
        isplitl [HS1]
        · iexists _; isplitr
          swap; · iexact HS1
          ipureintro
          intro y hy
          rw [hco]
          exact put_known m c t.val t.isLt e (fun z hz => he z (by omega)) y (by omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  have hN : cfg0.N = 4 := N_0
  rw [show (dats m 0 c).Φ (Fin.last cfg0.N) = PhiS m c cfg0.N le_rfl from rfl, PhiS_pos m c _ _ (by omega), start_eq]
  iintro ⟨HS0, ⟨%e, -, HS1⟩, Hg⟩
  isplitl [HS0 HS1]
  · isplitl [HS0]
    · iexists _; iexact HS0
    iexists _; iexact HS1
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.TailIdeal.Hand

end
-- ==== Proof.TailBits.lean ====
/- The sample's convolution call as printed and as read over the extended reals have the same text, so that the run over any
   float values, written for the second, gives the frame of the first. -/
module

public import proofs.«01_k».proof.Proof.TailFrame
public import proofs.«01_k».proof.Proof.Gen.Tail
public import proofs.«01_k».proof.Defs

@[expose] public section

set_option maxRecDepth 16384

noncomputable section

namespace Cert.Tail.Hand

open Idealize.ShloMosaic Idealize.SL.Sem

/-- The kernels' body tables are the same: the one label's program is, and there is no other label. -/
theorem bodies_eq : Cert.Tail.defs₀ (F := Bits) = Cert.TailIdeal.defs₀ (F := Bits) := by
  unfold Cert.Tail.defs₀ Cert.TailIdeal.defs₀
  refine congrArg Defs.onTc ?_
  funext i x
  match i, x with
  | ⟨0, _⟩, (t, s) => rfl
  | ⟨_ + 1, h⟩, _ => exact absurd h (Nat.not_lt.2 (Nat.le_add_left _ _))

/-- So are the tables with the region and its pipeline. -/
theorem table_eq : Cert.Tail.defs (F := Bits) = Cert.TailIdeal.defs (F := Bits) :=
  congrArg (Pipeline.defs (Cert.TailIdeal.pcfgs (F := Bits))) bodies_eq

/-- The programs are the same. -/
theorem main_eq : Cert.Tail.main (F := Bits) = Cert.TailIdeal.main (F := Bits) := rfl

/-- Every execution of the program as printed ends with the argument arrays unchanged and every counter at zero. -/
theorem frame : Cert.quiescent_Tail := fun m ρ _ => by
  rw [table_eq, main_eq]
  exact Cert.TailIdeal.Hand.frame (F := Bits) m ρ

end Cert.Tail.Hand

end
-- ==== Proof.TailFn.lean ====
/- The convolution layer of the sample tokens as a function of its arguments, sequence by sequence. -/
module

public import proofs.«01_k».proof.Proof.ConvSpec
public import proofs.«01_k».proof.Proof.Gen.TailRefIdeal.Run
public import proofs.«01_k».proof.Defs

@[expose] public section

set_option maxRecDepth 16384

noncomputable section

open Idealize.ShloMosaic Idealize.ShloMosaic.TcCoe

namespace Cert.Reads

abbrev XT := FVec Ideal ⟨3, ![128, 4, 1024]⟩ .f32
abbrev PT := FVec Ideal ⟨4, ![1, 128, 2, 1024]⟩ .f32
abbrev WT := FVec Ideal ⟨3, ![1, 1024, 3072]⟩ .f32

/-- A token's row times a column of the input weight. -/
def pjT (x : XT) (w : WT) (b : Fin 128) (s : Fin 4) (n : Fin 3072) : EReal := ∑ k : Fin 1024, x (ix3 b s k) * w (ix3 0 k n)

def bgT (x : XT) (w : WT) (b : Fin 128) (s : Fin 4) (j : Fin 1024) : EReal := pjT x w b s ⟨j.val, by omega⟩

def uT (x : XT) (w : WT) (b : Fin 128) (s : Fin 4) (j : Fin 1024) : EReal :=
  pjT x w b s ⟨1024 + j.val, by omega⟩ * pjT x w b s ⟨2048 + j.val, by omega⟩

/-- The gated inputs of a sequence, its state's two rows put first. -/
def useqT (x : XT) (w : WT) (p : PT) (b : Fin 128) (n : ℕ) (j : Fin 1024) : EReal :=
  if h : n < 2 then p (ix4 0 b ⟨n, h⟩ j) else if h : n - 2 < 4 then uT x w b ⟨n - 2, h⟩ j else 0

/-- Token `s` of sequence `b` of the layer's result. -/
def tailRow (x : XT) (p : PT) (w : WT) (wc : FVec Ideal ⟨3, ![1, 3, 1024]⟩ .f32) (wo : FVec Ideal ⟨3, ![1, 1024, 1024]⟩ .f32)
    (g bb : FVec Ideal ⟨2, ![2, 1024]⟩ .f32) (b : Fin 128) (s : Fin 4) (j : Fin 1024) : EReal :=
  lnorm (resid (fun k => x (ix3 b s k))
      fun k => ∑ i, gat (bgT x w b s) (useqT x w p b) (fun n k => wc (ix3 0 n k)) s.val i * wo (ix3 0 i k))
    (fun k => g (ix2 1 k)) (fun k => bb (ix2 1 k)) j

/-- The layer's first result. -/
def tailY (x : XT) (p : PT) (w : WT) (wc : FVec Ideal ⟨3, ![1, 3, 1024]⟩ .f32) (wo : FVec Ideal ⟨3, ![1, 1024, 1024]⟩ .f32)
    (g bb : FVec Ideal ⟨2, ![2, 1024]⟩ .f32) : FVec Ideal ⟨2, ![512, 1024]⟩ .f32 := fun i =>
  tailRow x p w wc wo g bb ⟨(i 0).val / 4, by have : (i 0).val < 512 := (i 0).isLt; omega⟩ ⟨(i 0).val % 4, by omega⟩ (i 1)

/-- The gated inputs, row by row. -/
def tailU (x : XT) (w : WT) : FVec Ideal ⟨2, ![512, 1024]⟩ .f32 := fun i =>
  uT x w ⟨(i 0).val / 4, by have : (i 0).val < 512 := (i 0).isLt; omega⟩ ⟨(i 0).val % 4, by omega⟩ (i 1)

end Cert.Reads

namespace Cert.TailRefIdeal.Hand

open Cert.TailRefIdeal Cert.TailRefIdeal.Gen Cert.Reads

variable (m : (ℓ : Loc nD τ sig) → Buf (Elt Ideal) ℓ) (c : Dev nD)

/-- The state and the gated inputs put together, as the reference prints it. -/
abbrev full (x : FVec Ideal S128x4x1024 .f32) (w : FVec Ideal S1x1024x3072 .f32) (p : FVec Ideal S1x128x2x1024 .f32) : FVec Ideal S128x6x1024 .f32 :=
  concatenate S128x6x1024 1 [⟨S128x2x1024, (shapeCast _ p shapeCasts_S1x128x2x1024_S128x2x1024)⟩, ⟨S128x4x1024, (mulf (extractStridedSlice S128x4x1024 ![0, 0, 1024] (Host.dotGeneral dot_S128x4x1024_S1024x3072_S128x4x3072_2_0_01_1_n_n none x (shapeCast _ w shapeCasts_S1x1024x3072_S1024x3072)) slices_S128x4x3072_S128x4x1024_0_0_1024) (extractStridedSlice S128x4x1024 ![0, 0, 2048] (Host.dotGeneral dot_S128x4x1024_S1024x3072_S128x4x3072_2_0_01_1_n_n none x (shapeCast _ w shapeCasts_S1x1024x3072_S1024x3072)) slices_S128x4x3072_S128x4x1024_0_0_2048))⟩] concatenates_S128x2x1024_S128x4x1024_S128x6x1024_d1

/-- The layer norm over the last axis, as the reference prints it. -/
abbrev lnR (U : FVec Ideal S128x4x1024 .f32) (g bb : FVec Ideal S2x1024 .f32) : FVec Ideal S512x1024 .f32 :=
  shapeCast S512x1024 (addf (mulf (mulf (subf U (broadcastInDim S128x4x1024 ![0, 1, 2] bcast_S128x4x1_S128x4x1024_0_1_2 (Host.divf (broadcastInDim S128x4x1 ![0, 1] bcast_S128x4_S128x4x1_0_1 (Host.reduceAdd U (constant S_ .f32 0x00000000#32) reducesTo_S128x4x1024_S128x4_d2 h_S_)) (broadcastInDim S128x4x1 ![] bcast_S_S128x4x1 (constant S_ .f32 0x44800000#32))))) (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf (subf U (broadcastInDim S128x4x1024 ![0, 1, 2] bcast_S128x4x1_S128x4x1024_0_1_2 (Host.divf (broadcastInDim S128x4x1 ![0, 1] bcast_S128x4_S128x4x1_0_1 (Host.reduceAdd U (constant S_ .f32 0x00000000#32) reducesTo_S128x4x1024_S128x4_d2 h_S_)) (broadcastInDim S128x4x1 ![] bcast_S_S128x4x1 (constant S_ .f32 0x44800000#32))))) (subf U (broadcastInDim S128x4x1024 ![0, 1, 2] bcast_S128x4x1_S128x4x1024_0_1_2 (Host.divf (broadcastInDim S128x4x1 ![0, 1] bcast_S128x4_S128x4x1_0_1 (Host.reduceAdd U (constant S_ .f32 0x00000000#32) reducesTo_S128x4x1024_S128x4_d2 h_S_)) (broadcastInDim S128x4x1 ![] bcast_S_S128x4x1 (constant S_ .f32 0x44800000#32)))))) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x3727C5AC#32)))))) (broadcastInDim S128x4x1024 ![0, 1, 2] bcast_S1x1x1024_S128x4x1024_0_1_2 (broadcastInDim S1x1x1024 ![2] bcast_S1024_S1x1x1024_2 (shapeCast S1024 (extractStridedSlice S1x1024 ![1, 0] g slices_S2x1024_S1x1024_1_0) shapeCasts_S1x1024_S1024)))) (broadcastInDim S128x4x1024 ![0, 1, 2] bcast_S1x1x1024_S128x4x1024_0_1_2 (broadcastInDim S1x1x1024 ![2] bcast_S1024_S1x1x1024_2 (shapeCast S1024 (extractStridedSlice S1x1024 ![1, 0] bb slices_S2x1024_S1x1024_1_0) shapeCasts_S1x1024_S1024)))) shapeCasts_S128x4x1024_S512x1024

/-- The residual sum, as the reference prints it, over the padded inputs `C`. -/
abbrev resR (C : FVec Ideal S128x6x1024 .f32) (x : FVec Ideal S128x4x1024 .f32) (w : FVec Ideal S1x1024x3072 .f32)
    (wc : FVec Ideal S1x3x1024 .f32) (wo : FVec Ideal S1x1024x1024 .f32) : FVec Ideal S128x4x1024 .f32 :=
  (addf (mulf (broadcastInDim S128x4x1024 ![] bcast_S_S128x4x1024 (constant S_ .f32 0x3FB504F3#32)) x) (Host.dotGeneral dot_S128x4x1024_S1024x1024_S128x4x1024_2_0_01_1_n_n none (mulf (extractStridedSlice S128x4x1024 ![0, 0, 0] (Host.dotGeneral dot_S128x4x1024_S1024x3072_S128x4x3072_2_0_01_1_n_n none x (shapeCast S1024x3072 w shapeCasts_S1x1024x3072_S1024x3072)) slices_S128x4x3072_S128x4x1024_0_0_0) (addf (addf (mulf (extractStridedSlice S128x4x1024 ![0, 0, 0] C slices_S128x6x1024_S128x4x1024_0_0_0) (broadcastInDim S128x4x1024 ![0, 1, 2] bcast_S1x1x1024_S128x4x1024_0_1_2 (broadcastInDim S1x1x1024 ![2] bcast_S1024_S1x1x1024_2 (shapeCast S1024 (extractStridedSlice S1x1024 ![0, 0] (shapeCast S3x1024 wc shapeCasts_S1x3x1024_S3x1024) slices_S3x1024_S1x1024_0_0) shapeCasts_S1x1024_S1024)))) (mulf (extractStridedSlice S128x4x1024 ![0, 1, 0] C slices_S128x6x1024_S128x4x1024_0_1_0) (broadcastInDim S128x4x1024 ![0, 1, 2] bcast_S1x1x1024_S128x4x1024_0_1_2 (broadcastInDim S1x1x1024 ![2] bcast_S1024_S1x1x1024_2 (shapeCast S1024 (extractStridedSlice S1x1024 ![1, 0] (shapeCast S3x1024 wc shapeCasts_S1x3x1024_S3x1024) slices_S3x1024_S1x1024_1_0) shapeCasts_S1x1024_S1024))))) (mulf (extractStridedSlice S128x4x1024 ![0, 2, 0] C slices_S128x6x1024_S128x4x1024_0_2_0) (broadcastInDim S128x4x1024 ![0, 1, 2] bcast_S1x1x1024_S128x4x1024_0_1_2 (broadcastInDim S1x1x1024 ![2] bcast_S1024_S1x1x1024_2 (shapeCast S1024 (extractStridedSlice S1x1024 ![2, 0] (shapeCast S3x1024 wc shapeCasts_S1x3x1024_S3x1024) slices_S3x1024_S1x1024_2_0) shapeCasts_S1x1024_S1024)))))) (shapeCast S1024x1024 wo shapeCasts_S1x1024x1024_S1024x1024)))

theorem full_apply (x : FVec Ideal S128x4x1024 .f32) (w : FVec Ideal S1x1024x3072 .f32) (p : FVec Ideal S1x128x2x1024 .f32)
    (b : Fin 128) (n : Fin 6) (j : Fin 1024) : full x w p (ix3 b n j) = useqT x w p b n.val j := by
  unfold full
  pointwise [useqT, uT, pjT]
  have hn := n.isLt
  by_cases h : n.val < 2
  · rw [dif_pos h, dif_pos h]
  · rw [dif_neg h, dif_neg h, dif_pos (by omega)]

theorem lnR_apply (U : FVec Ideal S128x4x1024 .f32) (g bb : FVec Ideal S2x1024 .f32) (r : Fin 512) (j : Fin 1024) :
    lnR U g bb (ix2 r j) = lnorm (fun k => U (ix3 ⟨r.val / 4, by omega⟩ ⟨r.val % 4, by omega⟩ k))
      (fun k => g (ix2 1 k)) (fun k => bb (ix2 1 k)) j := by
  unfold lnR
  pointwise [lnorm, mean]

theorem resR_apply (C : FVec Ideal S128x6x1024 .f32) (x : FVec Ideal S128x4x1024 .f32) (w : FVec Ideal S1x1024x3072 .f32)
    (wc : FVec Ideal S1x3x1024 .f32) (wo : FVec Ideal S1x1024x1024 .f32) (p : FVec Ideal S1x128x2x1024 .f32) (b : Fin 128) (s : Fin 4) (j : Fin 1024)
    (hf : ∀ (b : Fin 128) (n : Fin 6) (j : Fin 1024), C (ix3 b n j) = useqT x w p b n.val j) :
    resR C x w wc wo (ix3 b s j) = resid (fun k => x (ix3 b s k))
      (fun k => ∑ i, gat (bgT x w b s) (useqT x w p b) (fun n k => wc (ix3 0 n k)) s.val i * wo (ix3 0 i k)) j := by
  unfold resR
  pointwise [hf, resid, gat, bgT, pjT]
  simp only [Nat.add_comm 1, Nat.add_comm 2]

theorem res_y : Cert.TailRefIdeal.Value.res_main_v65 m c
    = tailY (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  funext y
  obtain ⟨r, j, rfl⟩ : ∃ (r : Fin 512) (j : Fin 1024), y = ix2 r j := ⟨y 0, y 1, eq_ix2 y⟩
  refine (lnR_apply (resR (full (m ((c : Thread nD τ).loc main_arg0)) (m ((c : Thread nD τ).loc main_arg2)) (m ((c : Thread nD τ).loc main_arg1)))
    (m ((c : Thread nD τ).loc main_arg0)) (m ((c : Thread nD τ).loc main_arg2)) (m ((c : Thread nD τ).loc main_arg3))
    (m ((c : Thread nD τ).loc main_arg4))) (m ((c : Thread nD τ).loc main_arg5)) (m ((c : Thread nD τ).loc main_arg6)) r j).trans ?_
  rw [show (fun k : Fin 1024 => resR _ _ _ _ _ (ix3 _ _ k)) = _ from
    funext fun k => resR_apply _ _ _ _ _ _ _ _ k (full_apply _ _ _)]
  rfl

/-- The state's rows, two rows of zeros before them, at a sequence's last two tokens. -/
theorem res_s (x : FVec Ideal S128x4x1024 .f32) (w : FVec Ideal S1x1024x3072 .f32) (p : FVec Ideal S1x128x2x1024 .f32)
    (r : Fin 512) (j : Fin 1024) (hr : 2 ≤ r.val % 4) :
    shapeCast S512x1024 (pad S128x4x1024 ![0, 2, 0] ![0, 0, 0] ![0, 0, 0] (extractStridedSlice S128x2x1024 ![0, 4, 0] (full x w p) slices_S128x6x1024_S128x2x1024_0_4_0) (sitofp (F := Ideal) .f32 (constantI S_ 32 0#32)) pads_S128x2x1024_S128x4x1024_000_200_000 h_S_) shapeCasts_S128x4x1024_S512x1024 (ix2 r j)
      = tailU x w (ix2 r j) := by
  refine Eq.trans (b := full x w p (ix3 ⟨r.val / 4, by omega⟩ ⟨r.val % 4 + 2, by omega⟩ j)) ?_ ?_
  · generalize full x w p = C
    pointwise
    rw [dif_pos ⟨by omega, hr, by omega⟩]
    congr 2
    apply Fin.ext
    show 4 + (r.val % 4 - 2) = r.val % 4 + 2
    omega
  · rw [full_apply, useqT, dif_neg (by show ¬ r.val % 4 + 2 < 2; omega), dif_pos (by show r.val % 4 + 2 - 2 < 4; omega)]
    rfl

end Cert.TailRefIdeal.Hand
end
-- ==== Proof.TailPay.lean ====
/- What the sample's convolution stores, row by row: the product of a point, and at the last point the layer's row and the
   gated inputs, from the windows' blocks and the three products. -/
module

public import proofs.«01_k».proof.Proof.TailFrame
public import proofs.«01_k».proof.Proof.ConvSpec

@[expose] public section

set_option maxRecDepth 16384

noncomputable section

namespace Cert.TailIdeal.Hand

open Cert.TailIdeal Cert.TailIdeal.Gen Idealize.ShloMosaic Idealize.ShloMosaic.TcCoe Cert.Reads

theorem prod_apply (x : Vec Ideal S512x1024 .f32) (w : Vec Ideal S1024x1024 .bf16) (r : Fin 512) (j : Fin 1024) :
    k0_pay2 (k0_pay1 x) w (ix3 0 r j) = ∑ k : Fin 1024, x (ix2 r k) * w (ix2 k j) := by
  pointwise [k0_pay2, k0_pay1]

/-- The remainder by four, as the words compute it. -/
theorem rem4 (r : Fin 512) (j : Fin 1024) : k0_pay6 (ix2 r j) = BitVec.ofNat 32 (r.val % 4) := by
  pointwise [k0_pay6]
  revert r
  decide +kernel

/-- The remainder by four of a row, compared with a word. -/
theorem ge4 : ∀ (r : Fin 512) (n : Fin 4), IntOp.cmpi .sge (BitVec.ofNat 32 (r.val % 4)) (BitVec.ofNat 32 n.val)
    = if n.val ≤ r.val % 4 then 1#1 else 0#1 := by
  decide +kernel

section
variable (a b : Vec Ideal S1x512x1024 .f32) (x : Vec Ideal S512x1024 .f32) (r : Fin 512) (j : Fin 1024)

theorem u_apply : k0_pay5 a b (ix2 r j) = a (ix3 0 r j) * b (ix3 0 r j) := by
  pointwise [k0_pay5]

theorem prev1_apply : k0_pay7 a b x (ix2 r j)
    = if 1 ≤ r.val % 4 then k0_pay5 a b (ix2 ⟨r.val - 1, by omega⟩ j) else x (ix2 r j) := by
  unfold k0_pay7
  generalize k0_pay5 a b = u
  pointwise [rem4]
  rw [show IntOp.cmpi .sge (BitVec.ofNat 32 (r.val % 4)) 1#32 = if 1 ≤ r.val % 4 then 1#1 else 0#1 from ge4 r 1]
  by_cases h : 1 ≤ r.val % 4
  · rw [if_pos h, if_pos h]
    have hr := r.isLt
    show u _ = u _
    congr 2
    apply Fin.ext
    show (r.val + 512 - 1) % 512 = r.val - 1
    omega
  · rw [if_neg h, if_neg h]
    rfl

theorem prev2_apply : k0_pay8 a b x (ix2 r j)
    = if 2 ≤ r.val % 4 then k0_pay5 a b (ix2 ⟨r.val - 2, by omega⟩ j) else x (ix2 r j) := by
  unfold k0_pay8
  generalize k0_pay5 a b = u
  pointwise [rem4]
  rw [show IntOp.cmpi .sge (BitVec.ofNat 32 (r.val % 4)) 2#32 = if 2 ≤ r.val % 4 then 1#1 else 0#1 from ge4 r 2]
  by_cases h : 2 ≤ r.val % 4
  · rw [if_pos h, if_pos h]
    have hr := r.isLt
    show u _ = u _
    congr 2
    apply Fin.ext
    show (r.val + 512 - 2) % 512 = r.val - 2
    omega
  · rw [if_neg h, if_neg h]
    rfl

end

theorem outY_apply (x0 x1 x2 : Vec Ideal S512x1024 .f32) (x4 : Vec Ideal S3x1024 .f32) (x5 : Vec Ideal S1024x1024 .bf16)
    (x6 x7 : Vec Ideal S1x1024 .f32) (p : Vec Ideal S3x512x1024 .f32) (r : Fin 512) (j : Fin 1024) :
    outY x0 x1 x2 x4 x5 x6 x7 p (ix2 r j) = lnorm (resid (fun k => x0 (ix2 r k))
      fun k => ∑ i, p (ix3 0 r i) * (k0_pay8 (sliceOf 1 p) (sliceOf 2 p) x2 (ix2 r i) * x4 (ix2 0 i)
        + k0_pay7 (sliceOf 1 p) (sliceOf 2 p) x1 (ix2 r i) * x4 (ix2 1 i)
        + k0_pay5 (sliceOf 1 p) (sliceOf 2 p) (ix2 r i) * x4 (ix2 2 i)) * x5 (ix2 i k))
      (fun k => x6 (ix2 0 k)) (fun k => x7 (ix2 0 k)) j := by
  unfold outY
  generalize k0_pay8 (sliceOf 1 p) (sliceOf 2 p) x2 = p2
  generalize k0_pay7 (sliceOf 1 p) (sliceOf 2 p) x1 = p1
  generalize k0_pay5 (sliceOf 1 p) (sliceOf 2 p) = u
  pointwise [k0_pay3, k0_pay4, k0_pay9, k0_pay10, k0_pay11, k0_pay12, k0_pay13, rowOf, sliceOf, lnorm, mean, resid]

end Cert.TailIdeal.Hand
end
-- ==== Proof.TailValue.lean ====
/- The convolution layer of the sample tokens over the whole grid: what every window holds, the three products, and the two
   arrays after the run, which are the layer's result and its gated inputs. -/
module

public import proofs.«01_k».proof.Proof.TailFn
public import proofs.«01_k».proof.Proof.TailPay
public import proofs.«01_k».proof.Proof.Gen.On_state_rows
public import proofs.«01_k».proof.Defs

@[expose] public section

set_option maxRecDepth 16384

noncomputable section

open Idealize.ShloMosaic Idealize.ShloMosaic.TcCoe Idealize.SL.Sem
open Idealize.ShloMosaic.Pipeline (Dat)

namespace Cert.TailIdeal.Hand

open Cert.TailIdeal Cert.TailIdeal.Gen Cert.Reads

variable (m : (ℓ : Loc nD τ sig) → Buf (Elt Ideal) ℓ) (ρ : Dev nD → PrngReg) (c : Dev nD)

theorem V_v11 : V m c main_v11 = shapeCast S512x1024 (m ((c : Thread nD τ).loc main_arg0)) shapeCasts_S128x4x1024_S512x1024 := by
  unfold V hostOps0 hostOps0_1 hostOps0_2 hostOps0_3 hostOps0_4
  simp only [List.flatten_cons, List.flatten_nil, List.append_nil, List.cons_append, List.nil_append, StableHlo.TRef.binary,
    StableHlo.TRef.unary, StableHlo.TRef.toBuf, StableHlo.TRef.ofBuf, cast_eq]
  after_results_simp
  rfl

theorem V_v8 : V m c main_v8 = shapeCast S512x1024 (pad S128x4x1024 ![0, 0, 0] ![0, 3, 0] ![0, 0, 0] (extractStridedSlice S128x1x1024 ![0, 1, 0] (shapeCast S128x2x1024 (m ((c : Thread nD τ).loc main_arg1) : FVec Ideal S1x128x2x1024 .f32) shapeCasts_S1x128x2x1024_S128x2x1024) slices_S128x2x1024_S128x1x1024_0_1_0) (sitofp (F := Ideal) .f32 (constantI S_ 32 0#32)) pads_S128x1x1024_S128x4x1024_000_030_000 h_S_) shapeCasts_S128x4x1024_S512x1024 := by
  unfold V hostOps0 hostOps0_1 hostOps0_2 hostOps0_3 hostOps0_4
  simp only [List.flatten_cons, List.flatten_nil, List.append_nil, List.cons_append, List.nil_append, StableHlo.TRef.binary,
    StableHlo.TRef.unary, StableHlo.TRef.toBuf, StableHlo.TRef.ofBuf, cast_eq]
  after_results_simp
  rfl

theorem V_v10 : V m c main_v10 = shapeCast S512x1024 (pad S128x4x1024 ![0, 0, 0] ![0, 2, 0] ![0, 0, 0] (shapeCast S128x2x1024 (m ((c : Thread nD τ).loc main_arg1) : FVec Ideal S1x128x2x1024 .f32) shapeCasts_S1x128x2x1024_S128x2x1024) (sitofp (F := Ideal) .f32 (constantI S_ 32 0#32)) pads_S128x2x1024_S128x4x1024_000_020_000 h_S_) shapeCasts_S128x4x1024_S512x1024 := by
  unfold V hostOps0 hostOps0_1 hostOps0_2 hostOps0_3 hostOps0_4
  simp only [List.flatten_cons, List.flatten_nil, List.append_nil, List.cons_append, List.nil_append, StableHlo.TRef.binary,
    StableHlo.TRef.unary, StableHlo.TRef.toBuf, StableHlo.TRef.ofBuf, cast_eq]
  after_results_simp
  rfl

theorem V_v1 : V m c main_v1 = truncf (F := Ideal) .bf16 (shapeCast S1024x3072 (m ((c : Thread nD τ).loc main_arg2) : FVec Ideal S1x1024x3072 .f32) shapeCasts_S1x1024x3072_S1024x3072) bitsLt_bf16_f32 := by
  unfold V hostOps0 hostOps0_1 hostOps0_2 hostOps0_3 hostOps0_4
  simp only [List.flatten_cons, List.flatten_nil, List.append_nil, List.cons_append, List.nil_append, StableHlo.TRef.binary,
    StableHlo.TRef.unary, StableHlo.TRef.toBuf, StableHlo.TRef.ofBuf, cast_eq]
  after_results_simp
  rfl

theorem V_v4 : V m c main_v4 = shapeCast S3x1024 (m ((c : Thread nD τ).loc main_arg3)) shapeCasts_S1x3x1024_S3x1024 := by
  unfold V hostOps0 hostOps0_1 hostOps0_2 hostOps0_3 hostOps0_4
  simp only [List.flatten_cons, List.flatten_nil, List.append_nil, List.cons_append, List.nil_append, StableHlo.TRef.binary,
    StableHlo.TRef.unary, StableHlo.TRef.toBuf, StableHlo.TRef.ofBuf, cast_eq]
  after_results_simp
  rfl

theorem V_v3 : V m c main_v3 = truncf (F := Ideal) .bf16 (shapeCast S1024x1024 (m ((c : Thread nD τ).loc main_arg4) : FVec Ideal S1x1024x1024 .f32) shapeCasts_S1x1024x1024_S1024x1024) bitsLt_bf16_f32 := by
  unfold V hostOps0 hostOps0_1 hostOps0_2 hostOps0_3 hostOps0_4
  simp only [List.flatten_cons, List.flatten_nil, List.append_nil, List.cons_append, List.nil_append, StableHlo.TRef.binary,
    StableHlo.TRef.unary, StableHlo.TRef.toBuf, StableHlo.TRef.ofBuf, cast_eq]
  after_results_simp
  rfl

theorem V_v14 : V m c main_v14 = shapeCast S1x1024 (shapeCast S1024 (extractStridedSlice S1x1024 ![1, 0] (m ((c : Thread nD τ).loc main_arg5) : FVec Ideal S2x1024 .f32) slices_S2x1024_S1x1024_1_0) shapeCasts_S1x1024_S1024) shapeCasts_S1024_S1x1024 := by
  unfold V hostOps0 hostOps0_1 hostOps0_2 hostOps0_3 hostOps0_4
  simp only [List.flatten_cons, List.flatten_nil, List.append_nil, List.cons_append, List.nil_append, StableHlo.TRef.binary,
    StableHlo.TRef.unary, StableHlo.TRef.toBuf, StableHlo.TRef.ofBuf, cast_eq]
  after_results_simp
  rfl

theorem V_v17 : V m c main_v17 = shapeCast S1x1024 (shapeCast S1024 (extractStridedSlice S1x1024 ![1, 0] (m ((c : Thread nD τ).loc main_arg6) : FVec Ideal S2x1024 .f32) slices_S2x1024_S1x1024_1_0) shapeCasts_S1x1024_S1024) shapeCasts_S1024_S1x1024 := by
  unfold V hostOps0 hostOps0_1 hostOps0_2 hostOps0_3 hostOps0_4
  simp only [List.flatten_cons, List.flatten_nil, List.append_nil, List.cons_append, List.nil_append, StableHlo.TRef.binary,
    StableHlo.TRef.unary, StableHlo.TRef.toBuf, StableHlo.TRef.ofBuf, cast_eq]
  after_results_simp
  rfl

theorem rows_apply (x : FVec Ideal S128x4x1024 .f32) (r : Fin 512) (k : Fin 1024) :
    (shapeCast S512x1024 x shapeCasts_S128x4x1024_S512x1024 : FVec Ideal S512x1024 .f32) (ix2 r k)
      = x (ix3 ⟨r.val / 4, by omega⟩ ⟨r.val % 4, by omega⟩ k) := by
  pointwise

theorem w_apply (w : FVec Ideal S1x1024x3072 .f32) (k : Fin 1024) (n : Fin 3072) :
    (truncf (F := Ideal) .bf16 (shapeCast S1024x3072 w shapeCasts_S1x1024x3072_S1024x3072) bitsLt_bf16_f32) (ix2 k n) = w (ix3 0 k n) := by
  pointwise

theorem wc_apply (w : FVec Ideal S1x3x1024 .f32) (n : Fin 3) (k : Fin 1024) :
    (shapeCast S3x1024 w shapeCasts_S1x3x1024_S3x1024 : FVec Ideal S3x1024 .f32) (ix2 n k) = w (ix3 0 n k) := by
  pointwise

theorem wo_apply (w : FVec Ideal S1x1024x1024 .f32) (i k : Fin 1024) :
    (truncf (F := Ideal) .bf16 (shapeCast S1024x1024 w shapeCasts_S1x1024x1024_S1024x1024) bitsLt_bf16_f32) (ix2 i k) = w (ix3 0 i k) := by
  pointwise

theorem gb_apply (w : FVec Ideal S2x1024 .f32) (k : Fin 1024) :
    (shapeCast S1x1024 (shapeCast S1024 (extractStridedSlice S1x1024 ![1, 0] w slices_S2x1024_S1x1024_1_0) shapeCasts_S1x1024_S1024)
      shapeCasts_S1024_S1x1024 : FVec Ideal S1x1024 .f32) (ix2 0 k) = w (ix2 1 k) := by
  pointwise

/-- The state's later row at a sequence's first token. -/
theorem e1_apply (p : FVec Ideal S1x128x2x1024 .f32) (r : Fin 512) (k : Fin 1024) (h : r.val % 4 < 1) :
    (shapeCast S512x1024 (pad S128x4x1024 ![0, 0, 0] ![0, 3, 0] ![0, 0, 0] (extractStridedSlice S128x1x1024 ![0, 1, 0] (shapeCast S128x2x1024 p shapeCasts_S1x128x2x1024_S128x2x1024) slices_S128x2x1024_S128x1x1024_0_1_0) (sitofp (F := Ideal) .f32 (constantI S_ 32 0#32)) pads_S128x1x1024_S128x4x1024_000_030_000 h_S_) shapeCasts_S128x4x1024_S512x1024 : FVec Ideal S512x1024 .f32) (ix2 r k)
      = p (ix4 0 ⟨r.val / 4, by omega⟩ 1 k) := by
  pointwise
  rw [dif_pos (by omega)]
  congr 2
  exact Fin.ext (by show 1 + r.val % 4 = 1; omega)

/-- The state's rows at a sequence's first two tokens. -/
theorem e2_apply (p : FVec Ideal S1x128x2x1024 .f32) (r : Fin 512) (k : Fin 1024) (h : r.val % 4 < 2) :
    (shapeCast S512x1024 (pad S128x4x1024 ![0, 0, 0] ![0, 2, 0] ![0, 0, 0] (shapeCast S128x2x1024 p shapeCasts_S1x128x2x1024_S128x2x1024) (sitofp (F := Ideal) .f32 (constantI S_ 32 0#32)) pads_S128x2x1024_S128x4x1024_000_020_000 h_S_) shapeCasts_S128x4x1024_S512x1024 : FVec Ideal S512x1024 .f32) (ix2 r k)
      = p (ix4 0 ⟨r.val / 4, by omega⟩ ⟨r.val % 4, h⟩ k) := by
  pointwise
  rw [dif_pos (by omega)]

theorem geomX : ∀ t : Fin grid0.N, win0_0.index t 0 = 0 ∧ win0_0.index t 1 = 0 ∧ win0_1.index t 0 = 0 ∧ win0_1.index t 1 = 0 ∧ win0_2.index t 0 = 0 ∧ win0_2.index t 1 = 0 := by decide +kernel

theorem geomW : ∀ t : Fin grid0.N, win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 := by decide +kernel

theorem geomP : ∀ t : Fin grid0.N, win0_3.index t 0 = 0 ∧ win0_3.index t 1 = min t.val 2 := by decide +kernel

theorem geomO : ∀ t : Fin grid0.N, win0_8.index t 0 = 0 ∧ win0_8.index t 1 = 0 ∧ win0_9.index t 0 = 0 ∧ win0_9.index t 1 = 0 := by decide +kernel

theorem iblk0 (t : Fin cfg0.N) (r : Fin 512) (k : Fin 1024) : (iblk m c 0 t : Vec Ideal S512x1024 .f32) (ix2 r k) = (m ((c : Thread nD τ).loc main_arg0) : FVec Ideal S128x4x1024 .f32) (ix3 ⟨r.val / 4, by omega⟩ ⟨r.val % 4, by omega⟩ k) := by
  obtain ⟨h0, h1, -⟩ := geomX t
  unfold iblk
  rw [View.read_apply]
  refine Eq.trans ?_ ((congrFun (V_v11 m c) (ix2 r k)).trans (rows_apply _ _ _))
  show V m c main_v11 _ = V m c main_v11 _
  congr 1
  funext a
  apply Fin.ext
  match a with
  | ⟨0, _⟩ => show win0_0.index t 0 * 512 + 1 * r.val = r.val; rw [h0]; omega
  | ⟨1, _⟩ => show win0_0.index t 1 * 1024 + 1 * k.val = k.val; rw [h1]; omega

theorem iblk1 (t : Fin cfg0.N) (r : Fin 512) (k : Fin 1024) (h : r.val % 4 < 1) : (iblk m c 1 t : Vec Ideal S512x1024 .f32) (ix2 r k) = (m ((c : Thread nD τ).loc main_arg1) : FVec Ideal S1x128x2x1024 .f32) (ix4 0 ⟨r.val / 4, by omega⟩ 1 k) := by
  obtain ⟨-, -, h0, h1, -⟩ := geomX t
  unfold iblk
  rw [View.read_apply]
  refine Eq.trans ?_ ((congrFun (V_v8 m c) (ix2 r k)).trans (e1_apply _ _ _ h))
  show V m c main_v8 _ = V m c main_v8 _
  congr 1
  funext a
  apply Fin.ext
  match a with
  | ⟨0, _⟩ => show win0_1.index t 0 * 512 + 1 * r.val = r.val; rw [h0]; omega
  | ⟨1, _⟩ => show win0_1.index t 1 * 1024 + 1 * k.val = k.val; rw [h1]; omega

theorem iblk2 (t : Fin cfg0.N) (r : Fin 512) (k : Fin 1024) (h : r.val % 4 < 2) : (iblk m c 2 t : Vec Ideal S512x1024 .f32) (ix2 r k) = (m ((c : Thread nD τ).loc main_arg1) : FVec Ideal S1x128x2x1024 .f32) (ix4 0 ⟨r.val / 4, by omega⟩ ⟨r.val % 4, h⟩ k) := by
  obtain ⟨-, -, -, -, h0, h1⟩ := geomX t
  unfold iblk
  rw [View.read_apply]
  refine Eq.trans ?_ ((congrFun (V_v10 m c) (ix2 r k)).trans (e2_apply _ _ _ h))
  show V m c main_v10 _ = V m c main_v10 _
  congr 1
  funext a
  apply Fin.ext
  match a with
  | ⟨0, _⟩ => show win0_2.index t 0 * 512 + 1 * r.val = r.val; rw [h0]; omega
  | ⟨1, _⟩ => show win0_2.index t 1 * 1024 + 1 * k.val = k.val; rw [h1]; omega

theorem iblk4 (t : Fin cfg0.N) (n : Fin 3) (k : Fin 1024) : (iblk m c 4 t : Vec Ideal S3x1024 .f32) (ix2 n k) = (m ((c : Thread nD τ).loc main_arg3) : FVec Ideal S1x3x1024 .f32) (ix3 0 n k) := by
  obtain ⟨h0, h1, -⟩ := geomW t
  unfold iblk
  rw [View.read_apply]
  refine Eq.trans ?_ ((congrFun (V_v4 m c) (ix2 n k)).trans (wc_apply _ _ _))
  show V m c main_v4 _ = V m c main_v4 _
  congr 1
  funext a
  apply Fin.ext
  match a with
  | ⟨0, _⟩ => show win0_4.index t 0 * 3 + 1 * n.val = n.val; rw [h0]; omega
  | ⟨1, _⟩ => show win0_4.index t 1 * 1024 + 1 * k.val = k.val; rw [h1]; omega

theorem iblk5 (t : Fin cfg0.N) (i k : Fin 1024) : (iblk m c 5 t : Vec Ideal S1024x1024 .bf16) (ix2 i k) = (m ((c : Thread nD τ).loc main_arg4) : FVec Ideal S1x1024x1024 .f32) (ix3 0 i k) := by
  obtain ⟨-, -, h0, h1, -⟩ := geomW t
  unfold iblk
  rw [View.read_apply]
  refine Eq.trans ?_ ((congrFun (V_v3 m c) (ix2 i k)).trans (wo_apply _ _ _))
  show V m c main_v3 _ = V m c main_v3 _
  congr 1
  funext a
  apply Fin.ext
  match a with
  | ⟨0, _⟩ => show win0_5.index t 0 * 1024 + 1 * i.val = i.val; rw [h0]; omega
  | ⟨1, _⟩ => show win0_5.index t 1 * 1024 + 1 * k.val = k.val; rw [h1]; omega

theorem iblk6 (t : Fin cfg0.N) (k : Fin 1024) : (iblk m c 6 t : Vec Ideal S1x1024 .f32) (ix2 0 k) = (m ((c : Thread nD τ).loc main_arg5) : FVec Ideal S2x1024 .f32) (ix2 1 k) := by
  obtain ⟨-, -, -, -, h0, h1, -⟩ := geomW t
  unfold iblk
  rw [View.read_apply]
  refine Eq.trans ?_ ((congrFun (V_v14 m c) (ix2 0 k)).trans (gb_apply _ _))
  show V m c main_v14 _ = V m c main_v14 _
  congr 1
  funext a
  apply Fin.ext
  match a with
  | ⟨0, _⟩ => show win0_6.index t 0 * 1 + 1 * 0 = 0; rw [h0]
  | ⟨1, _⟩ => show win0_6.index t 1 * 1024 + 1 * k.val = k.val; rw [h1]; omega

theorem iblk7 (t : Fin cfg0.N) (k : Fin 1024) : (iblk m c 7 t : Vec Ideal S1x1024 .f32) (ix2 0 k) = (m ((c : Thread nD τ).loc main_arg6) : FVec Ideal S2x1024 .f32) (ix2 1 k) := by
  obtain ⟨-, -, -, -, -, -, h0, h1⟩ := geomW t
  unfold iblk
  rw [View.read_apply]
  refine Eq.trans ?_ ((congrFun (V_v17 m c) (ix2 0 k)).trans (gb_apply _ _))
  show V m c main_v17 _ = V m c main_v17 _
  congr 1
  funext a
  apply Fin.ext
  match a with
  | ⟨0, _⟩ => show win0_7.index t 0 * 1 + 1 * 0 = 0; rw [h0]
  | ⟨1, _⟩ => show win0_7.index t 1 * 1024 + 1 * k.val = k.val; rw [h1]; omega

theorem iblk3 (t : Fin cfg0.N) (k j : Fin 1024) (h : t.val < 3) : (iblk m c 3 t : Vec Ideal S1024x1024 .bf16) (ix2 k j)
    = (m ((c : Thread nD τ).loc main_arg2) : FVec Ideal S1x1024x3072 .f32) (ix3 0 k ⟨t.val * 1024 + j.val, by omega⟩) := by
  obtain ⟨h0, h1⟩ := geomP t
  have hmin : min t.val 2 = t.val := Nat.min_eq_left (by omega)
  unfold iblk
  rw [View.read_apply]
  refine Eq.trans ?_ ((congrFun (V_v1 m c) (ix2 k ⟨t.val * 1024 + j.val, by omega⟩)).trans (w_apply _ _ _))
  show V m c main_v1 _ = V m c main_v1 _
  congr 1
  funext a
  apply Fin.ext
  match a with
  | ⟨0, _⟩ => show win0_3.index t 0 * 1024 + 1 * k.val = k.val; rw [h0]; omega
  | ⟨1, _⟩ => show win0_3.index t 1 * 1024 + 1 * j.val = t.val * 1024 + j.val; rw [h1, hmin]; omega

/-! ## The products -/

theorem prods_apply (n : Fin 3) (r : Fin 512) (j : Fin 1024) :
    prods m c (ix3 n r j) = pjT (m ((c : Thread nD τ).loc main_arg0)) (m ((c : Thread nD τ).loc main_arg2)) ⟨r.val / 4, by omega⟩ ⟨r.val % 4, by omega⟩ ⟨n.val * 1024 + j.val, by omega⟩ := by
  have hN : n.val < cfg0.N := by rw [show cfg0.N = 4 from N_0]; omega
  show prodAt m c n.val hN (ix3 0 r j) = _
  unfold prodAt rows
  refine (prod_apply _ _ r j).trans ?_
  unfold pjT
  refine Finset.sum_congr rfl fun k _ => ?_
  rw [iblk0, iblk3 m c ⟨n.val, hN⟩ k j n.isLt]

theorem gate_eq (r : Fin 512) (j : Fin 1024) :
    prods m c (ix3 0 r j) = bgT (m ((c : Thread nD τ).loc main_arg0)) (m ((c : Thread nD τ).loc main_arg2)) ⟨r.val / 4, by omega⟩ ⟨r.val % 4, by omega⟩ j := by
  rw [prods_apply]
  unfold bgT
  congr 1
  apply Fin.ext
  show 0 * 1024 + j.val = j.val
  omega

theorem u_eq (r : Fin 512) (j : Fin 1024) :
    k0_pay5 (sliceOf 1 (prods m c)) (sliceOf 2 (prods m c)) (ix2 r j)
      = uT (m ((c : Thread nD τ).loc main_arg0)) (m ((c : Thread nD τ).loc main_arg2)) ⟨r.val / 4, by omega⟩ ⟨r.val % 4, by omega⟩ j := by
  rw [u_apply]
  show prods m c (ix3 1 r j) * prods m c (ix3 2 r j) = _
  rw [prods_apply, prods_apply]
  rfl

/-- A gated input of a sequence is the token's two places on. -/
theorem useq_row (r r' : Fin 512) (n : ℕ) (hn : 2 ≤ n) (hr : r'.val % 4 + 2 = n) (hb : r'.val / 4 = r.val / 4) (j : Fin 1024) :
    useqT (m ((c : Thread nD τ).loc main_arg0)) (m ((c : Thread nD τ).loc main_arg2)) (m ((c : Thread nD τ).loc main_arg1)) ⟨r.val / 4, by omega⟩ n j
      = uT (m ((c : Thread nD τ).loc main_arg0)) (m ((c : Thread nD τ).loc main_arg2)) ⟨r'.val / 4, by omega⟩ ⟨r'.val % 4, by omega⟩ j := by
  unfold useqT
  rw [dif_neg (by omega), dif_pos (by omega)]
  congr 1
  · exact Fin.ext hb.symm
  · exact Fin.ext (by show n - 2 = r'.val % 4; omega)

theorem in0_eq (t : Fin cfg0.N) (r : Fin 512) (j : Fin 1024) :
    k0_pay5 (sliceOf 1 (prods m c)) (sliceOf 2 (prods m c)) (ix2 r j)
      = useqT (m ((c : Thread nD τ).loc main_arg0)) (m ((c : Thread nD τ).loc main_arg2)) (m ((c : Thread nD τ).loc main_arg1)) ⟨r.val / 4, by omega⟩ (r.val % 4 + 2) j := by
  rw [u_eq, useq_row m c r r _ (by omega) rfl rfl]

theorem in1_eq (t : Fin cfg0.N) (r : Fin 512) (j : Fin 1024) :
    k0_pay7 (sliceOf 1 (prods m c)) (sliceOf 2 (prods m c)) (iblk m c 1 t) (ix2 r j)
      = useqT (m ((c : Thread nD τ).loc main_arg0)) (m ((c : Thread nD τ).loc main_arg2)) (m ((c : Thread nD τ).loc main_arg1)) ⟨r.val / 4, by omega⟩ (r.val % 4 + 1) j := by
  rw [prev1_apply]
  by_cases h : 1 ≤ r.val % 4
  · rw [if_pos h, u_eq, useq_row m c r ⟨r.val - 1, by omega⟩ _ (by omega) (by dsimp only; omega) (by dsimp only; omega)]
  · rw [if_neg h, iblk1 m c t r j (by omega), useqT, dif_pos (by omega)]
    congr 2
    exact Fin.ext (by show 1 = r.val % 4 + 1; omega)

theorem in2_eq (t : Fin cfg0.N) (r : Fin 512) (j : Fin 1024) :
    k0_pay8 (sliceOf 1 (prods m c)) (sliceOf 2 (prods m c)) (iblk m c 2 t) (ix2 r j)
      = useqT (m ((c : Thread nD τ).loc main_arg0)) (m ((c : Thread nD τ).loc main_arg2)) (m ((c : Thread nD τ).loc main_arg1)) ⟨r.val / 4, by omega⟩ (r.val % 4) j := by
  rw [prev2_apply]
  by_cases h : 2 ≤ r.val % 4
  · rw [if_pos h, u_eq, useq_row m c r ⟨r.val - 2, by omega⟩ _ h (by dsimp only; omega) (by dsimp only; omega)]
  · rw [if_neg h, iblk2 m c t r j (by omega), useqT, dif_pos (by omega)]

/-! ## The two arrays -/

abbrev valY : Buf (Elt Ideal) ((c : Thread nD τ).loc main_v18_0) :=
  tailY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

abbrev valU : Buf (Elt Ideal) ((c : Thread nD τ).loc main_v18_1) := tailU (m ((c : Thread nD τ).loc main_arg0)) (m ((c : Thread nD τ).loc main_arg2))

theorem resY_apply (t : Fin cfg0.N) (r : Fin 512) (j : Fin 1024) : resY m c t (ix2 r j) = valY m c (ix2 r j) := by
  unfold resY
  refine (outY_apply _ _ _ _ _ _ _ _ r j).trans ?_
  unfold valY tailY tailRow
  simp only [gate_eq, in0_eq m c t, in1_eq m c t, in2_eq m c t, iblk0, iblk4, iblk5, iblk6, iblk7]
  rfl

theorem resU_apply (r : Fin 512) (j : Fin 1024) : resU m c (ix2 r j) = valU m c (ix2 r j) := u_eq m c r j

theorem flushed8_eq (t : Fin cfg0.N) (hf : (cfg0.win 8).flush t = true) :
    (dats m 0 c).flushed 8 t = ((cfg0.win 8).blk t).view.read (Elt Ideal) (valY m c) := by
  obtain ⟨h0, h1, -⟩ := geomO t
  show (cfg0.win 8).cut (grid0.coords t) ((dats m 0 c).after 8 t) = _
  rw [after0_8]
  funext y
  obtain ⟨r, j, rfl⟩ : ∃ (r : Fin 512) (j : Fin 1024), y = ix2 r j := ⟨y 0, y 1, eq_ix2 y⟩
  refine (resY_apply m c t r j).trans ?_
  rw [View.read_apply]
  have he : ((cfg0.win 8).blk t).view.emb (ix2 r j) = (ix2 r j : S512x1024.Idx) := by
    funext a
    apply Fin.ext
    match a with
    | ⟨0, _⟩ => show win0_8.index t 0 * 512 + 1 * r.val = r.val; rw [h0]; omega
    | ⟨1, _⟩ => show win0_8.index t 1 * 1024 + 1 * j.val = j.val; rw [h1]; omega
  show _ = valY m c (((cfg0.win 8).blk t).view.emb (ix2 r j))
  rw [he]

theorem cover8 (i : S512x1024.Idx) : ∃ t : Fin cfg0.N, (cfg0.win 8).flush t = true ∧ i ∈ ((cfg0.win 8).blk t).view.set := by
  have hi : (i 0).val < 512 := (i 0).isLt
  have hj : (i 1).val < 1024 := (i 1).isLt
  have ht : 3 < grid0.N := by rw [N_0]; omega
  obtain ⟨h0, h1, -⟩ := geomO ⟨3, ht⟩
  refine ⟨⟨3, ht⟩, (flush0_8 _).mpr rfl, ?_⟩
  show i ∈ ((View.whole main_v18_0).slice (win0_8.rect ⟨3, ht⟩)).set
  rw [View.set_slice_whole, Rect.mem_set_unit]
  intro a
  match a with
  | ⟨0, _⟩ =>
    show win0_8.index ⟨3, ht⟩ 0 * 512 ≤ (i 0).val ∧ (i 0).val < win0_8.index ⟨3, ht⟩ 0 * 512 + 512
    rw [h0]; omega
  | ⟨1, _⟩ =>
    show win0_8.index ⟨3, ht⟩ 1 * 1024 ≤ (i 1).val ∧ (i 1).val < win0_8.index ⟨3, ht⟩ 1 * 1024 + 1024
    rw [h1]; omega

theorem final8 : (dats m 0 c).arrAt 8 cfg0.N = valY m c :=
  (dats m 0 c).arrAt_eq_of_cover 8 (valY m c) (flushed8_eq m c) cover8

theorem flushed9_eq (t : Fin cfg0.N) (hf : (cfg0.win 9).flush t = true) :
    (dats m 0 c).flushed 9 t = ((cfg0.win 9).blk t).view.read (Elt Ideal) (valU m c) := by
  obtain ⟨-, -, h0, h1⟩ := geomO t
  show (cfg0.win 9).cut (grid0.coords t) ((dats m 0 c).after 9 t) = _
  rw [after0_9]
  funext y
  obtain ⟨r, j, rfl⟩ : ∃ (r : Fin 512) (j : Fin 1024), y = ix2 r j := ⟨y 0, y 1, eq_ix2 y⟩
  refine (resU_apply m c r j).trans ?_
  rw [View.read_apply]
  have he : ((cfg0.win 9).blk t).view.emb (ix2 r j) = (ix2 r j : S512x1024.Idx) := by
    funext a
    apply Fin.ext
    match a with
    | ⟨0, _⟩ => show win0_9.index t 0 * 512 + 1 * r.val = r.val; rw [h0]; omega
    | ⟨1, _⟩ => show win0_9.index t 1 * 1024 + 1 * j.val = j.val; rw [h1]; omega
  show _ = valU m c (((cfg0.win 9).blk t).view.emb (ix2 r j))
  rw [he]

theorem cover9 (i : S512x1024.Idx) : ∃ t : Fin cfg0.N, (cfg0.win 9).flush t = true ∧ i ∈ ((cfg0.win 9).blk t).view.set := by
  have hi : (i 0).val < 512 := (i 0).isLt
  have hj : (i 1).val < 1024 := (i 1).isLt
  have ht : 3 < grid0.N := by rw [N_0]; omega
  obtain ⟨-, -, h0, h1⟩ := geomO ⟨3, ht⟩
  refine ⟨⟨3, ht⟩, (flush0_9 _).mpr rfl, ?_⟩
  show i ∈ ((View.whole main_v18_1).slice (win0_9.rect ⟨3, ht⟩)).set
  rw [View.set_slice_whole, Rect.mem_set_unit]
  intro a
  match a with
  | ⟨0, _⟩ =>
    show win0_9.index ⟨3, ht⟩ 0 * 512 ≤ (i 0).val ∧ (i 0).val < win0_9.index ⟨3, ht⟩ 0 * 512 + 512
    rw [h0]; omega
  | ⟨1, _⟩ =>
    show win0_9.index ⟨3, ht⟩ 1 * 1024 ≤ (i 1).val ∧ (i 1).val < win0_9.index ⟨3, ht⟩ 1 * 1024 + 1024
    rw [h1]; omega

theorem final9 : (dats m 0 c).arrAt 9 cfg0.N = valU m c :=
  (dats m 0 c).arrAt_eq_of_cover 9 (valU m c) (flushed9_eq m c) cover9

/-- The run with its two results named and its arguments kept. -/
theorem run_vals : θ_run defs (onTc (τ := τ) (main (F := Ideal))) ⟨m, fun _ => 0, ρ⟩ fun r => ∀ c : Dev nD,
    r.2.mem ((c : Thread nD τ).loc main_v18_0) = valY m c
      ∧ r.2.mem ((c : Thread nD τ).loc main_v18_1) = valU m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 8).trans (final8 m c), ((h c).1 9).trans (final9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.TailIdeal.Hand

namespace Cert.TailValue

open Cert.Reads

/-- The mask's rows are those of each sequence's last two tokens. -/
theorem mask_word : ∀ r : Fin 512, IntOp.cmpi .sge (IntOp.remsi .host (BitVec.ofNat 32 r.val) 4#32) 2#32 = 1#1 → 2 ≤ r.val % 4 := by
  decide +kernel

theorem algebraic : Cert.algebraic_TailIdeal_TailRefIdeal_on_state_rows := fun m ρ m' ρ' _ hag =>
  ⟨fun c => Cert.TailIdeal.Hand.valY m c, fun c => Cert.TailIdeal.Hand.valU m c,
    (θ_run _ _ _).mono (fun r h c => ⟨fun i _ => congrFun (h c).1 i, fun i _ => congrFun (h c).2.1 i, (h c).2.2⟩)
      (Cert.TailIdeal.Hand.run_vals m ρ),
    (θ_run _ _ _).mono (fun _ h c => by
      obtain ⟨a0, a1, a2, a3, a4, a5, a6⟩ := hag c
      refine ⟨fun i _ => ?_, fun i hi => ?_, (h c).2.2⟩
      · rw [(h c).1, Cert.TailRefIdeal.Hand.res_y, a0, a1, a2, a3, a4, a5, a6]
      · obtain ⟨r, j, rfl⟩ : ∃ (r : Fin 512) (j : Fin 1024), i = ix2 r j := ⟨i 0, i 1, eq_ix2 i⟩
        refine (congrFun (h c).2.1 (ix2 r j)).trans ((Cert.TailRefIdeal.Hand.res_s _ _ _ r j (mask_word r hi)).trans ?_)
        rw [a0, a2])
      (Cert.TailRefIdeal.Value.run m' ρ')⟩

end Cert.TailValue
end
-- ==== Proof.lean ====
/- The claims, each from its module: the frames from the generated launches (that of the sample's convolution layer from the
   module on its grid), the references' frames from their runs, and the value claims from the modules on the two perceptrons,
   the two short convolutions and the gated linear attention of the sample. -/
module

public import proofs.«01_k».proof.Defs
public import proofs.«01_k».proof.Proof.MlpValue
public import proofs.«01_k».proof.Proof.ConvValue
public import proofs.«01_k».proof.Proof.SampleValue
public import proofs.«01_k».proof.Proof.StreamValue
public import proofs.«01_k».proof.Proof.TailBits
public import proofs.«01_k».proof.Proof.TailValue
public import proofs.«01_k».proof.Proof.Gen.On_state_rows
public import proofs.«01_k».proof.Proof.Gen.Mlp.Frame
public import proofs.«01_k».proof.Proof.Gen.MlpIdeal.Frame
public import proofs.«01_k».proof.Proof.Gen.MlpRefIdeal.Run
public import proofs.«01_k».proof.Proof.Gen.Sample.Frame
public import proofs.«01_k».proof.Proof.Gen.SampleIdeal.Frame
public import proofs.«01_k».proof.Proof.Gen.SampleRefIdeal.Run
public import proofs.«01_k».proof.Proof.Gen.Conv.Frame
public import proofs.«01_k».proof.Proof.Gen.ConvIdeal.Frame
public import proofs.«01_k».proof.Proof.Gen.ConvRefIdeal.Run
public import proofs.«01_k».proof.Proof.Gen.Stream.Frame
public import proofs.«01_k».proof.Proof.Gen.StreamIdeal.Frame
public import proofs.«01_k».proof.Proof.Gen.StreamRefIdeal.Run
public import proofs.«01_k».proof.Proof.Gen.Tail
public import proofs.«01_k».proof.Proof.Gen.TailIdeal.Frame
public import proofs.«01_k».proof.Proof.Gen.TailIdeal.Skeleton
public import proofs.«01_k».proof.Proof.Gen.TailRefIdeal.Run

@[expose] public section

noncomputable section

namespace Cert.Proof

open Idealize.ShloMosaic Idealize.SL.Sem

/-- The reference declares no semaphore and keeps its arguments. -/
theorem frame_MlpRef : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- The reference declares no semaphore and keeps its arguments. -/
theorem frame_SampleRef : Cert.quiescent_SampleRefIdeal := fun m ρ _ =>
  (θ_run Cert.SampleRefIdeal.defs _ _).mono (fun r h => ⟨fun c => (h c).2.2, sem_eq_zero_of_no_sems (by decide) r.2⟩)
    (Cert.SampleRefIdeal.Value.run (F := Ideal) m ρ)

/-- The reference declares no semaphore and keeps its arguments. -/
theorem frame_ConvRef : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

/-- The reference declares no semaphore and keeps its arguments. -/
theorem frame_StreamRef : Cert.quiescent_StreamRefIdeal := fun m ρ _ =>
  (θ_run Cert.StreamRefIdeal.defs _ _).mono (fun r h => ⟨fun c => (h c).2, sem_eq_zero_of_no_sems (by decide) r.2⟩)
    (Cert.StreamRefIdeal.Value.run (F := Ideal) m ρ)

/-- The reference declares no semaphore and keeps its arguments. -/
theorem frame_TailRef : Cert.quiescent_TailRefIdeal := fun m ρ _ =>
  (θ_run Cert.TailRefIdeal.defs _ _).mono (fun r h => ⟨fun c => (h c).2.2, sem_eq_zero_of_no_sems (by decide) r.2⟩)
    (Cert.TailRefIdeal.Value.run (F := Ideal) m ρ)

theorem claim : Cert.Claim :=
  ⟨Cert.Mlp.Gen.facts, Cert.MlpIdeal.Gen.facts, Cert.MlpRefIdeal.Gen.facts, Cert.Sample.Gen.facts, Cert.SampleIdeal.Gen.facts, Cert.SampleRefIdeal.Gen.facts, Cert.Conv.Gen.facts, Cert.ConvIdeal.Gen.facts, Cert.ConvRefIdeal.Gen.facts, Cert.Stream.Gen.facts, Cert.StreamIdeal.Gen.facts, Cert.StreamRefIdeal.Gen.facts, Cert.Tail.Gen.facts, Cert.TailIdeal.Gen.facts, Cert.TailRefIdeal.Gen.facts, Cert.On_token_rows.Gen.facts, Cert.On_state_rows.Gen.facts,
    fun m ρ _ => Cert.Mlp.Gen.frame m ρ,
    fun m ρ _ => Cert.MlpIdeal.Gen.frame m ρ,
    frame_MlpRef,
    fun m ρ _ => Cert.Sample.Gen.frame m ρ,
    fun m ρ _ => Cert.SampleIdeal.Gen.frame m ρ,
    frame_SampleRef,
    fun m ρ _ => Cert.Conv.Gen.frame m ρ,
    fun m ρ _ => Cert.ConvIdeal.Gen.frame m ρ,
    frame_ConvRef,
    fun m ρ _ => Cert.Stream.Gen.frame m ρ,
    fun m ρ _ => Cert.StreamIdeal.Gen.frame m ρ,
    frame_StreamRef,
    Cert.Tail.Hand.frame,
    fun m ρ _ => Cert.TailIdeal.Hand.frame m ρ,
    frame_TailRef,
    trivial,
    Cert.MlpValue.algebraic,
    trivial,
    Cert.SampleValue.algebraic,
    trivial,
    Cert.ConvValue.algebraic,
    trivial,
    Cert.StreamValue.algebraic,
    trivial,
    Cert.TailValue.algebraic⟩

end Cert.Proof

end
